-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v340) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16384x3072 : Shape := ⟨2, ![16384, 3072]⟩
abbrev S32x8 : Shape := ⟨2, ![32, 8]⟩
abbrev S3x128x256 : Shape := ⟨3, ![3, 128, 256]⟩
abbrev S_ : Shape := ⟨0, ![]⟩
abbrev S16384x14848 : Shape := ⟨2, ![16384, 14848]⟩
abbrev S16384x1024 : Shape := ⟨2, ![16384, 1024]⟩
abbrev S2048x128 : Shape := ⟨2, ![2048, 128]⟩
abbrev S4096x128 : Shape := ⟨2, ![4096, 128]⟩
abbrev S3x2048x128 : Shape := ⟨3, ![3, 2048, 128]⟩
abbrev S1x128x256 : Shape := ⟨3, ![1, 128, 256]⟩
abbrev S128x256 : Shape := ⟨2, ![128, 256]⟩
abbrev S1x1 : Shape := ⟨2, ![1, 1]⟩
abbrev S1x128 : Shape := ⟨2, ![1, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩
abbrev S1x2048x128 : Shape := ⟨3, ![1, 2048, 128]⟩

abbrev nBuf : Space → Nat
  | .hbm => 7
  | .vmem => 19
  | .smem => 1
  | _ => 0

abbrev bufTy : (tb : Table) → Fin (tcTables nBuf tb) → BufTy
  | .hbm, ⟨0, _⟩ => ⟨S16384x3072, .f32⟩
  | .hbm, ⟨1, _⟩ => ⟨S32x8, .f32⟩
  | .hbm, ⟨2, _⟩ => ⟨S3x128x256, .i32⟩
  | .hbm, ⟨3, _⟩ => ⟨S_, .i32⟩
  | .hbm, ⟨4, _⟩ => ⟨S_, .f32⟩
  | .hbm, ⟨5, _⟩ => ⟨S16384x14848, .f32⟩
  | .hbm, ⟨6, _⟩ => ⟨S16384x1024, .bf16⟩
  | .local _ .vmem, ⟨0, _⟩ => ⟨S3x128x256, .i32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | .local _ .vmem, ⟨13, _⟩ => ⟨S3x128x256, .f32⟩
  | .local _ .vmem, ⟨14, _⟩ => ⟨S4096x128, .f32⟩
  | .local _ .vmem, ⟨15, _⟩ => ⟨S4096x128, .f32⟩
  | .local _ .vmem, ⟨16, _⟩ => ⟨S3x2048x128, .f32⟩
  | .local _ .vmem, ⟨17, _⟩ => ⟨S3x2048x128, .f32⟩
  | .local _ .vmem, ⟨18, _⟩ => ⟨S3x2048x128, .f32⟩
  | .local _ .smem, ⟨0, _⟩ => ⟨S32x8, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_1018 : Index := 0#32
  let arg0 : BitVec 32 := BitVec.ofNat 32 (i 0).val
  let v1872 : Index := Scalar.indexCast arg0
  ![0, v1872.toNat]
def k0_off2 (i : grid0.Coords) : Fin 2 → Nat :=
  let c1_1019 : Index := 1#32
  let arg0 : BitVec 32 := BitVec.ofNat 32 (i 0).val
  let v1878 : Index := Scalar.indexCast arg0
  ![1, v1878.toNat]
def k0_off3 (i : grid0.Coords) : Fin 2 → Nat :=
  let c2_1020 : Index := 2#32
  let arg0 : BitVec 32 := BitVec.ofNat 32 (i 0).val
  let v1884 : Index := Scalar.indexCast arg0
  ![2, v1884.toNat]
def k0_off4 (i : grid0.Coords) : Fin 2 → Nat :=
  let c3_1021 : Index := 3#32
  let arg0 : BitVec 32 := BitVec.ofNat 32 (i 0).val
  let v1890 : Index := Scalar.indexCast arg0
  ![3, v1890.toNat]
def k0_off5 (i : grid0.Coords) : Fin 2 → Nat :=
  let c4_1022 : Index := 4#32
  let arg0 : BitVec 32 := BitVec.ofNat 32 (i 0).val
  let v1896 : Index := Scalar.indexCast arg0
  ![4, v1896.toNat]
def k0_off6 (i : grid0.Coords) : Fin 2 → Nat :=
  let c5_1023 : Index := 5#32
  let arg0 : BitVec 32 := BitVec.ofNat 32 (i 0).val
  let v1902 : Index := Scalar.indexCast arg0
  ![5, v1902.toNat]
def k0_off7 (i : grid0.Coords) : Fin 2 → Nat :=
  let c6_1024 : Index := 6#32
  let arg0 : BitVec 32 := BitVec.ofNat 32 (i 0).val
  let v1908 : Index := Scalar.indexCast arg0
  ![6, v1908.toNat]
def k0_off8 (i : grid0.Coords) : Fin 2 → Nat :=
  let c7_1025 : Index := 7#32
  let arg0 : BitVec 32 := BitVec.ofNat 32 (i 0).val
  let v1914 : Index := Scalar.indexCast arg0
  ![7, v1914.toNat]
def k0_off9 (i : grid0.Coords) : Fin 2 → Nat :=
  let c8_1026 : Index := 8#32
  let arg0 : BitVec 32 := BitVec.ofNat 32 (i 0).val
  let v1920 : Index := Scalar.indexCast arg0
  ![8, v1920.toNat]
def k0_off10 (i : grid0.Coords) : Fin 2 → Nat :=
  let c9_1027 : Index := 9#32
  let arg0 : BitVec 32 := BitVec.ofNat 32 (i 0).val
  let v1926 : Index := Scalar.indexCast arg0
  ![9, v1926.toNat]
def k0_off11 (i : grid0.Coords) : Fin 2 → Nat :=
  let c10_1028 : Index := 10#32
  let arg0 : BitVec 32 := BitVec.ofNat 32 (i 0).val
  let v1932 : Index := Scalar.indexCast arg0
  ![10, v1932.toNat]
def k0_off12 (i : grid0.Coords) : Fin 2 → Nat :=
  let c11_1029 : Index := 11#32
  let arg0 : BitVec 32 := BitVec.ofNat 32 (i 0).val
  let v1938 : Index := Scalar.indexCast arg0
  ![11, v1938.toNat]
def k0_off13 (i : grid0.Coords) : Fin 2 → Nat :=
  let c12_1030 : Index := 12#32
  let arg0 : BitVec 32 := BitVec.ofNat 32 (i 0).val
  let v1944 : Index := Scalar.indexCast arg0
  ![12, v1944.toNat]
def k0_off14 (i : grid0.Coords) : Fin 2 → Nat :=
  let c13_1031 : Index := 13#32
  let arg0 : BitVec 32 := BitVec.ofNat 32 (i 0).val
  let v1950 : Index := Scalar.indexCast arg0
  ![13, v1950.toNat]
def k0_off15 (i : grid0.Coords) : Fin 2 → Nat :=
  let c14_1032 : Index := 14#32
  let arg0 : BitVec 32 := BitVec.ofNat 32 (i 0).val
  let v1956 : Index := Scalar.indexCast arg0
  ![14, v1956.toNat]
def k0_off16 (i : grid0.Coords) : Fin 2 → Nat :=
  let c15_1033 : Index := 15#32
  let arg0 : BitVec 32 := BitVec.ofNat 32 (i 0).val
  let v1962 : Index := Scalar.indexCast arg0
  ![15, v1962.toNat]
def k0_off17 (i : grid0.Coords) : Fin 2 → Nat :=
  let c16 : Index := 16#32
  let arg0 : BitVec 32 := BitVec.ofNat 32 (i 0).val
  let v1968 : Index := Scalar.indexCast arg0
  ![16, v1968.toNat]
def k0_off18 (i : grid0.Coords) : Fin 2 → Nat :=
  let c17 : Index := 17#32
  let arg0 : BitVec 32 := BitVec.ofNat 32 (i 0).val
  let v1974 : Index := Scalar.indexCast arg0
  ![17, v1974.toNat]
def k0_off19 (i : grid0.Coords) : Fin 2 → Nat :=
  let c18 : Index := 18#32
  let arg0 : BitVec 32 := BitVec.ofNat 32 (i 0).val
  let v1980 : Index := Scalar.indexCast arg0
  ![18, v1980.toNat]
def k0_off20 (i : grid0.Coords) : Fin 2 → Nat :=
  let c19 : Index := 19#32
  let arg0 : BitVec 32 := BitVec.ofNat 32 (i 0).val
  let v1986 : Index := Scalar.indexCast arg0
  ![19, v1986.toNat]
def k0_off21 (i : grid0.Coords) : Fin 2 → Nat :=
  let c20 : Index := 20#32
  let arg0 : BitVec 32 := BitVec.ofNat 32 (i 0).val
  let v1992 : Index := Scalar.indexCast arg0
  ![20, v1992.toNat]
def k0_off22 (i : grid0.Coords) : Fin 2 → Nat :=
  let c21 : Index := 21#32
  let arg0 : BitVec 32 := BitVec.ofNat 32 (i 0).val
  let v1998 : Index := Scalar.indexCast arg0
  ![21, v1998.toNat]
def k0_off23 (i : grid0.Coords) : Fin 2 → Nat :=
  let c22 : Index := 22#32
  let arg0 : BitVec 32 := BitVec.ofNat 32 (i 0).val
  let v2004 : Index := Scalar.indexCast arg0
  ![22, v2004.toNat]
def k0_off24 (i : grid0.Coords) : Fin 2 → Nat :=
  let c23 : Index := 23#32
  let arg0 : BitVec 32 := BitVec.ofNat 32 (i 0).val
  let v2010 : Index := Scalar.indexCast arg0
  ![23, v2010.toNat]
def k0_off25 (i : grid0.Coords) : Fin 2 → Nat :=
  let c24 : Index := 24#32
  let arg0 : BitVec 32 := BitVec.ofNat 32 (i 0).val
  let v2016 : Index := Scalar.indexCast arg0
  ![24, v2016.toNat]
def k0_off26 (i : grid0.Coords) : Fin 2 → Nat :=
  let c25 : Index := 25#32
  let arg0 : BitVec 32 := BitVec.ofNat 32 (i 0).val
  let v2022 : Index := Scalar.indexCast arg0
  ![25, v2022.toNat]
def k0_off27 (i : grid0.Coords) : Fin 2 → Nat :=
  let c26 : Index := 26#32
  let arg0 : BitVec 32 := BitVec.ofNat 32 (i 0).val
  let v2028 : Index := Scalar.indexCast arg0
  ![26, v2028.toNat]
def k0_off28 (i : grid0.Coords) : Fin 2 → Nat :=
  let c27 : Index := 27#32
  let arg0 : BitVec 32 := BitVec.ofNat 32 (i 0).val
  let v2034 : Index := Scalar.indexCast arg0
  ![27, v2034.toNat]
def k0_off29 (i : grid0.Coords) : Fin 2 → Nat :=
  let c28 : Index := 28#32
  let arg0 : BitVec 32 := BitVec.ofNat 32 (i 0).val
  let v2040 : Index := Scalar.indexCast arg0
  ![28, v2040.toNat]
def k0_off30 (i : grid0.Coords) : Fin 2 → Nat :=
  let c29 : Index := 29#32
  let arg0 : BitVec 32 := BitVec.ofNat 32 (i 0).val
  let v2046 : Index := Scalar.indexCast arg0
  ![29, v2046.toNat]
def k0_off31 (i : grid0.Coords) : Fin 2 → Nat :=
  let c30 : Index := 30#32
  let arg0 : BitVec 32 := BitVec.ofNat 32 (i 0).val
  let v2052 : Index := Scalar.indexCast arg0
  ![30, v2052.toNat]
def k0_off32 (i : grid0.Coords) : Fin 2 → Nat :=
  let c31 : Index := 31#32
  let arg0 : BitVec 32 := BitVec.ofNat 32 (i 0).val
  let v2058 : Index := Scalar.indexCast arg0
  ![31, v2058.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.addi c49_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c57_i32 : BitVec 32 := 57#32
  let v0 : BitVec 32 := Scalar.addi c57_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c57_i32 : BitVec 32 := 57#32
  let v2 : BitVec 32 := Scalar.addi c57_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.addi c65_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c65_i32 : BitVec 32 := 65#32
  let v2 : BitVec 32 := Scalar.addi c65_i32 arg0
  let c0_i32_0 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x3072 : Shape := ⟨2, ![16384, 3072]⟩
abbrev S32x8 : Shape := ⟨2, ![32, 8]⟩
abbrev S16384x1024 : Shape := ⟨2, ![16384, 1024]⟩
abbrev S16384x8x128 : Shape := ⟨3, ![16384, 8, 128]⟩
abbrev S_ : Shape := ⟨0, ![]⟩
abbrev S16384x1x8x128 : Shape := ⟨4, ![16384, 1, 8, 128]⟩
abbrev S1x16384x8x128 : Shape := ⟨4, ![1, 16384, 8, 128]⟩
abbrev S1x128x128x8x128 : Shape := ⟨5, ![1, 128, 128, 8, 128]⟩
abbrev S1x129x128x8x128 : Shape := ⟨5, ![1, 129, 128, 8, 128]⟩
abbrev S1x128x256x8x128 : Shape := ⟨5, ![1, 128, 256, 8, 128]⟩
abbrev S1x128x8x128x256 : Shape := ⟨5, ![1, 128, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S128x256x1 : Shape := ⟨3, ![128, 256, 1]⟩
abbrev S128x256x8 : Shape := ⟨3, ![128, 256, 8]⟩
abbrev S8x128x256 : Shape := ⟨3, ![8, 128, 256]⟩
abbrev S1x128x1x128x256 : Shape := ⟨5, ![1, 128, 1, 128, 256]⟩
abbrev S1x1x8x128x256 : Shape := ⟨5, ![1, 1, 8, 128, 256]⟩
abbrev S1x128x8x128 : Shape := ⟨4, ![1, 128, 8, 128]⟩
abbrev S1x128x8x128x1 : Shape := ⟨5, ![1, 128, 8, 128, 1]⟩
abbrev S1x128x8x128x128 : Shape := ⟨5, ![1, 128, 8, 128, 128]⟩
abbrev S1x128x128x8 : Shape := ⟨4, ![1, 128, 128, 8]⟩
abbrev S1x16384x8 : Shape := ⟨3, ![1, 16384, 8]⟩
abbrev S16384x1x8 : Shape := ⟨3, ![16384, 1, 8]⟩
abbrev S16384x8 : Shape := ⟨2, ![16384, 8]⟩
abbrev S4096x4x8x128 : Shape := ⟨4, ![4096, 4, 8, 128]⟩
abbrev S4x4096x8x128 : Shape := ⟨4, ![4, 4096, 8, 128]⟩
abbrev S4x32x128x8x128 : Shape := ⟨5, ![4, 32, 128, 8, 128]⟩
abbrev S4x33x128x8x128 : Shape := ⟨5, ![4, 33, 128, 8, 128]⟩
abbrev S4x32x256x8x128 : Shape := ⟨5, ![4, 32, 256, 8, 128]⟩
abbrev S4x32x8x128x256 : Shape := ⟨5, ![4, 32, 8, 128, 256]⟩
abbrev S32 : Shape := ⟨1, ![32]⟩
abbrev S32x1x1 : Shape := ⟨3, ![32, 1, 1]⟩
abbrev S32x1x256 : Shape := ⟨3, ![32, 1, 256]⟩
abbrev S32x128x256 : Shape := ⟨3, ![32, 128, 256]⟩
abbrev S1x32x1x128x256 : Shape := ⟨5, ![1, 32, 1, 128, 256]⟩
abbrev S4x32x8x128 : Shape := ⟨4, ![4, 32, 8, 128]⟩
abbrev S4x32x8x128x1 : Shape := ⟨5, ![4, 32, 8, 128, 1]⟩
abbrev S4x32x8x128x128 : Shape := ⟨5, ![4, 32, 8, 128, 128]⟩
abbrev S4x32x128x8 : Shape := ⟨4, ![4, 32, 128, 8]⟩
abbrev S4x4096x8 : Shape := ⟨3, ![4, 4096, 8]⟩
abbrev S4096x4x8 : Shape := ⟨3, ![4096, 4, 8]⟩
abbrev S1024x16x8x128 : Shape := ⟨4, ![1024, 16, 8, 128]⟩
abbrev S16x1024x8x128 : Shape := ⟨4, ![16, 1024, 8, 128]⟩
abbrev S16x8x128x8x128 : Shape := ⟨5, ![16, 8, 128, 8, 128]⟩
abbrev S16x9x128x8x128 : Shape := ⟨5, ![16, 9, 128, 8, 128]⟩
abbrev S16x8x256x8x128 : Shape := ⟨5, ![16, 8, 256, 8, 128]⟩
abbrev S16x8x8x128x256 : Shape := ⟨5, ![16, 8, 8, 128, 256]⟩
abbrev S8 : Shape := ⟨1, ![8]⟩
abbrev S8x1x1 : Shape := ⟨3, ![8, 1, 1]⟩
abbrev S8x1x256 : Shape := ⟨3, ![8, 1, 256]⟩
abbrev S1x8x1x128x256 : Shape := ⟨5, ![1, 8, 1, 128, 256]⟩
abbrev S16x8x8x128 : Shape := ⟨4, ![16, 8, 8, 128]⟩
abbrev S16x8x8x128x1 : Shape := ⟨5, ![16, 8, 8, 128, 1]⟩
abbrev S16x8x8x128x128 : Shape := ⟨5, ![16, 8, 8, 128, 128]⟩
abbrev S16x8x128x8 : Shape := ⟨4, ![16, 8, 128, 8]⟩
abbrev S16x1024x8 : Shape := ⟨3, ![16, 1024, 8]⟩
abbrev S1024x16x8 : Shape := ⟨3, ![1024, 16, 8]⟩
abbrev S3x16384x8 : Shape := ⟨3, ![3, 16384, 8]⟩
abbrev S16384x8x1 : Shape := ⟨3, ![16384, 8, 1]⟩

abbrev nBuf : Space → Nat
  | .hbm => 425
  | .vmem => 0
  | .smem => 0
  | _ => 0

abbrev hbmTy0_0 (i : Nat) : BufTy := match i % 128 with
  | 0 => ⟨S16384x3072, .f32⟩
  | 1 => ⟨S32x8, .f32⟩
  | 2 => ⟨S16384x1024, .f32⟩
  | 3 => ⟨S16384x1024, .f32⟩
  | 4 => ⟨S16384x1024, .f32⟩
  | 5 => ⟨S16384x8x128, .f32⟩
  | 6 => ⟨S16384x8x128, .f32⟩
  | 7 => ⟨S16384x8x128, .f32⟩
  | 8 => ⟨S_, .f32⟩
  | 9 => ⟨S16384x8x128, .f32⟩
  | 10 => ⟨S16384x8x128, .f32⟩
  | 11 => ⟨S16384x1x8x128, .f32⟩
  | 12 => ⟨S1x16384x8x128, .f32⟩
  | 13 => ⟨S1x128x128x8x128, .f32⟩
  | 14 => ⟨S16384x1x8x128, .f32⟩
  | 15 => ⟨S1x16384x8x128, .f32⟩
  | 16 => ⟨S1x128x128x8x128, .f32⟩
  | 17 => ⟨S_, .i32⟩
  | 18 => ⟨S_, .f32⟩
  | 19 => ⟨S1x129x128x8x128, .f32⟩
  | 20 => ⟨S1x128x128x8x128, .f32⟩
  | 21 => ⟨S1x128x256x8x128, .f32⟩
  | 22 => ⟨S16384x1x8x128, .f32⟩
  | 23 => ⟨S1x16384x8x128, .f32⟩
  | 24 => ⟨S1x128x128x8x128, .f32⟩
  | 25 => ⟨S_, .i32⟩
  | 26 => ⟨S_, .f32⟩
  | 27 => ⟨S1x129x128x8x128, .f32⟩
  | 28 => ⟨S1x128x128x8x128, .f32⟩
  | 29 => ⟨S1x128x256x8x128, .f32⟩
  | 30 => ⟨S1x128x8x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S128, .i32⟩
  | 49 => ⟨S_, .i32⟩
  | 50 => ⟨S128, .i32⟩
  | 51 => ⟨S128, .i1⟩
  | 52 => ⟨S128x1x1, .i1⟩
  | 53 => ⟨S1x128x256, .i1⟩
  | 54 => ⟨S_, .i32⟩
  | 55 => ⟨S1x256, .i32⟩
  | 56 => ⟨S1x256, .i1⟩
  | 57 => ⟨S1x1x256, .i1⟩
  | 58 => ⟨S128x1x256, .i1⟩
  | 59 => ⟨S128x1x256, .i1⟩
  | 60 => ⟨S128x1x256, .i1⟩
  | 61 => ⟨S128x1x256, .i1⟩
  | 62 => ⟨S128x128x256, .i1⟩
  | 63 => ⟨S128x128x256, .i1⟩
  | 64 => ⟨S128x128x256, .i1⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i32⟩
  | 74 => ⟨S128x256, .f32⟩
  | 75 => ⟨S_, .f32⟩
  | 76 => ⟨S128x256, .f32⟩
  | 77 => ⟨S128x256, .f32⟩
  | 78 => ⟨S128x256, .f32⟩
  | 79 => ⟨S_, .f32⟩
  | 80 => ⟨S128x256, .f32⟩
  | 81 => ⟨S128x256, .f32⟩
  | 82 => ⟨S_, .f32⟩
  | 83 => ⟨S128x256, .f32⟩
  | 84 => ⟨S128x256, .f32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i32⟩
  | 95 => ⟨S128x256, .i32⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i32⟩
  | 102 => ⟨S128x256, .i32⟩
  | 103 => ⟨S128x256x1, .i32⟩
  | 104 => ⟨S128x256x8, .f32⟩
  | 105 => ⟨S8x128x256, .f32⟩
  | 106 => ⟨S1x128x1x128x256, .i1⟩
  | 107 => ⟨S1x1x8x128x256, .f32⟩
  | 108 => ⟨S1x128x8x128x256, .f32⟩
  | 109 => ⟨S1x128x8x128x256, .f32⟩
  | 110 => ⟨S_, .f32⟩
  | 111 => ⟨S_, .f32⟩
  | 112 => ⟨S1x128x8x128x256, .i1⟩
  | 113 => ⟨S1x128x8x128x256, .f32⟩
  | 114 => ⟨S1x128x8x128x256, .f32⟩
  | 115 => ⟨S_, .f32⟩
  | 116 => ⟨S1x128x8x128, .f32⟩
  | 117 => ⟨S1x128x8x128x1, .f32⟩
  | 118 => ⟨S1x128x8x128x256, .f32⟩
  | 119 => ⟨S1x128x8x128x256, .f32⟩
  | 120 => ⟨S1x128x8x128x256, .f32⟩
  | 121 => ⟨S_, .f32⟩
  | 122 => ⟨S1x128x8x128, .f32⟩
  | 123 => ⟨S1x128x8x128x128, .f32⟩
  | 124 => ⟨S1x128x128x8x128, .f32⟩
  | 125 => ⟨S1x16384x8x128, .f32⟩
  | 126 => ⟨S16384x1x8x128, .f32⟩
  | 127 => ⟨S16384x8x128, .f32⟩
  | _ => ⟨S16384x3072, .f32⟩

abbrev hbmTy0_1 (i : Nat) : BufTy := match i % 128 with
  | 0 => ⟨S1x128x128x8, .f32⟩
  | 1 => ⟨S1x16384x8, .f32⟩
  | 2 => ⟨S16384x1x8, .f32⟩
  | 3 => ⟨S16384x8, .f32⟩
  | 4 => ⟨S1x128x128x8, .f32⟩
  | 5 => ⟨S1x16384x8, .f32⟩
  | 6 => ⟨S16384x1x8, .f32⟩
  | 7 => ⟨S16384x8, .f32⟩
  | 8 => ⟨S4096x4x8x128, .f32⟩
  | 9 => ⟨S4x4096x8x128, .f32⟩
  | 10 => ⟨S4x32x128x8x128, .f32⟩
  | 11 => ⟨S4096x4x8x128, .f32⟩
  | 12 => ⟨S4x4096x8x128, .f32⟩
  | 13 => ⟨S4x32x128x8x128, .f32⟩
  | 14 => ⟨S_, .i32⟩
  | 15 => ⟨S_, .f32⟩
  | 16 => ⟨S4x33x128x8x128, .f32⟩
  | 17 => ⟨S4x32x128x8x128, .f32⟩
  | 18 => ⟨S4x32x256x8x128, .f32⟩
  | 19 => ⟨S4096x4x8x128, .f32⟩
  | 20 => ⟨S4x4096x8x128, .f32⟩
  | 21 => ⟨S4x32x128x8x128, .f32⟩
  | 22 => ⟨S_, .i32⟩
  | 23 => ⟨S_, .f32⟩
  | 24 => ⟨S4x33x128x8x128, .f32⟩
  | 25 => ⟨S4x32x128x8x128, .f32⟩
  | 26 => ⟨S4x32x256x8x128, .f32⟩
  | 27 => ⟨S4x32x8x128x256, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S32, .i32⟩
  | 46 => ⟨S_, .i32⟩
  | 47 => ⟨S32, .i32⟩
  | 48 => ⟨S32, .i1⟩
  | 49 => ⟨S32x1x1, .i1⟩
  | 50 => ⟨S1x128x256, .i1⟩
  | 51 => ⟨S_, .i32⟩
  | 52 => ⟨S1x256, .i32⟩
  | 53 => ⟨S1x256, .i1⟩
  | 54 => ⟨S1x1x256, .i1⟩
  | 55 => ⟨S32x1x256, .i1⟩
  | 56 => ⟨S32x1x256, .i1⟩
  | 57 => ⟨S32x1x256, .i1⟩
  | 58 => ⟨S32x1x256, .i1⟩
  | 59 => ⟨S32x128x256, .i1⟩
  | 60 => ⟨S32x128x256, .i1⟩
  | 61 => ⟨S32x128x256, .i1⟩
  | 62 => ⟨S_, .i32⟩
  | 63 => ⟨S128x256, .i32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S128x256, .f32⟩
  | 72 => ⟨S_, .f32⟩
  | 73 => ⟨S128x256, .f32⟩
  | 74 => ⟨S128x256, .f32⟩
  | 75 => ⟨S128x256, .f32⟩
  | 76 => ⟨S_, .f32⟩
  | 77 => ⟨S128x256, .f32⟩
  | 78 => ⟨S128x256, .f32⟩
  | 79 => ⟨S_, .f32⟩
  | 80 => ⟨S128x256, .f32⟩
  | 81 => ⟨S128x256, .f32⟩
  | 82 => ⟨S128x256, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i32⟩
  | 92 => ⟨S128x256, .i32⟩
  | 93 => ⟨S_, .i32⟩
  | 94 => ⟨S128x256, .i32⟩
  | 95 => ⟨S128x256, .i1⟩
  | 96 => ⟨S_, .i32⟩
  | 97 => ⟨S128x256, .i32⟩
  | 98 => ⟨S128x256, .i32⟩
  | 99 => ⟨S128x256, .i32⟩
  | 100 => ⟨S128x256x1, .i32⟩
  | 101 => ⟨S128x256x8, .f32⟩
  | 102 => ⟨S8x128x256, .f32⟩
  | 103 => ⟨S1x32x1x128x256, .i1⟩
  | 104 => ⟨S1x1x8x128x256, .f32⟩
  | 105 => ⟨S4x32x8x128x256, .f32⟩
  | 106 => ⟨S4x32x8x128x256, .f32⟩
  | 107 => ⟨S_, .f32⟩
  | 108 => ⟨S_, .f32⟩
  | 109 => ⟨S4x32x8x128x256, .i1⟩
  | 110 => ⟨S4x32x8x128x256, .f32⟩
  | 111 => ⟨S4x32x8x128x256, .f32⟩
  | 112 => ⟨S_, .f32⟩
  | 113 => ⟨S4x32x8x128, .f32⟩
  | 114 => ⟨S4x32x8x128x1, .f32⟩
  | 115 => ⟨S4x32x8x128x256, .f32⟩
  | 116 => ⟨S4x32x8x128x256, .f32⟩
  | 117 => ⟨S4x32x8x128x256, .f32⟩
  | 118 => ⟨S_, .f32⟩
  | 119 => ⟨S4x32x8x128, .f32⟩
  | 120 => ⟨S4x32x8x128x128, .f32⟩
  | 121 => ⟨S4x32x128x8x128, .f32⟩
  | 122 => ⟨S4x4096x8x128, .f32⟩
  | 123 => ⟨S4096x4x8x128, .f32⟩
  | 124 => ⟨S16384x8x128, .f32⟩
  | 125 => ⟨S4x32x128x8, .f32⟩
  | 126 => ⟨S4x4096x8, .f32⟩
  | 127 => ⟨S4096x4x8, .f32⟩
  | _ => ⟨S16384x3072, .f32⟩

abbrev hbmTy0_2 (i : Nat) : BufTy := match i % 128 with
  | 0 => ⟨S16384x8, .f32⟩
  | 1 => ⟨S4x32x128x8, .f32⟩
  | 2 => ⟨S4x4096x8, .f32⟩
  | 3 => ⟨S4096x4x8, .f32⟩
  | 4 => ⟨S16384x8, .f32⟩
  | 5 => ⟨S1024x16x8x128, .f32⟩
  | 6 => ⟨S16x1024x8x128, .f32⟩
  | 7 => ⟨S16x8x128x8x128, .f32⟩
  | 8 => ⟨S1024x16x8x128, .f32⟩
  | 9 => ⟨S16x1024x8x128, .f32⟩
  | 10 => ⟨S16x8x128x8x128, .f32⟩
  | 11 => ⟨S_, .i32⟩
  | 12 => ⟨S_, .f32⟩
  | 13 => ⟨S16x9x128x8x128, .f32⟩
  | 14 => ⟨S16x8x128x8x128, .f32⟩
  | 15 => ⟨S16x8x256x8x128, .f32⟩
  | 16 => ⟨S1024x16x8x128, .f32⟩
  | 17 => ⟨S16x1024x8x128, .f32⟩
  | 18 => ⟨S16x8x128x8x128, .f32⟩
  | 19 => ⟨S_, .i32⟩
  | 20 => ⟨S_, .f32⟩
  | 21 => ⟨S16x9x128x8x128, .f32⟩
  | 22 => ⟨S16x8x128x8x128, .f32⟩
  | 23 => ⟨S16x8x256x8x128, .f32⟩
  | 24 => ⟨S16x8x8x128x256, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S8, .i32⟩
  | 43 => ⟨S_, .i32⟩
  | 44 => ⟨S8, .i32⟩
  | 45 => ⟨S8, .i1⟩
  | 46 => ⟨S8x1x1, .i1⟩
  | 47 => ⟨S1x128x256, .i1⟩
  | 48 => ⟨S_, .i32⟩
  | 49 => ⟨S1x256, .i32⟩
  | 50 => ⟨S1x256, .i1⟩
  | 51 => ⟨S1x1x256, .i1⟩
  | 52 => ⟨S8x1x256, .i1⟩
  | 53 => ⟨S8x1x256, .i1⟩
  | 54 => ⟨S8x1x256, .i1⟩
  | 55 => ⟨S8x1x256, .i1⟩
  | 56 => ⟨S8x128x256, .i1⟩
  | 57 => ⟨S8x128x256, .i1⟩
  | 58 => ⟨S8x128x256, .i1⟩
  | 59 => ⟨S_, .i32⟩
  | 60 => ⟨S128x256, .i32⟩
  | 61 => ⟨S128x256, .i32⟩
  | 62 => ⟨S_, .i32⟩
  | 63 => ⟨S128x256, .i32⟩
  | 64 => ⟨S128x256, .i32⟩
  | 65 => ⟨S_, .i32⟩
  | 66 => ⟨S128x256, .i32⟩
  | 67 => ⟨S128x256, .i32⟩
  | 68 => ⟨S128x256, .f32⟩
  | 69 => ⟨S_, .f32⟩
  | 70 => ⟨S128x256, .f32⟩
  | 71 => ⟨S128x256, .f32⟩
  | 72 => ⟨S128x256, .f32⟩
  | 73 => ⟨S_, .f32⟩
  | 74 => ⟨S128x256, .f32⟩
  | 75 => ⟨S128x256, .f32⟩
  | 76 => ⟨S_, .f32⟩
  | 77 => ⟨S128x256, .f32⟩
  | 78 => ⟨S128x256, .f32⟩
  | 79 => ⟨S128x256, .i32⟩
  | 80 => ⟨S_, .i32⟩
  | 81 => ⟨S128x256, .i32⟩
  | 82 => ⟨S128x256, .i32⟩
  | 83 => ⟨S_, .i32⟩
  | 84 => ⟨S128x256, .i32⟩
  | 85 => ⟨S128x256, .i1⟩
  | 86 => ⟨S_, .i32⟩
  | 87 => ⟨S128x256, .i32⟩
  | 88 => ⟨S128x256, .i32⟩
  | 89 => ⟨S128x256, .i32⟩
  | 90 => ⟨S_, .i32⟩
  | 91 => ⟨S128x256, .i32⟩
  | 92 => ⟨S128x256, .i1⟩
  | 93 => ⟨S_, .i32⟩
  | 94 => ⟨S128x256, .i32⟩
  | 95 => ⟨S128x256, .i32⟩
  | 96 => ⟨S128x256, .i32⟩
  | 97 => ⟨S128x256x1, .i32⟩
  | 98 => ⟨S128x256x8, .f32⟩
  | 99 => ⟨S8x128x256, .f32⟩
  | 100 => ⟨S1x8x1x128x256, .i1⟩
  | 101 => ⟨S1x1x8x128x256, .f32⟩
  | 102 => ⟨S16x8x8x128x256, .f32⟩
  | 103 => ⟨S16x8x8x128x256, .f32⟩
  | 104 => ⟨S_, .f32⟩
  | 105 => ⟨S_, .f32⟩
  | 106 => ⟨S16x8x8x128x256, .i1⟩
  | 107 => ⟨S16x8x8x128x256, .f32⟩
  | 108 => ⟨S16x8x8x128x256, .f32⟩
  | 109 => ⟨S_, .f32⟩
  | 110 => ⟨S16x8x8x128, .f32⟩
  | 111 => ⟨S16x8x8x128x1, .f32⟩
  | 112 => ⟨S16x8x8x128x256, .f32⟩
  | 113 => ⟨S16x8x8x128x256, .f32⟩
  | 114 => ⟨S16x8x8x128x256, .f32⟩
  | 115 => ⟨S_, .f32⟩
  | 116 => ⟨S16x8x8x128, .f32⟩
  | 117 => ⟨S16x8x8x128x128, .f32⟩
  | 118 => ⟨S16x8x128x8x128, .f32⟩
  | 119 => ⟨S16x1024x8x128, .f32⟩
  | 120 => ⟨S1024x16x8x128, .f32⟩
  | 121 => ⟨S16384x8x128, .f32⟩
  | 122 => ⟨S16x8x128x8, .f32⟩
  | 123 => ⟨S16x1024x8, .f32⟩
  | 124 => ⟨S1024x16x8, .f32⟩
  | 125 => ⟨S16384x8, .f32⟩
  | 126 => ⟨S16x8x128x8, .f32⟩
  | 127 => ⟨S16x1024x8, .f32⟩
  | _ => ⟨S16384x3072, .f32⟩

abbrev hbmTy0_3 (i : Nat) : BufTy := match i % 128 with
  | 0 => ⟨S1024x16x8, .f32⟩
  | 1 => ⟨S16384x8, .f32⟩
  | 2 => ⟨S1x16384x8, .f32⟩
  | 3 => ⟨S1x16384x8, .f32⟩
  | 4 => ⟨S1x16384x8, .f32⟩
  | 5 => ⟨S3x16384x8, .f32⟩
  | 6 => ⟨S_, .f32⟩
  | 7 => ⟨S16384x8, .f32⟩
  | 8 => ⟨S_, .f32⟩
  | 9 => ⟨S16384x8x128, .f32⟩
  | 10 => ⟨S_, .f32⟩
  | 11 => ⟨S16384x8, .f32⟩
  | 12 => ⟨S16384x8, .f32⟩
  | 13 => ⟨S16384x8, .f32⟩
  | 14 => ⟨S16384x8x1, .f32⟩
  | 15 => ⟨S16384x8x128, .f32⟩
  | 16 => ⟨S16384x8x128, .f32⟩
  | 17 => ⟨S16384x8x128, .f32⟩
  | 18 => ⟨S16384x8, .f32⟩
  | 19 => ⟨S16384x8, .f32⟩
  | 20 => ⟨S16384x8, .f32⟩
  | 21 => ⟨S16384x8, .f32⟩
  | 22 => ⟨S16384x8x1, .f32⟩
  | 23 => ⟨S16384x8x128, .f32⟩
  | 24 => ⟨S16384x8x128, .f32⟩
  | 25 => ⟨S16384x8x128, .f32⟩
  | 26 => ⟨S16384x8, .f32⟩
  | 27 => ⟨S16384x8, .f32⟩
  | 28 => ⟨S16384x8, .f32⟩
  | 29 => ⟨S16384x8, .f32⟩
  | 30 => ⟨S16384x8x1, .f32⟩
  | 31 => ⟨S16384x8x128, .f32⟩
  | 32 => ⟨S16384x8x128, .f32⟩
  | 33 => ⟨S16384x8x128, .f32⟩
  | 34 => ⟨S16384x8, .f32⟩
  | 35 => ⟨S16384x8, .f32⟩
  | 36 => ⟨S16384x8x1, .f32⟩
  | 37 => ⟨S16384x8x128, .f32⟩
  | 38 => ⟨S16384x8x128, .f32⟩
  | 39 => ⟨S16384x1024, .f32⟩
  | 40 => ⟨S16384x1024, .bf16⟩
  | _ => ⟨S16384x3072, .f32⟩

abbrev hbmTy (i : Nat) : BufTy := match i / 128 with
  | 0 => hbmTy0_0 i
  | 1 => hbmTy0_1 i
  | 2 => hbmTy0_2 i
  | 3 => hbmTy0_3 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_6 : Ref sig .tc := ⟨.hbm, 65, rfl⟩
abbrev main_v53 : Ref sig .tc := ⟨.hbm, 66, rfl⟩
abbrev main_v54 : Ref sig .tc := ⟨.hbm, 67, rfl⟩
abbrev main_c_7 : Ref sig .tc := ⟨.hbm, 68, rfl⟩
abbrev main_v55 : Ref sig .tc := ⟨.hbm, 69, rfl⟩
abbrev main_v56 : Ref sig .tc := ⟨.hbm, 70, rfl⟩
abbrev main_c_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_12 : Ref sig .tc := ⟨.hbm, 86, rfl⟩
abbrev main_v68 : Ref sig .tc := ⟨.hbm, 87, rfl⟩
abbrev main_v69 : Ref sig .tc := ⟨.hbm, 88, rfl⟩
abbrev main_c_13 : Ref sig .tc := ⟨.hbm, 89, rfl⟩
abbrev main_v70 : Ref sig .tc := ⟨.hbm, 90, rfl⟩
abbrev main_v71 : Ref sig .tc := ⟨.hbm, 91, rfl⟩
abbrev main_c_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_15 : Ref sig .tc := ⟨.hbm, 96, rfl⟩
abbrev main_v75 : Ref sig .tc := ⟨.hbm, 97, rfl⟩
abbrev main_v76 : Ref sig .tc := ⟨.hbm, 98, rfl⟩
abbrev main_c_16 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_17 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v87 : Ref sig .tc := ⟨.hbm, 114, rfl⟩
abbrev main_cst_18 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_19 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_c_20 : Ref sig .tc := ⟨.hbm, 142, rfl⟩
abbrev main_call4_v0 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_21 : Ref sig .tc := ⟨.hbm, 150, rfl⟩
abbrev main_call5_v0 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_22 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_c_23 : Ref sig .tc := ⟨.hbm, 166, rfl⟩
abbrev main_v132 : Ref sig .tc := ⟨.hbm, 167, rfl⟩
abbrev main_v133 : Ref sig .tc := ⟨.hbm, 168, rfl⟩
abbrev main_c_24 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_c_25 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_c_26 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_c_27 : Ref sig .tc := ⟨.hbm, 190, rfl⟩
abbrev main_v152 : Ref sig .tc := ⟨.hbm, 191, rfl⟩
abbrev main_v153 : Ref sig .tc := ⟨.hbm, 192, rfl⟩
abbrev main_c_28 : Ref sig .tc := ⟨.hbm, 193, rfl⟩
abbrev main_v154 : Ref sig .tc := ⟨.hbm, 194, rfl⟩
abbrev main_v155 : Ref sig .tc := ⟨.hbm, 195, rfl⟩
abbrev main_c_29 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_30 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_31 : Ref sig .tc := ⟨.hbm, 204, rfl⟩
abbrev main_v162 : Ref sig .tc := ⟨.hbm, 205, rfl⟩
abbrev main_v163 : Ref sig .tc := ⟨.hbm, 206, rfl⟩
abbrev main_cst_32 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_c_33 : Ref sig .tc := ⟨.hbm, 211, rfl⟩
abbrev main_v167 : Ref sig .tc := ⟨.hbm, 212, rfl⟩
abbrev main_v168 : Ref sig .tc := ⟨.hbm, 213, rfl⟩
abbrev main_c_34 : Ref sig .tc := ⟨.hbm, 214, rfl⟩
abbrev main_v169 : Ref sig .tc := ⟨.hbm, 215, rfl⟩
abbrev main_v170 : Ref sig .tc := ⟨.hbm, 216, rfl⟩
abbrev main_c_35 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_c_36 : Ref sig .tc := ⟨.hbm, 221, rfl⟩
abbrev main_v174 : Ref sig .tc := ⟨.hbm, 222, rfl⟩
abbrev main_v175 : Ref sig .tc := ⟨.hbm, 223, rfl⟩
abbrev main_c_37 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_38 : Ref sig .tc := ⟨.hbm, 235, rfl⟩
abbrev main_call7_v0 : Ref sig .tc := ⟨.hbm, 236, rfl⟩
abbrev main_call7_v1 : Ref sig .tc := ⟨.hbm, 237, rfl⟩
abbrev main_call7_v2 : Ref sig .tc := ⟨.hbm, 238, rfl⟩
abbrev main_v186 : Ref sig .tc := ⟨.hbm, 239, rfl⟩
abbrev main_cst_39 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_40 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_c_41 : Ref sig .tc := ⟨.hbm, 267, rfl⟩
abbrev main_call8_v0 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_c_42 : Ref sig .tc := ⟨.hbm, 275, rfl⟩
abbrev main_call9_v0 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_c_43 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_c_44 : Ref sig .tc := ⟨.hbm, 291, rfl⟩
abbrev main_v231 : Ref sig .tc := ⟨.hbm, 292, rfl⟩
abbrev main_v232 : Ref sig .tc := ⟨.hbm, 293, rfl⟩
abbrev main_c_45 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_c_46 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_c_47 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_c_48 : Ref sig .tc := ⟨.hbm, 315, rfl⟩
abbrev main_v251 : Ref sig .tc := ⟨.hbm, 316, rfl⟩
abbrev main_v252 : Ref sig .tc := ⟨.hbm, 317, rfl⟩
abbrev main_c_49 : Ref sig .tc := ⟨.hbm, 318, rfl⟩
abbrev main_v253 : Ref sig .tc := ⟨.hbm, 319, rfl⟩
abbrev main_v254 : Ref sig .tc := ⟨.hbm, 320, rfl⟩
abbrev main_c_50 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_cst_51 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_cst_52 : Ref sig .tc := ⟨.hbm, 329, rfl⟩
abbrev main_v261 : Ref sig .tc := ⟨.hbm, 330, rfl⟩
abbrev main_v262 : Ref sig .tc := ⟨.hbm, 331, rfl⟩
abbrev main_cst_53 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_c_54 : Ref sig .tc := ⟨.hbm, 336, rfl⟩
abbrev main_v266 : Ref sig .tc := ⟨.hbm, 337, rfl⟩
abbrev main_v267 : Ref sig .tc := ⟨.hbm, 338, rfl⟩
abbrev main_c_55 : Ref sig .tc := ⟨.hbm, 339, rfl⟩
abbrev main_v268 : Ref sig .tc := ⟨.hbm, 340, rfl⟩
abbrev main_v269 : Ref sig .tc := ⟨.hbm, 341, rfl⟩
abbrev main_c_56 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_c_57 : Ref sig .tc := ⟨.hbm, 346, rfl⟩
abbrev main_v273 : Ref sig .tc := ⟨.hbm, 347, rfl⟩
abbrev main_v274 : Ref sig .tc := ⟨.hbm, 348, rfl⟩
abbrev main_c_58 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_cst_59 : Ref sig .tc := ⟨.hbm, 360, rfl⟩
abbrev main_call11_v0 : Ref sig .tc := ⟨.hbm, 361, rfl⟩
abbrev main_call11_v1 : Ref sig .tc := ⟨.hbm, 362, rfl⟩
abbrev main_call11_v2 : Ref sig .tc := ⟨.hbm, 363, rfl⟩
abbrev main_v285 : Ref sig .tc := ⟨.hbm, 364, rfl⟩
abbrev main_cst_60 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_cst_61 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_cst_62 : Ref sig .tc := ⟨.hbm, 390, rfl⟩
abbrev main_v309 : Ref sig .tc := ⟨.hbm, 391, rfl⟩
abbrev main_cst_63 : Ref sig .tc := ⟨.hbm, 392, rfl⟩
abbrev main_v310 : Ref sig .tc := ⟨.hbm, 393, rfl⟩
abbrev main_cst_64 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩

abbrev nD : Nat := 1
abbrev τ : Topo := Topo.v7x

variable {F : FTy → Type} [FloatOps F]
-- ==== Kernel2.lean ====
abbrev S16384x4096 : Shape := ⟨2, ![16384, 4096]⟩
abbrev S4096 : Shape := ⟨1, ![4096]⟩
abbrev S4096x11008 : Shape := ⟨2, ![4096, 11008]⟩
abbrev S3x11008 : Shape := ⟨2, ![3, 11008]⟩
abbrev S11008 : Shape := ⟨1, ![11008]⟩
abbrev S1x4096 : Shape := ⟨2, ![1, 4096]⟩
abbrev S1x11008 : Shape := ⟨2, ![1, 11008]⟩
abbrev S16384x11008 : Shape := ⟨2, ![16384, 11008]⟩
abbrev S1024x4096 : Shape := ⟨2, ![1024, 4096]⟩
abbrev S16x4096 : Shape := ⟨2, ![16, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S1040x4096 : Shape := ⟨2, ![1040, 4096]⟩
abbrev S16 : Shape := ⟨1, ![16]⟩
abbrev S16x1 : Shape := ⟨2, ![16, 1]⟩
abbrev S1040x256 : Shape := ⟨2, ![1040, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S3x11008, .f32⟩
  | .hbm, ⟨5, _⟩ => ⟨S11008, .f32⟩
  | .hbm, ⟨6, _⟩ => ⟨S4096x11008, .bf16⟩
  | .hbm, ⟨7, _⟩ => ⟨S4096x11008, .bf16⟩
  | .hbm, ⟨8, _⟩ => ⟨S1x4096, .f32⟩
  | .hbm, ⟨9, _⟩ => ⟨S1x11008, .f32⟩
  | .hbm, ⟨10, _⟩ => ⟨S16384x11008, .bf16⟩
  | .local _ .vmem, ⟨0, _⟩ => ⟨S1024x4096, .f32⟩
  | .local _ .vmem, ⟨1, _⟩ => ⟨S1024x4096, .f32⟩
  | .local _ .vmem, ⟨2, _⟩ => ⟨S16x4096, .f32⟩
  | .local _ .vmem, ⟨3, _⟩ => ⟨S16x4096, .f32⟩
  | .local _ .vmem, ⟨4, _⟩ => ⟨S1x4096, .f32⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S1024x256, .bf16⟩
  | .local _ .vmem, ⟨14, _⟩ => ⟨S1024x256, .bf16⟩
  | .local _ .vmem, ⟨15, _⟩ => ⟨S1040x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16384x4096 : Shape := ⟨2, ![16384, 4096]⟩
abbrev S4096 : Shape := ⟨1, ![4096]⟩
abbrev S4096x11008 : Shape := ⟨2, ![4096, 11008]⟩
abbrev S3x11008 : Shape := ⟨2, ![3, 11008]⟩
abbrev S11008 : Shape := ⟨1, ![11008]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x11008 : Shape := ⟨2, ![16384, 11008]⟩
abbrev S16386x11008 : Shape := ⟨2, ![16386, 11008]⟩
abbrev S1x11008 : Shape := ⟨2, ![1, 11008]⟩

abbrev nBuf : Space → Nat
  | .hbm => 61
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S3x11008, .f32⟩
  | .hbm, ⟨5, _⟩ => ⟨S11008, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x11008, .f32⟩
  | .hbm, ⟨23, _⟩ => ⟨S_, .i32⟩
  | .hbm, ⟨24, _⟩ => ⟨S_, .f32⟩
  | .hbm, ⟨25, _⟩ => ⟨S16386x11008, .f32⟩
  | .hbm, ⟨26, _⟩ => ⟨S16384x11008, .f32⟩
  | .hbm, ⟨27, _⟩ => ⟨S1x11008, .f32⟩
  | .hbm, ⟨28, _⟩ => ⟨S11008, .f32⟩
  | .hbm, ⟨29, _⟩ => ⟨S1x11008, .f32⟩
  | .hbm, ⟨30, _⟩ => ⟨S16384x11008, .f32⟩
  | .hbm, ⟨31, _⟩ => ⟨S16384x11008, .f32⟩
  | .hbm, ⟨32, _⟩ => ⟨S16384x11008, .f32⟩
  | .hbm, ⟨33, _⟩ => ⟨S1x11008, .f32⟩
  | .hbm, ⟨34, _⟩ => ⟨S11008, .f32⟩
  | .hbm, ⟨35, _⟩ => ⟨S1x11008, .f32⟩
  | .hbm, ⟨36, _⟩ => ⟨S16384x11008, .f32⟩
  | .hbm, ⟨37, _⟩ => ⟨S16384x11008, .f32⟩
  | .hbm, ⟨38, _⟩ => ⟨S16384x11008, .f32⟩
  | .hbm, ⟨39, _⟩ => ⟨S16384x11008, .f32⟩
  | .hbm, ⟨40, _⟩ => ⟨S1x11008, .f32⟩
  | .hbm, ⟨41, _⟩ => ⟨S11008, .f32⟩
  | .hbm, ⟨42, _⟩ => ⟨S1x11008, .f32⟩
  | .hbm, ⟨43, _⟩ => ⟨S16384x11008, .f32⟩
  | .hbm, ⟨44, _⟩ => ⟨S16384x11008, .f32⟩
  | .hbm, ⟨45, _⟩ => ⟨S16384x11008, .f32⟩
  | .hbm, ⟨46, _⟩ => ⟨S1x11008, .f32⟩
  | .hbm, ⟨47, _⟩ => ⟨S16384x11008, .f32⟩
  | .hbm, ⟨48, _⟩ => ⟨S16384x11008, .f32⟩
  | .hbm, ⟨49, _⟩ => ⟨S16384x11008, .f32⟩
  | .hbm, ⟨50, _⟩ => ⟨S16384x11008, .f32⟩
  | .hbm, ⟨51, _⟩ => ⟨S_, .f32⟩
  | .hbm, ⟨52, _⟩ => ⟨S16384x11008, .f32⟩
  | .hbm, ⟨53, _⟩ => ⟨S16384x11008, .f32⟩
  | .hbm, ⟨54, _⟩ => ⟨S_, .f32⟩
  | .hbm, ⟨55, _⟩ => ⟨S16384x11008, .f32⟩
  | .hbm, ⟨56, _⟩ => ⟨S16384x11008, .f32⟩
  | .hbm, ⟨57, _⟩ => ⟨S16384x11008, .f32⟩
  | .hbm, ⟨58, _⟩ => ⟨S16384x11008, .f32⟩
  | .hbm, ⟨59, _⟩ => ⟨S16384x11008, .f32⟩
  | .hbm, ⟨60, _⟩ => ⟨S16384x11008, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel3.lean ====
abbrev S16384x4096 : Shape := ⟨2, ![16384, 4096]⟩
abbrev S16384x11008 : Shape := ⟨2, ![16384, 11008]⟩
abbrev S11008x4096 : Shape := ⟨2, ![11008, 4096]⟩
abbrev S512x512 : Shape := ⟨2, ![512, 512]⟩
abbrev S512x11008 : Shape := ⟨2, ![512, 11008]⟩
abbrev S11008x512 : Shape := ⟨2, ![11008, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x11008, .bf16⟩
  | .hbm, ⟨2, _⟩ => ⟨S11008x4096, .f32⟩
  | .hbm, ⟨3, _⟩ => ⟨S11008x4096, .bf16⟩
  | .hbm, ⟨4, _⟩ => ⟨S16384x4096, .f32⟩
  | .local _ .vmem, ⟨0, _⟩ => ⟨S512x512, .f32⟩
  | .local _ .vmem, ⟨1, _⟩ => ⟨S512x512, .f32⟩
  | .local _ .vmem, ⟨2, _⟩ => ⟨S512x11008, .bf16⟩
  | .local _ .vmem, ⟨3, _⟩ => ⟨S512x11008, .bf16⟩
  | .local _ .vmem, ⟨4, _⟩ => ⟨S11008x512, .bf16⟩
  | .local _ .vmem, ⟨5, _⟩ => ⟨S11008x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S11008x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x4096 : Shape := ⟨2, ![16384, 4096]⟩
abbrev S16384x11008 : Shape := ⟨2, ![16384, 11008]⟩
abbrev S11008x4096 : Shape := ⟨2, ![11008, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x11008, .bf16⟩
  | .hbm, ⟨2, _⟩ => ⟨S11008x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S4096x14848 : Shape := ⟨2, ![4096, 14848]⟩
abbrev S1x4096 : Shape := ⟨2, ![1, 4096]⟩
abbrev S16384x14848 : Shape := ⟨2, ![16384, 14848]⟩
abbrev S1024x4096 : Shape := ⟨2, ![1024, 4096]⟩
abbrev S4096x512 : Shape := ⟨2, ![4096, 512]⟩
abbrev S1024x512 : Shape := ⟨2, ![1024, 512]⟩
abbrev S16x4096 : Shape := ⟨2, ![16, 4096]⟩
abbrev S16 : Shape := ⟨1, ![16]⟩
abbrev S16x1 : Shape := ⟨2, ![16, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x14848, .bf16⟩
  | .hbm, ⟨3, _⟩ => ⟨S1x4096, .f32⟩
  | .hbm, ⟨4, _⟩ => ⟨S16384x14848, .f32⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S1024x512, .f32⟩
  | .local _ .vmem, ⟨6, _⟩ => ⟨S1024x512, .f32⟩
  | .local _ .vmem, ⟨7, _⟩ => ⟨S1024x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 29], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x4096 : Shape := ⟨2, ![16384, 4096]⟩
abbrev S4096 : Shape := ⟨1, ![4096]⟩
abbrev S4096x14848 : Shape := ⟨2, ![4096, 14848]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x14848 : Shape := ⟨2, ![16384, 14848]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x14848, .bf16⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S4096x14848, .f32⟩
  | .hbm, ⟨20, _⟩ => ⟨S16384x14848, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x4096 : Shape := ⟨2, ![16384, 4096]⟩
abbrev S16384x1536 : Shape := ⟨2, ![16384, 1536]⟩
abbrev S16384x1024 : Shape := ⟨2, ![16384, 1024]⟩
abbrev S4096x4096 : Shape := ⟨2, ![4096, 4096]⟩
abbrev S1536x4096 : Shape := ⟨2, ![1536, 4096]⟩
abbrev S1024x4096 : Shape := ⟨2, ![1024, 4096]⟩
abbrev S1024x512 : Shape := ⟨2, ![1024, 512]⟩
abbrev S1024x1536 : Shape := ⟨2, ![1024, 1536]⟩
abbrev S1024x1024 : Shape := ⟨2, ![1024, 1024]⟩
abbrev S1536x512 : Shape := ⟨2, ![1536, 512]⟩

abbrev nBuf : Space → Nat
  | .hbm => 10
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S16384x1536, .bf16⟩
  | .hbm, ⟨2, _⟩ => ⟨S16384x1024, .bf16⟩
  | .hbm, ⟨3, _⟩ => ⟨S16384x1536, .bf16⟩
  | .hbm, ⟨4, _⟩ => ⟨S4096x4096, .f32⟩
  | .hbm, ⟨5, _⟩ => ⟨S4096x4096, .bf16⟩
  | .hbm, ⟨6, _⟩ => ⟨S1536x4096, .bf16⟩
  | .hbm, ⟨7, _⟩ => ⟨S1024x4096, .bf16⟩
  | .hbm, ⟨8, _⟩ => ⟨S1536x4096, .bf16⟩
  | .hbm, ⟨9, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1536, .bf16⟩
  | .local _ .vmem, ⟨7, _⟩ => ⟨S1024x1536, .bf16⟩
  | .local _ .vmem, ⟨8, _⟩ => ⟨S1536x512, .bf16⟩
  | .local _ .vmem, ⟨9, _⟩ => ⟨S1536x512, .bf16⟩
  | .local _ .vmem, ⟨10, _⟩ => ⟨S1024x512, .bf16⟩
  | .local _ .vmem, ⟨11, _⟩ => ⟨S1024x512, .bf16⟩
  | .local _ .vmem, ⟨12, _⟩ => ⟨S1536x512, .bf16⟩
  | .local _ .vmem, ⟨13, _⟩ => ⟨S1536x512, .bf16⟩
  | .local _ .vmem, ⟨14, _⟩ => ⟨S1024x512, .f32⟩
  | .local _ .vmem, ⟨15, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S16384x4096 : Shape := ⟨2, ![16384, 4096]⟩
abbrev S16384x1536 : Shape := ⟨2, ![16384, 1536]⟩
abbrev S16384x1024 : Shape := ⟨2, ![16384, 1024]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1536, .bf16⟩
  | .hbm, ⟨2, _⟩ => ⟨S16384x1024, .bf16⟩
  | .hbm, ⟨3, _⟩ => ⟨S16384x1536, .bf16⟩
  | .hbm, ⟨4, _⟩ => ⟨S4096x4096, .f32⟩
  | .hbm, ⟨5, _⟩ => ⟨S16384x4096, .bf16⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S16384x4096 : Shape := ⟨2, ![16384, 4096]⟩
abbrev S16384x11008 : Shape := ⟨2, ![16384, 11008]⟩
abbrev S11008x4096 : Shape := ⟨2, ![11008, 4096]⟩
abbrev S4096 : Shape := ⟨1, ![4096]⟩
abbrev S512x512 : Shape := ⟨2, ![512, 512]⟩
abbrev S512x11008 : Shape := ⟨2, ![512, 11008]⟩
abbrev S11008x512 : Shape := ⟨2, ![11008, 512]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S16384x11008, .bf16⟩
  | .hbm, ⟨2, _⟩ => ⟨S11008x4096, .f32⟩
  | .hbm, ⟨3, _⟩ => ⟨S4096, .f32⟩
  | .hbm, ⟨4, _⟩ => ⟨S11008x4096, .bf16⟩
  | .hbm, ⟨5, _⟩ => ⟨S16384x4096, .f32⟩
  | .hbm, ⟨6, _⟩ => ⟨S1x4096, .f32⟩
  | .hbm, ⟨7, _⟩ => ⟨S16384x4096, .f32⟩
  | .local _ .vmem, ⟨0, _⟩ => ⟨S512x512, .f32⟩
  | .local _ .vmem, ⟨1, _⟩ => ⟨S512x512, .f32⟩
  | .local _ .vmem, ⟨2, _⟩ => ⟨S512x11008, .bf16⟩
  | .local _ .vmem, ⟨3, _⟩ => ⟨S512x11008, .bf16⟩
  | .local _ .vmem, ⟨4, _⟩ => ⟨S11008x512, .bf16⟩
  | .local _ .vmem, ⟨5, _⟩ => ⟨S11008x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x4096, .f32⟩
  | .local _ .vmem, ⟨10, _⟩ => ⟨S512x4096, .f32⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S11008x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference7Ideal.lean ====
abbrev S16384x4096 : Shape := ⟨2, ![16384, 4096]⟩
abbrev S16384x11008 : Shape := ⟨2, ![16384, 11008]⟩
abbrev S11008x4096 : Shape := ⟨2, ![11008, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x11008, .bf16⟩
  | .hbm, ⟨2, _⟩ => ⟨S11008x4096, .f32⟩
  | .hbm, ⟨3, _⟩ => ⟨S4096, .f32⟩
  | .hbm, ⟨4, _⟩ => ⟨S16384x11008, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Block.lean ====
/- One tile of the attention kernel in its own words: the scores, softmax numerators, row maxima and sums of one block of 128 queries,
   the stores a tile makes into its three scratch arrays, and the merge of the three patterns. -/
module

public import proofs.«01_k».proof.Proof.Gen.KernelIdeal.Skeleton
public import Idealize.ShloMosaic.Lib.Pipeline.Value

@[expose] public section

noncomputable section

namespace Cert.KernelIdeal.Attn

open Cert.KernelIdeal Cert.KernelIdeal.Gen Idealize.ShloMosaic

variable {F : FTy → Type} [FloatOps F] [Named F]

/-- Row and column numbers of a score block. -/
def rowI : IVec S128x256 32 := iota Kind.tc S128x256 32 [0] (by decide)
def colI : IVec S128x256 32 := iota Kind.tc S128x256 32 [1] (by decide)

/-- The band `i ≤ j ≤ i + 128`. -/
def bandM : IVec S128x256 1 := andi (cmpi .sge colI rowI) (cmpi .sle colI (addi rowI (broadcast S128x256 128#32)))

/-- The band without the keys before the sequence, at the first tile. -/
def firstM (i : grid0.Coords) : IVec S128x256 1 :=
  k0_pay35 colI bandM (Scalar.cmpi CmpIPredicate.eq (BitVec.ofNat 32 (i 1).val) 0#32) 128#32 0#32

/-- The masked scores of a block. -/
def scores (mk : IVec S128x256 1) (b : Vec F S1x128x256 .f32) (q : Vec F S128x128 .f32) (kw : Vec F S256x128 .f32) : FVec F S128x256 .f32 :=
  select mk (addf (matmul dot_S128x128_S256x128_S128x256_1_1_0_0_n_n none
      (truncf .bf16 (mulf (shapeCast S128x128 q shapeCasts_S128x128_S128x128) (broadcast S128x128 (Scalar.ofBits .f32 0x3DB504F3#32))) bitsLt_bf16_f32)
      (truncf .bf16 kw bitsLt_bf16_f32) (constant S128x256 .f32 0x00000000#32))
    (shapeCast S128x256 b shapeCasts_S1x128x256_S128x256)) (broadcast S128x256 (Named.named κ "mask" 0xF149F2CA#32))

/-- The row maxima of a score block. -/
def rowMax (s : FVec F S128x256 .f32) : FVec F S128x1 .f32 :=
  shapeCast S128x1 (multiReduction .maximumf [1] S128 s 0xFF800000#32 reduces_S128x256_S128 (.inl rfl) rfl) shapeCasts_S128_S128x1

/-- The softmax numerators of a score block. -/
def numer (s : FVec F S128x256 .f32) : FVec F S128x256 .f32 :=
  exp (subf s (broadcastTo S128x256 (rowMax s) broadcasts_S128x1_S128x256))

/-- The row sums of the numerators. -/
def rowSum (s : FVec F S128x256 .f32) : FVec F S128x1 .f32 :=
  shapeCast S128x1 (multiReduction .add [1] S128 (numer s) 0x00000000#32 reduces_S128x256_S128 (.inl rfl) rfl) shapeCasts_S128_S128x1

/-- What a block stores: the unnormalised output, -/
def stO (s : FVec F S128x256 .f32) (vw : Vec F S256x128 .f32) : FVec F S1x128x128 .f32 :=
  shapeCast S1x128x128 (matmul dot_S128x256_S256x128_S128x128_1_0_0_1_n_n none (truncf .bf16 (numer s) bitsLt_bf16_f32)
    (truncf .bf16 vw bitsLt_bf16_f32) (constant S128x128 .f32 0x00000000#32)) shapeCasts_S128x128_S1x128x128

/-- a column repeated over the lanes (the row maxima, the row sums). -/
def stC (m : FVec F S128x1 .f32) : FVec F S1x128x128 .f32 :=
  shapeCast S1x128x128 (mulf (broadcastTo S128x128 m broadcasts_S128x1_S128x128)
    (broadcastTo S128x128 (broadcast S1x128 (Scalar.ofBits .f32 0x3F800000#32)) broadcasts_S1x128_S128x128)) shapeCasts_S128x128_S1x128x128

/-! ## Where block `k` of a pattern lies -/

/-- Pattern 0: consecutive blocks. -/
def q0 (k : Fin 16) : LoadRect S2048x128 :=
  (Rect.unit (s := S2048x128) ![128 * k.val, 0] S128x128.size (by intro a; fin_cases a <;> simp <;> omega)).toLoadRect
def k0 (k : Fin 16) : LoadRect S4096x128 :=
  (Rect.unit (s := S4096x128) ![1920 + 128 * k.val, 0] S256x128.size (by intro a; fin_cases a <;> simp <;> omega)).toLoadRect
def s0 (k : Fin 16) : Rect S3x2048x128 :=
  Rect.unit (s := S3x2048x128) ![0, 128 * k.val, 0] S1x128x128.size (by intro a; fin_cases a <;> simp <;> omega)

/-- The first row of block `k` of pattern 1 (distance 4). -/
def at1 (k : Fin 16) : ℕ := 512 * (k.val / 4) + k.val % 4

theorem at1_lt (k : Fin 16) : at1 k + 508 < 2048 := by unfold at1; omega

def q1 (k : Fin 16) : LoadRect S2048x128 :=
  ⟨![at1 k, 0], S128x128.size, ![4, 1], by have := at1_lt k; intro a; fin_cases a <;> simp; omega⟩
def k1 (k : Fin 16) : LoadRect S4096x128 :=
  ⟨![1536 + at1 k, 0], S256x128.size, ![4, 1], by have := at1_lt k; intro a; fin_cases a <;> simp; omega⟩
def s1 (k : Fin 16) : Rect S3x2048x128 :=
  ⟨⟨![1, at1 k, 0], S1x128x128.size, ![1, 4, 1], by have := at1_lt k; intro a; fin_cases a <;> simp; omega⟩,
    by intro a; fin_cases a <;> simp⟩

/-- Pattern 2: one block per residue modulo 16. -/
def q2 (k : Fin 16) : LoadRect S2048x128 :=
  ⟨![k.val, 0], S128x128.size, ![16, 1], by intro a; fin_cases a <;> simp; omega⟩
def k2 (k : Fin 16) : LoadRect S4096x128 :=
  ⟨![k.val, 0], S256x128.size, ![16, 1], by intro a; fin_cases a <;> simp; omega⟩
def s2 (k : Fin 16) : Rect S3x2048x128 :=
  ⟨⟨![2, k.val, 0], S1x128x128.size, ![1, 16, 1], by intro a; fin_cases a <;> simp; omega⟩,
    by intro a; fin_cases a <;> simp⟩

/-- The mask of block `k`: the first blocks of a tile take the first tile's. -/
def mk0 (fm : IVec S128x256 1) (k : Fin 16) : IVec S128x256 1 := bif Nat.beq k.val 0 then fm else bandM
def mk1 (fm : IVec S128x256 1) (k : Fin 16) : IVec S128x256 1 := bif Nat.beq (k.val / 4) 0 then fm else bandM

section Stores

variable (fm : IVec S128x256 1) (b0 b1 b2 : Vec F S1x128x256 .f32) (lq : (r : LoadRect S2048x128) → r.shape.Idx → Elt F .f32)
  (lk lv : (r : LoadRect S4096x128) → r.shape.Idx → Elt F .f32)

def sc0 (k : Fin 16) : FVec F S128x256 .f32 := scores (mk0 fm k) b0 (lq (q0 k)) (lk (k0 k))
def sc1 (k : Fin 16) : FVec F S128x256 .f32 := scores (mk1 fm k) b1 (lq (q1 k)) (lk (k1 k))
def sc2 (k : Fin 16) : FVec F S128x256 .f32 := scores fm b2 (lq (q2 k)) (lk (k2 k))

/-- The blocks of a pattern, last first. -/
def blocks : List (Fin 16) := [15, 14, 13, 12, 11, 10, 9, 8, 7, 6, 5, 4, 3, 2, 1, 0]

/-- The stores into the three scratch arrays, last first. -/
def oL : List (View.Piece (Elt F) S3x2048x128 .f32) :=
  blocks.map (fun k => ⟨s2 k, stO (sc2 fm b2 lq lk k) (lv (k2 k))⟩)
    ++ (blocks.map (fun k => ⟨s1 k, stO (sc1 fm b1 lq lk k) (lv (k1 k))⟩)
    ++ blocks.map (fun k => ⟨s0 k, stO (sc0 fm b0 lq lk k) (lv (k0 k))⟩))
def mL : List (View.Piece (Elt F) S3x2048x128 .f32) :=
  blocks.map (fun k => ⟨s2 k, stC (rowMax (sc2 fm b2 lq lk k))⟩)
    ++ (blocks.map (fun k => ⟨s1 k, stC (rowMax (sc1 fm b1 lq lk k))⟩)
    ++ blocks.map (fun k => ⟨s0 k, stC (rowMax (sc0 fm b0 lq lk k))⟩))
def lL : List (View.Piece (Elt F) S3x2048x128 .f32) :=
  blocks.map (fun k => ⟨s2 k, stC (rowSum (sc2 fm b2 lq lk k))⟩)
    ++ (blocks.map (fun k => ⟨s1 k, stC (rowSum (sc1 fm b1 lq lk k))⟩)
    ++ blocks.map (fun k => ⟨s0 k, stC (rowSum (sc0 fm b0 lq lk k))⟩))

end Stores

/-- A pattern's plane of a scratch array. -/
def pl0 : LoadRect S3x2048x128 := (Rect.unit (s := S3x2048x128) ![0, 0, 0] S1x2048x128.size (by intro a; fin_cases a <;> simp)).toLoadRect
def pl1 : LoadRect S3x2048x128 := (Rect.unit (s := S3x2048x128) ![1, 0, 0] S1x2048x128.size (by intro a; fin_cases a <;> simp)).toLoadRect
def pl2 : LoadRect S3x2048x128 := (Rect.unit (s := S3x2048x128) ![2, 0, 0] S1x2048x128.size (by intro a; fin_cases a <;> simp)).toLoadRect

/-- The merge of the three patterns. -/
def merge (o0 o1 o2 m0 m1 m2 l0 l1 l2 : Vec F S1x2048x128 .f32) : FVec F S2048x128 .bf16 :=
  k0_pay1 (k0_pay412 m0 m1 m2) (k0_pay415 m0 m1 m2 m0 l0) (k0_pay416 m0 m1 m2 m1)
    (k0_pay417 (k0_pay414 m0 m1 m2 m0 o0) (k0_pay416 m0 m1 m2 m1) o1) l1 m2 o2 l2

end Cert.KernelIdeal.Attn

end
-- ==== Proof.Tile.lean ====
/- A tile's result: one function of the bias planes and the tile's five blocks, at the first tile of a head and at the later ones. -/
module

public import proofs.«01_k».proof.Proof.Block
public import proofs.«01_k».proof.Proof.Gen.KernelIdeal.Frame
public import Idealize.ShloMosaic.Lib.Pointwise
public import Idealize.ShloMosaic.Lib.WholeRead

@[expose] public section

noncomputable section

namespace Cert.KernelIdeal.Attn

open Cert.KernelIdeal Cert.KernelIdeal.Gen Idealize.ShloMosaic

variable {F : FTy → Type} [FloatOps F] [Named F]

/-- Two tiles one after the other: the previous one, then the current one. -/
def pair (cur prev : Vec F S2048x128 .f32) : Vec F S4096x128 .f32 := fun y =>
  if h : 2048 ≤ (y 0).val then cur (ix2 (⟨(y 0).val - 2048, by have : (y 0).val < 4096 := (y 0).isLt; omega⟩ : Fin 2048) (y 1 : Fin 128))
  else prev (ix2 (⟨(y 0).val, by omega⟩ : Fin 2048) (y 1 : Fin 128))

/-- Plane `p` of the bias. -/
def plane (bias : Vec F S3x128x256 .f32) (p : Fin 3) : Vec F S1x128x256 .f32 := fun y =>
  bias (ix3 p (y 1 : Fin 128) (y 2 : Fin 256))

section

variable (fm : IVec S128x256 1) (bias : Vec F S3x128x256 .f32) (q : Vec F S2048x128 .f32) (kb vb : Vec F S4096x128 .f32)

/-- The three scratch arrays after a tile's stores. -/
def oS : Vec F S3x2048x128 .f32 :=
  View.canon (oL fm (plane bias 0) (plane bias 1) (plane bias 2) (fun r j => q (r.idx j)) (fun r j => kb (r.idx j)) (fun r j => vb (r.idx j)))
def mS : Vec F S3x2048x128 .f32 :=
  View.canon (mL fm (plane bias 0) (plane bias 1) (plane bias 2) (fun r j => q (r.idx j)) (fun r j => kb (r.idx j)))
def lS : Vec F S3x2048x128 .f32 :=
  View.canon (lL fm (plane bias 0) (plane bias 1) (plane bias 2) (fun r j => q (r.idx j)) (fun r j => kb (r.idx j)))

/-- A tile's result. -/
def tile : FVec F S2048x128 .bf16 :=
  merge (fun j => oS fm bias q kb vb (pl0.idx j)) (fun j => oS fm bias q kb vb (pl1.idx j)) (fun j => oS fm bias q kb vb (pl2.idx j))
    (fun j => mS fm bias q kb (pl0.idx j)) (fun j => mS fm bias q kb (pl1.idx j)) (fun j => mS fm bias q kb (pl2.idx j))
    (fun j => lS fm bias q kb (pl0.idx j)) (fun j => lS fm bias q kb (pl1.idx j)) (fun j => lS fm bias q kb (pl2.idx j))

end

section

variable (c : Dev nD) (i : grid0.Coords) (arg2 : Memref sig .tc .smem S32x8 .f32) (harg2 : arg2.IsWhole) (arg3 : Memref sig .tc .vmem S3x128x256 .i32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16)
  (harg9 : arg9.IsWhole) (arg10 : Memref sig .tc .vmem S3x128x256 .f32) (harg10 : arg10.IsWhole) (arg11 : Memref sig .tc .vmem S4096x128 .f32) (harg11 : arg11.IsWhole) (arg12 : Memref sig .tc .vmem S4096x128 .f32)
  (harg12 : arg12.IsWhole) (arg13 : Memref sig .tc .vmem S3x2048x128 .f32) (harg13 : arg13.IsWhole) (arg14 : Memref sig .tc .vmem S3x2048x128 .f32) (harg14 : arg14.IsWhole) (arg15 : Memref sig .tc .vmem S3x2048x128 .f32) (harg15 : arg15.IsWhole)
  (x0 : Vec F S32x8 .f32) (x1 : Vec F S3x128x256 .i32) (x2 x3 x4 x5 x6 : Vec F S2048x128 .f32)

/-- A whole tile loaded. -/
def ld (a : Memref sig .tc .vmem S2048x128 .f32) (ha : a.IsWhole) (cur : Vec F S2048x128 .f32) : Vec F S2048x128 .f32 :=
  shapeCast S2048x128 (shapeCast S2048x128 (View.readAt (Elt F) a.view (Rect.unit (s := S2048x128) ![0, 0] S2048x128.size (by intro a; fin_cases a <;> simp)).toLoadRect
    (ha.unread cur)) shapeCasts_S2048x128_S2048x128) shapeCasts_S2048x128_S2048x128

theorem ld_eq (a : Memref sig .tc .vmem S2048x128 .f32) (ha : a.IsWhole) (cur : Vec F S2048x128 .f32) : ld a ha cur = cur := by
  unfold ld
  refine (shapeCast_self (s := S2048x128) _ _).trans ((shapeCast_self (s := S2048x128) _ _).trans ?_)
  funext x
  refine (ha.readAt_unread cur _ x).trans (congrArg cur (funext fun a => Fin.ext ?_))
  match a with
  | ⟨0, _⟩ => exact (show 0 + 1 * (x 0).val = (x 0).val by omega)
  | ⟨1, _⟩ => exact (show 0 + 1 * (x 1).val = (x 1).val by omega)

/-- The stores that put two tiles into a scratch array. -/
def pairL (a : Memref sig .tc .vmem S2048x128 .f32) (ha : a.IsWhole) (b : Memref sig .tc .vmem S2048x128 .f32) (hb : b.IsWhole)
    (cur prev : Vec F S2048x128 .f32) : List (View.Piece (Elt F) S4096x128 .f32) :=
  [⟨Rect.unit (s := S4096x128) ![2048, 0] S2048x128.size (by intro a; fin_cases a <;> simp), ld a ha cur⟩,
    ⟨Rect.unit (s := S4096x128) ![0, 0] S2048x128.size (by intro a; fin_cases a <;> simp), ld b hb prev⟩]

theorem pairL_eq (a : Memref sig .tc .vmem S2048x128 .f32) (ha : a.IsWhole) (b : Memref sig .tc .vmem S2048x128 .f32) (hb : b.IsWhole)
    (cur prev : Vec F S2048x128 .f32) : pairL a ha b hb cur prev =
  [⟨Rect.unit (s := S4096x128) ![2048, 0] S2048x128.size (by intro a; fin_cases a <;> simp), cur⟩,
    ⟨Rect.unit (s := S4096x128) ![0, 0] S2048x128.size (by intro a; fin_cases a <;> simp), prev⟩] := by
  unfold pairL
  rw [ld_eq, ld_eq]

theorem canon_pairL (a : Memref sig .tc .vmem S2048x128 .f32) (ha : a.IsWhole) (b : Memref sig .tc .vmem S2048x128 .f32) (hb : b.IsWhole)
    (cur prev : Vec F S2048x128 .f32) : View.canon (pairL a ha b hb cur prev) = pair cur prev := by
  funext y
  refine View.canon_apply_of_pieces (pair cur prev) _ ?_ y ?_
  · intro p hp x
    rw [pairL_eq] at hp
    simp only [List.mem_cons, List.not_mem_nil, or_false] at hp
    rcases hp with rfl | rfl
    · show cur x = _
      have hx : ((Rect.unit (s := S4096x128) ![2048, 0] S2048x128.size (by intro a; fin_cases a <;> simp)).emb x 0).val = 2048 + 1 * (x 0).val := rfl
      unfold pair
      rw [dif_pos (by rw [hx]; omega)]
      refine congrArg cur (funext fun a => Fin.ext ?_)
      match a with
      | ⟨0, _⟩ => exact (show (x 0).val = 2048 + 1 * (x 0).val - 2048 by omega)
      | ⟨1, _⟩ => exact (show (x 1).val = 0 + 1 * (x 1).val by omega)
    · show prev x = _
      have hx : ((Rect.unit (s := S4096x128) ![0, 0] S2048x128.size (by intro a; fin_cases a <;> simp)).emb x 0).val = 0 + 1 * (x 0).val := rfl
      have hl : (x 0).val < 2048 := (x 0).isLt
      unfold pair
      rw [dif_neg (by rw [hx]; omega)]
      refine congrArg prev (funext fun a => Fin.ext ?_)
      match a with
      | ⟨0, _⟩ => exact (show (x 0).val = 0 + 1 * (x 0).val by omega)
      | ⟨1, _⟩ => exact (show (x 1).val = 0 + 1 * (x 1).val by omega)
  · rw [pairL_eq]
    have hy : (y 0).val < 4096 := (y 0).isLt
    have hy1 : (y 1).val < 128 := (y 1).isLt
    by_cases h : 2048 ≤ (y 0).val
    · have hm : y ∈ (Rect.unit (s := S4096x128) ![2048, 0] S2048x128.size (by intro a; fin_cases a <;> simp)).set := by
        rw [Rect.mem_set_unit]
        intro a
        match a with
        | ⟨0, _⟩ => exact ⟨h, hy⟩
        | ⟨1, _⟩ => exact ⟨Nat.zero_le _, by simpa using hy1⟩
      exact ⟨_, List.mem_cons_self, hm⟩
    · have hm : y ∈ (Rect.unit (s := S4096x128) ![0, 0] S2048x128.size (by intro a; fin_cases a <;> simp)).set := by
        rw [Rect.mem_set_unit]
        intro a
        match a with
        | ⟨0, _⟩ => exact ⟨Nat.zero_le _, by simpa using h⟩
        | ⟨1, _⟩ => exact ⟨Nat.zero_le _, by simpa using hy1⟩
      exact ⟨_, List.mem_cons_of_mem _ List.mem_cons_self, hm⟩

/-- The output's one store. -/
def outL (b0 b1 b2 : Vec F S1x128x256 .f32) (lq : (r : LoadRect S2048x128) → r.shape.Idx → Elt F .f32)
    (lk lv : (r : LoadRect S4096x128) → r.shape.Idx → Elt F .f32) : List (View.Piece (Elt F) S2048x128 .bf16) :=
  [⟨Rect.unit (s := S2048x128) ![0, 0] S2048x128.size (by intro a; fin_cases a <;> simp),
    merge (arg13.view.readCov (oL (firstM i) b0 b1 b2 lq lk lv) pl0) (arg13.view.readCov (oL (firstM i) b0 b1 b2 lq lk lv) pl1)
      (arg13.view.readCov (oL (firstM i) b0 b1 b2 lq lk lv) pl2)
      (arg14.view.readCov (mL (firstM i) b0 b1 b2 lq lk) pl0) (arg14.view.readCov (mL (firstM i) b0 b1 b2 lq lk) pl1)
      (arg14.view.readCov (mL (firstM i) b0 b1 b2 lq lk) pl2)
      (arg15.view.readCov (lL (firstM i) b0 b1 b2 lq lk) pl0) (arg15.view.readCov (lL (firstM i) b0 b1 b2 lq lk) pl1)
      (arg15.view.readCov (lL (firstM i) b0 b1 b2 lq lk) pl2)⟩]

def plane0 : LoadRect S3x128x256 := (Rect.unit (s := S3x128x256) ![0, 0, 0] S1x128x256.size (by intro a; fin_cases a <;> simp)).toLoadRect
def plane1 : LoadRect S3x128x256 := (Rect.unit (s := S3x128x256) ![1, 0, 0] S1x128x256.size (by intro a; fin_cases a <;> simp)).toLoadRect
def plane2 : LoadRect S3x128x256 := (Rect.unit (s := S3x128x256) ![2, 0, 0] S1x128x256.size (by intro a; fin_cases a <;> simp)).toLoadRect

theorem canon_outL (b0 b1 b2 : Vec F S1x128x256 .f32) (q : Vec F S2048x128 .f32) (kb vb : Vec F S4096x128 .f32) (bias : Vec F S3x128x256 .f32)
    (h0 : b0 = plane bias 0) (h1 : b1 = plane bias 1) (h2 : b2 = plane bias 2) :
    View.canon (outL i arg13 arg14 arg15 b0 b1 b2 (fun r j => q (r.idx j)) (fun r j => kb (r.idx j)) (fun r j => vb (r.idx j)))
      = tile (firstM i) bias q kb vb := by
  subst h0 h1 h2
  unfold outL
  rw [View.canon_unit_zero (by funext a; fin_cases a <;> rfl)]
  simp only [View.readCov_eq_canon']
  rfl

theorem outRaw_B (hc0 : ¬cond0_0 i) (xs0 : Vec F S3x128x256 .f32) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0
      = VO0_7.read (Elt F) (VO0_7.writes (Elt F) VO0_7.junk (outL i arg13 arg14 arg15
          (View.readAt (Elt F) arg10.view plane0 (harg10.unread xs0)) (View.readAt (Elt F) arg10.view plane1 (harg10.unread xs0))
          (View.readAt (Elt F) arg10.view plane2 (harg10.unread xs0))
          (fun r => View.readAt (Elt F) arg4.view r (harg4.unread x2))
          (fun r => arg11.view.readCov (pairL arg5 harg5 arg6 harg6 x3 x4) r) (fun r => arg12.view.readCov (pairL arg7 harg7 arg8 harg8 x5 x6) r))) := by
  sl_kernel_rfl

/-- The stores of the first tile of a head into the bias scratch. -/
def biasL (hc0 : cond0_0 i) : List (View.Piece (Elt F) S3x128x256 .f32) :=
  (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1

theorem outRaw_A (hc0 : cond0_0 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      = VO0_7.read (Elt F) (VO0_7.writes (Elt F) VO0_7.junk (outL i arg13 arg14 arg15
          (arg10.view.readCov (biasL c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hc0) plane0)
          (arg10.view.readCov (biasL c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hc0) plane1)
          (arg10.view.readCov (biasL c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hc0) plane2)
          (fun r => View.readAt (Elt F) arg4.view r (harg4.unread x2))
          (fun r => arg11.view.readCov (pairL arg5 harg5 arg6 harg6 x3 x4) r) (fun r => arg12.view.readCov (pairL arg7 harg7 arg8 harg8 x5 x6) r))) := by
  sl_kernel_rfl

theorem plane0_eq (bias : Vec F S3x128x256 .f32) : (fun j => bias (plane0.idx j)) = plane bias 0 :=
  funext fun j => congrArg bias (funext fun a => Fin.ext (by
    match a with
    | ⟨0, _⟩ => exact (show 0 + 1 * (j 0).val = 0 by have : (j 0).val < 1 := (j 0).isLt; omega)
    | ⟨1, _⟩ => exact (show 0 + 1 * (j 1).val = (j 1).val by omega)
    | ⟨2, _⟩ => exact (show 0 + 1 * (j 2).val = (j 2).val by omega)))

theorem plane1_eq (bias : Vec F S3x128x256 .f32) : (fun j => bias (plane1.idx j)) = plane bias 1 :=
  funext fun j => congrArg bias (funext fun a => Fin.ext (by
    match a with
    | ⟨0, _⟩ => exact (show 1 + 1 * (j 0).val = 1 by have : (j 0).val < 1 := (j 0).isLt; omega)
    | ⟨1, _⟩ => exact (show 0 + 1 * (j 1).val = (j 1).val by omega)
    | ⟨2, _⟩ => exact (show 0 + 1 * (j 2).val = (j 2).val by omega)))

theorem plane2_eq (bias : Vec F S3x128x256 .f32) : (fun j => bias (plane2.idx j)) = plane bias 2 :=
  funext fun j => congrArg bias (funext fun a => Fin.ext (by
    match a with
    | ⟨0, _⟩ => exact (show 2 + 1 * (j 0).val = 2 by have : (j 0).val < 1 := (j 0).isLt; omega)
    | ⟨1, _⟩ => exact (show 0 + 1 * (j 1).val = (j 1).val by omega)
    | ⟨2, _⟩ => exact (show 0 + 1 * (j 2).val = (j 2).val by omega)))

theorem lq_eq (q : Vec F S2048x128 .f32) :
    (fun r : LoadRect S2048x128 => View.readAt (Elt F) arg4.view r (harg4.unread q)) = fun r j => q (r.idx j) :=
  funext fun r => funext fun j => harg4.readAt_unread q r j

/-- A later tile's result. -/
theorem out_B (hc0 : ¬cond0_0 i) (xs0 : Vec F S3x128x256 .f32) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 = tile (firstM i) xs0 x2 (pair x3 x4) (pair x5 x6) := by
  rw [outRaw_B, View.read_writes_junk_eq_canon, lq_eq]
  simp only [View.readCov_eq_canon', canon_pairL]
  exact canon_outL i arg13 arg14 arg15 _ _ _ x2 (pair x3 x4) (pair x5 x6) xs0
    ((funext fun j => harg10.readAt_unread xs0 plane0 j).trans (plane0_eq xs0))
    ((funext fun j => harg10.readAt_unread xs0 plane1 j).trans (plane1_eq xs0))
    ((funext fun j => harg10.readAt_unread xs0 plane2 j).trans (plane2_eq xs0))

/-- The first tile's result. -/
theorem out_A (hc0 : cond0_0 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = tile (firstM i) (sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6) x2 (pair x3 x4) (pair x5 x6) := by
  have hs : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (biasL c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hc0) :=
    View.read_writes_junk_eq_canon _ _
  rw [outRaw_A, View.read_writes_junk_eq_canon, lq_eq, hs]
  simp only [View.readCov_eq_canon', canon_pairL]
  exact canon_outL i arg13 arg14 arg15 _ _ _ x2 (pair x3 x4) (pair x5 x6) _ (plane0_eq _) (plane1_eq _) (plane2_eq _)

end

end Cert.KernelIdeal.Attn

end
-- ==== Proof.Score.lean ====
/- One block of the attention over the extended reals, entry by entry. -/
module

public import proofs.«01_k».proof.Proof.Tile
public import Idealize.ShloMosaic.Lib.Pointwise

@[expose] public section

noncomputable section

namespace Cert.KernelIdeal.Attn

open Cert.KernelIdeal Cert.KernelIdeal.Gen Idealize.ShloMosaic

/-- The scale of the queries. -/
def scale : EReal := Ideal.ofBits .f32 0x3DB504F3#32

theorem scores_apply (mk : IVec S128x256 1) (b : Vec Ideal S1x128x256 .f32) (q : Vec Ideal S128x128 .f32) (kw : Vec Ideal S256x128 .f32) (i : Fin 128) (j : Fin 256) :
    scores (F := Ideal) mk b q kw (ix2 i j)
      = if mk (ix2 i j) = 1#1 then (∑ e : Fin 128, (q (ix2 i e) * scale) * kw (ix2 j e)) + b (ix3 (0 : Fin 1) i j) else ⊥ := by
  pointwise [scores, scale]
  rfl

theorem rowMax_apply (s : FVec Ideal S128x256 .f32) (i : Fin 128) :
    rowMax (F := Ideal) s (ix2 i (0 : Fin 1)) = Finset.univ.fold max ⊥ (fun j : Fin 256 => s (ix2 i j)) := by
  pointwise [rowMax]
  rw [show Ideal.ofBits .f32 0xFF800000#32 = (⊥ : EReal) by simp [Ideal.ofBits, Ideal.ieee]]

theorem numer_apply (s : FVec Ideal S128x256 .f32) (i : Fin 128) (j : Fin 256) :
    numer (F := Ideal) s (ix2 i j) = Ideal.exp (s (ix2 i j) - rowMax (F := Ideal) s (ix2 i (0 : Fin 1))) := by
  pointwise [numer]

theorem rowSum_apply (s : FVec Ideal S128x256 .f32) (i : Fin 128) :
    rowSum (F := Ideal) s (ix2 i (0 : Fin 1)) = ∑ j : Fin 256, numer (F := Ideal) s (ix2 i j) := by
  pointwise [rowSum]

theorem stO_apply (s : FVec Ideal S128x256 .f32) (vw : Vec Ideal S256x128 .f32) (i d : Fin 128) :
    stO (F := Ideal) s vw (ix3 (0 : Fin 1) i d) = ∑ j : Fin 256, numer (F := Ideal) s (ix2 i j) * vw (ix2 j d) := by
  pointwise [stO]

theorem stC_apply (m : FVec Ideal S128x1 .f32) (i d : Fin 128) :
    stC (F := Ideal) m (ix3 (0 : Fin 1) i d) = m (ix2 i (0 : Fin 1)) := by
  pointwise [stC]

theorem bandM_apply (i : Fin 128) (j : Fin 256) : (bandM (ix2 i j) = 1#1) ↔ i.val ≤ j.val ∧ j.val ≤ i.val + 128 := by
  pointwise [bandM, colI, rowI]
  rw [IntOp.andi_eq_one, WordCmp.cmpi_sge_ofNat_eq_one_iff (by omega) (by omega)]
  rw [show IntOp.addi (BitVec.ofNat 32 i.val) 128#32 = BitVec.ofNat 32 (i.val + 128) by simp [IntOp.addi, BitVec.ofNat_add],
    WordCmp.cmpi_sle_ofNat_eq_one_iff (by omega) (by omega)]

theorem firstM_apply (c : grid0.Coords) (i : Fin 128) (j : Fin 256) :
    (firstM c (ix2 i j) = 1#1) ↔ (i.val ≤ j.val ∧ j.val ≤ i.val + 128) ∧ ((c 1).val = 0 → 128 ≤ j.val) := by
  pointwise [firstM, k0_pay35]
  rw [IntOp.andi_eq_one, bandM_apply]
  refine and_congr_right fun _ => ?_
  have hc : (c 1).val < 8 := (c 1).isLt
  have e : colI (ix2 i j) = BitVec.ofNat 32 j.val := by pointwise [colI]
  rw [e]
  by_cases h0 : (c 1).val = 0
  · rw [h0, show Scalar.select (Scalar.cmpi CmpIPredicate.eq (BitVec.ofNat 32 0) 0#32) 128#32 0#32 = BitVec.ofNat 32 128 by decide,
      WordCmp.cmpi_sge_ofNat_eq_one_iff (by omega) (by omega)]
    simp
  · have hz : Scalar.select (Scalar.cmpi CmpIPredicate.eq (BitVec.ofNat 32 (c 1).val) 0#32) 128#32 0#32 = BitVec.ofNat 32 0 := by
      generalize (c 1).val = n at hc h0
      interval_cases n <;> first | omega | decide
    rw [hz, WordCmp.cmpi_sge_ofNat_eq_one_iff (by omega) (by omega)]
    simp [h0]

/-- Three patterns merged with weights proportional to their denominators. -/
def mix (o0 o1 o2 m0 m1 m2 l0 l1 l2 : EReal) : EReal :=
  Ideal.div (o0 * Ideal.exp (m0 - max (max m0 m1) m2) + o1 * Ideal.exp (m1 - max (max m0 m1) m2) + o2 * Ideal.exp (m2 - max (max m0 m1) m2))
    (l0 * Ideal.exp (m0 - max (max m0 m1) m2) + l1 * Ideal.exp (m1 - max (max m0 m1) m2) + l2 * Ideal.exp (m2 - max (max m0 m1) m2))

theorem merge_apply (o0 o1 o2 m0 m1 m2 l0 l1 l2 : Vec Ideal S1x2048x128 .f32) (u : Fin 2048) (d : Fin 128) :
    merge (F := Ideal) o0 o1 o2 m0 m1 m2 l0 l1 l2 (ix2 u d)
      = mix (o0 (ix3 (0 : Fin 1) u d)) (o1 (ix3 (0 : Fin 1) u d)) (o2 (ix3 (0 : Fin 1) u d)) (m0 (ix3 (0 : Fin 1) u d)) (m1 (ix3 (0 : Fin 1) u d))
          (m2 (ix3 (0 : Fin 1) u d)) (l0 (ix3 (0 : Fin 1) u d)) (l1 (ix3 (0 : Fin 1) u d)) (l2 (ix3 (0 : Fin 1) u d)) := by
  pointwise [mix, merge, k0_pay1, k0_pay412, k0_pay415, k0_pay414, k0_pay413, k0_pay416, k0_pay417]

end Cert.KernelIdeal.Attn

end
-- ==== Proof.Scratch.lean ====
/- What the block stores leave in a scratch array: every row of a pattern's plane lies in exactly one block. -/
module

public import proofs.«01_k».proof.Proof.Tile
public import Idealize.ShloMosaic.Lib.Pointwise

@[expose] public section

noncomputable section

namespace Cert.KernelIdeal.Attn

open Cert.KernelIdeal Cert.KernelIdeal.Gen Idealize.ShloMosaic

variable {F : FTy → Type} [FloatOps F] [Named F] {e : EltTy}

/-- The stores of three patterns' blocks. -/
def three (P0 P1 P2 : Fin 16 → S1x128x128.Idx → Elt F .f32) : List (View.Piece (Elt F) S3x2048x128 .f32) :=
  blocks.map (fun k => ⟨s2 k, P2 k⟩) ++ (blocks.map (fun k => ⟨s1 k, P1 k⟩) ++ blocks.map (fun k => ⟨s0 k, P0 k⟩))

/-- The block of a row, and the row's place in it. -/
def blk0 (u : ℕ) : Fin 16 := Fin.ofNat 16 (u / 128)
def blk1 (u : ℕ) : Fin 16 := Fin.ofNat 16 (4 * (u / 512) + u % 4)
def blk2 (u : ℕ) : Fin 16 := Fin.ofNat 16 (u % 16)
def pos (D u : ℕ) : Fin 128 := Fin.ofNat 128 (u % (128 * D) / D)

/-- The whole scratch array. -/
def filled (P0 P1 P2 : Fin 16 → S1x128x128.Idx → Elt F .f32) : Vec F S3x2048x128 .f32 := fun y =>
  if (y 0).val = 0 then P0 (blk0 (y 1).val) (ix3 (0 : Fin 1) (pos 1 (y 1).val) (y 2 : Fin 128))
  else if (y 0).val = 1 then P1 (blk1 (y 1).val) (ix3 (0 : Fin 1) (pos 4 (y 1).val) (y 2 : Fin 128))
  else P2 (blk2 (y 1).val) (ix3 (0 : Fin 1) (pos 16 (y 1).val) (y 2 : Fin 128))

theorem mem_blocks (k : Fin 16) : k ∈ blocks := by revert k; decide

theorem at_congr (P : Fin 16 → S1x128x128.Idx → Elt F .f32) {k k' : Fin 16} {x : S1x128x128.Idx} {i : Fin 128} {d : Fin 128} (hk : k'.val = k.val)
    (hi : i.val = (x 1).val) (hd : d.val = (x 2).val) : P k x = P k' (ix3 (0 : Fin 1) i d) := by
  obtain rfl : k' = k := Fin.ext hk
  refine congrArg _ (funext fun a => Fin.ext ?_)
  match a with
  | ⟨0, _⟩ => exact (show (x 0).val = 0 by have : (x 0).val < 1 := (x 0).isLt; omega)
  | ⟨1, _⟩ => exact hi.symm
  | ⟨2, _⟩ => exact hd.symm

theorem canon_three (P0 P1 P2 : Fin 16 → S1x128x128.Idx → Elt F .f32) : View.canon (three P0 P1 P2) = filled P0 P1 P2 := by
  funext y
  refine View.canon_apply_of_pieces (filled P0 P1 P2) _ ?_ y ?_
  · intro p hp x
    simp only [three, List.mem_append, List.mem_map] at hp
    rcases hp with ⟨k, -, rfl⟩ | ⟨k, -, rfl⟩ | ⟨k, -, rfl⟩
    · have h0 : (x 0).val < 1 := (x 0).isLt
      have h1 : (x 1).val < 128 := (x 1).isLt
      have e0 : ((s2 k).emb x 0).val = 2 + 1 * (x 0).val := rfl
      have e1 : ((s2 k).emb x 1).val = k.val + 16 * (x 1).val := rfl
      have e2 : ((s2 k).emb x 2).val = 0 + 1 * (x 2).val := rfl
      have hk := k.isLt
      show P2 k x = _
      unfold filled
      rw [if_neg (by dsimp only; omega), if_neg (by dsimp only; omega)]
      refine at_congr P2 ?_ ?_ ?_
      · simp only [blk2, Fin.ofNat]; rw [e1]; omega
      · simp only [pos, Fin.ofNat]; rw [e1]; omega
      · rw [e2]; omega
    · have h0 : (x 0).val < 1 := (x 0).isLt
      have h1 : (x 1).val < 128 := (x 1).isLt
      have e0 : ((s1 k).emb x 0).val = 1 + 1 * (x 0).val := rfl
      have e1 : ((s1 k).emb x 1).val = 512 * (k.val / 4) + k.val % 4 + 4 * (x 1).val := rfl
      have e2 : ((s1 k).emb x 2).val = 0 + 1 * (x 2).val := rfl
      have hk := k.isLt
      show P1 k x = _
      unfold filled
      rw [if_neg (by dsimp only; omega), if_pos (by dsimp only; omega)]
      refine at_congr P1 ?_ ?_ ?_
      · simp only [blk1, Fin.ofNat]; rw [e1]; omega
      · simp only [pos, Fin.ofNat]; rw [e1]; omega
      · rw [e2]; omega
    · have h0 : (x 0).val < 1 := (x 0).isLt
      have h1 : (x 1).val < 128 := (x 1).isLt
      have e0 : ((s0 k).emb x 0).val = 0 + 1 * (x 0).val := rfl
      have e1 : ((s0 k).emb x 1).val = 128 * k.val + 1 * (x 1).val := rfl
      have e2 : ((s0 k).emb x 2).val = 0 + 1 * (x 2).val := rfl
      have hk := k.isLt
      show P0 k x = _
      unfold filled
      rw [if_pos (by dsimp only; omega)]
      refine at_congr P0 ?_ ?_ ?_
      · simp only [blk0, Fin.ofNat]; rw [e1]; omega
      · simp only [pos, Fin.ofNat]; rw [e1]; omega
      · rw [e2]; omega
  · have h0 : (y 0).val < 3 := (y 0).isLt
    have h1 : (y 1).val < 2048 := (y 1).isLt
    have h2 : (y 2).val < 128 := (y 2).isLt
    have : (y 0).val = 0 ∨ (y 0).val = 1 ∨ (y 0).val = 2 := by omega
    rcases this with h | h | h
    · refine ⟨_, List.mem_append_right _ (List.mem_append_right _ (List.mem_map_of_mem (mem_blocks (blk0 (y 1).val)))), ?_⟩
      have hb : (blk0 (y 1).val).val = (y 1).val / 128 := by simp only [blk0, Fin.ofNat]; omega
      refine (s0 _).mem_set.2 fun a => ?_
      match a with
      | ⟨0, _⟩ => exact ⟨0, Nat.one_pos, h⟩
      | ⟨1, _⟩ => exact ⟨(y 1).val % 128, (show (y 1).val % 128 < 128 by omega), (show (y 1).val = 128 * (blk0 (y 1).val).val + 1 * ((y 1).val % 128) by omega)⟩
      | ⟨2, _⟩ => exact ⟨(y 2).val, h2, (show (y 2).val = 0 + 1 * (y 2).val by omega)⟩
    · refine ⟨_, List.mem_append_right _ (List.mem_append_left _ (List.mem_map_of_mem (mem_blocks (blk1 (y 1).val)))), ?_⟩
      have hb : (blk1 (y 1).val).val = 4 * ((y 1).val / 512) + (y 1).val % 4 := by simp only [blk1, Fin.ofNat]; omega
      refine (s1 _).mem_set.2 fun a => ?_
      match a with
      | ⟨0, _⟩ => exact ⟨0, Nat.one_pos, h⟩
      | ⟨1, _⟩ => exact ⟨(y 1).val % 512 / 4, (show (y 1).val % 512 / 4 < 128 by omega),
          (show (y 1).val = 512 * ((blk1 (y 1).val).val / 4) + (blk1 (y 1).val).val % 4 + 4 * ((y 1).val % 512 / 4) by omega)⟩
      | ⟨2, _⟩ => exact ⟨(y 2).val, h2, (show (y 2).val = 0 + 1 * (y 2).val by omega)⟩
    · refine ⟨_, List.mem_append_left _ (List.mem_map_of_mem (mem_blocks (blk2 (y 1).val))), ?_⟩
      have hb : (blk2 (y 1).val).val = (y 1).val % 16 := by simp only [blk2, Fin.ofNat]; omega
      refine (s2 _).mem_set.2 fun a => ?_
      match a with
      | ⟨0, _⟩ => exact ⟨0, Nat.one_pos, h⟩
      | ⟨1, _⟩ => exact ⟨(y 1).val / 16, (show (y 1).val / 16 < 128 by omega), (show (y 1).val = (blk2 (y 1).val).val + 16 * ((y 1).val / 16) by omega)⟩
      | ⟨2, _⟩ => exact ⟨(y 2).val, h2, (show (y 2).val = 0 + 1 * (y 2).val by omega)⟩

/-- A pattern's plane, row by row. -/
theorem filled0 (P0 P1 P2 : Fin 16 → S1x128x128.Idx → Elt F .f32) (u : Fin 2048) (d : Fin 128) :
    filled P0 P1 P2 (pl0.idx (ix3 (0 : Fin 1) u d)) = P0 (blk0 u.val) (ix3 (0 : Fin 1) (pos 1 u.val) d) := by
  have e1 : (pl0.idx (ix3 (0 : Fin 1) u d) 1).val = 0 + 1 * u.val := rfl
  refine (if_pos rfl).trans ?_
  rw [e1, Nat.zero_add, Nat.one_mul]
  refine congrArg _ (congrArg _ (Fin.ext (show 0 + 1 * d.val = d.val by omega)))

theorem filled1 (P0 P1 P2 : Fin 16 → S1x128x128.Idx → Elt F .f32) (u : Fin 2048) (d : Fin 128) :
    filled P0 P1 P2 (pl1.idx (ix3 (0 : Fin 1) u d)) = P1 (blk1 u.val) (ix3 (0 : Fin 1) (pos 4 u.val) d) := by
  have e1 : (pl1.idx (ix3 (0 : Fin 1) u d) 1).val = 0 + 1 * u.val := rfl
  refine (if_neg (show ¬ (1 + 1 * 0 = 0) by omega)).trans ((if_pos rfl).trans ?_)
  rw [e1, Nat.zero_add, Nat.one_mul]
  refine congrArg _ (congrArg _ (Fin.ext (show 0 + 1 * d.val = d.val by omega)))

theorem filled2 (P0 P1 P2 : Fin 16 → S1x128x128.Idx → Elt F .f32) (u : Fin 2048) (d : Fin 128) :
    filled P0 P1 P2 (pl2.idx (ix3 (0 : Fin 1) u d)) = P2 (blk2 u.val) (ix3 (0 : Fin 1) (pos 16 u.val) d) := by
  have e1 : (pl2.idx (ix3 (0 : Fin 1) u d) 1).val = 0 + 1 * u.val := rfl
  refine (if_neg (show ¬ (2 + 1 * 0 = 0) by omega)).trans ((if_neg (show ¬ (2 + 1 * 0 = 1) by omega)).trans ?_)
  rw [e1, Nat.zero_add, Nat.one_mul]
  refine congrArg _ (congrArg _ (Fin.ext (show 0 + 1 * d.val = d.val by omega)))

end Cert.KernelIdeal.Attn

end
-- ==== Proof.TileValue.lean ====
/- A tile's result over the extended reals, entry by entry: for each pattern the softmax numerators of one row of scores, their sum and
   their product with the values; the three patterns merged. -/
module

public import proofs.«01_k».proof.Proof.Score
public import proofs.«01_k».proof.Proof.Scratch

@[expose] public section

noncomputable section

namespace Cert.KernelIdeal.Attn

open Cert.KernelIdeal Cert.KernelIdeal.Gen Idealize.ShloMosaic

/-- Of one row of scores: the maximum, the numerators, their sum, their product with a column of values. -/
def rmax (s : Fin 256 → EReal) : EReal := Finset.univ.fold max ⊥ s
def rnum (s : Fin 256 → EReal) (j : Fin 256) : EReal := Ideal.exp (s j - rmax s)
def rsum (s : Fin 256 → EReal) : EReal := ∑ j, rnum s j
def rout (s v : Fin 256 → EReal) : EReal := ∑ j, rnum s j * v j

theorem beq_zero_of_ne {n : ℕ} (h : ¬ n = 0) : Nat.beq n 0 = false := by
  cases n with
  | zero => exact absurd rfl h
  | succ n => rfl

theorem mix_congr {o0 o1 o2 m0 m1 m2 l0 l1 l2 o0' o1' o2' m0' m1' m2' l0' l1' l2' : EReal} (h1 : o0 = o0') (h2 : o1 = o1') (h3 : o2 = o2')
    (h4 : m0 = m0') (h5 : m1 = m1') (h6 : m2 = m2') (h7 : l0 = l0') (h8 : l1 = l1') (h9 : l2 = l2') :
    mix o0 o1 o2 m0 m1 m2 l0 l1 l2 = mix o0' o1' o2' m0' m1' m2' l0' l1' l2' := by
  rw [h1, h2, h3, h4, h5, h6, h7, h8, h9]

/-- The merge of three rows of scores with their values. -/
def rmix (s0 s1 s2 v0 v1 v2 : Fin 256 → EReal) : EReal :=
  mix (rout s0 v0) (rout s1 v1) (rout s2 v2) (rmax s0) (rmax s1) (rmax s2) (rsum s0) (rsum s1) (rsum s2)

/-- The row of the pair of tiles that holds key `j` of row `u`, at distance `D` between keys. -/
def keyRow (D u j : ℕ) : Fin 4096 := Fin.ofNat 4096 (u - D * (u % (128 * D) / D) + (2048 - 128 * D) + D * j)

/-- A row's scores in pattern `p`, of distance `D`; `t` is the tile's number. -/
def tsc (p : Fin 3) (D t : ℕ) (bias : Vec Ideal S3x128x256 .f32) (q : Vec Ideal S2048x128 .f32) (kb : Vec Ideal S4096x128 .f32) (u : Fin 2048) (j : Fin 256) : EReal :=
  if ((pos D u.val).val ≤ j.val ∧ j.val ≤ (pos D u.val).val + 128) ∧ (t = 0 ∧ u.val / (128 * D) = 0 → 128 ≤ j.val) then
    (∑ x : Fin 128, (q (ix2 u x) * scale) * kb (ix2 (keyRow D u.val j.val) x)) + bias (ix3 p (pos D u.val) j)
  else ⊥

theorem scores_row (mk : IVec S128x256 1) (p : Fin 3) (D t : ℕ) (bias : Vec Ideal S3x128x256 .f32) (q : Vec Ideal S2048x128 .f32) (kb : Vec Ideal S4096x128 .f32) (u : Fin 2048)
    (rq : LoadRect S2048x128) (rk : LoadRect S4096x128) (hq : rq.shape = S128x128) (hk : rk.shape = S256x128)
    (bq : Vec Ideal S128x128 .f32) (bk : Vec Ideal S256x128 .f32)
    (h1 : ∀ x : Fin 128, bq (ix2 (pos D u.val) x) = q (ix2 u x))
    (h2 : ∀ (j : Fin 256) (x : Fin 128), bk (ix2 j x) = kb (ix2 (keyRow D u.val j.val) x))
    (h3 : ∀ j : Fin 256, mk (ix2 (pos D u.val) j) = 1#1 ↔
      ((pos D u.val).val ≤ j.val ∧ j.val ≤ (pos D u.val).val + 128) ∧ (t = 0 ∧ u.val / (128 * D) = 0 → 128 ≤ j.val)) (j : Fin 256) :
    scores (F := Ideal) mk (plane bias p) bq bk (ix2 (pos D u.val) j) = tsc p D t bias q kb u j := by
  rw [scores_apply]
  unfold tsc
  simp only [h1, h2, h3]
  rfl

/-- The stored pieces of a block whose row `i` of scores is `s`. -/
theorem stO_row (sc : FVec Ideal S128x256 .f32) (vw : Vec Ideal S256x128 .f32) (i d : Fin 128) (s v : Fin 256 → EReal)
    (hs : ∀ j, sc (ix2 i j) = s j) (hv : ∀ j, vw (ix2 j d) = v j) : stO (F := Ideal) sc vw (ix3 (0 : Fin 1) i d) = rout s v := by
  rw [stO_apply]
  refine Finset.sum_congr rfl fun j _ => ?_
  rw [numer_apply, rowMax_apply, hv, hs]
  simp only [hs]
  rfl

theorem stM_row (sc : FVec Ideal S128x256 .f32) (i d : Fin 128) (s : Fin 256 → EReal)
    (hs : ∀ j, sc (ix2 i j) = s j) : stC (F := Ideal) (rowMax (F := Ideal) sc) (ix3 (0 : Fin 1) i d) = rmax s := by
  rw [stC_apply, rowMax_apply]
  simp only [hs]
  rfl

theorem stL_row (sc : FVec Ideal S128x256 .f32) (i d : Fin 128) (s : Fin 256 → EReal)
    (hs : ∀ j, sc (ix2 i j) = s j) : stC (F := Ideal) (rowSum (F := Ideal) sc) (ix3 (0 : Fin 1) i d) = rsum s := by
  rw [stC_apply, rowSum_apply]
  refine Finset.sum_congr rfl fun j _ => ?_
  rw [numer_apply, rowMax_apply, hs]
  simp only [hs]
  rfl

section

variable (c : grid0.Coords) (bias : Vec Ideal S3x128x256 .f32) (q : Vec Ideal S2048x128 .f32) (kb vb : Vec Ideal S4096x128 .f32) (u : Fin 2048)

theorem sc0_row (j : Fin 256) :
    sc0 (F := Ideal) (firstM c) (plane bias 0) (fun r j => q (r.idx j)) (fun r j => kb (r.idx j)) (blk0 u.val) (ix2 (pos 1 u.val) j)
      = tsc 0 1 (c 1).val bias q kb u j := by
  have hb : (blk0 u.val).val = u.val / 128 := by simp only [blk0, Fin.ofNat]; omega
  have hp : (pos 1 u.val).val = u.val % 128 := by simp only [pos, Fin.ofNat]; omega
  refine scores_row _ 0 1 _ bias q kb u (q0 (blk0 u.val)) (k0 (blk0 u.val)) rfl rfl _ _ ?_ ?_ ?_ j
  · intro x
    refine congrArg q (funext fun a => Fin.ext ?_)
    match a with
    | ⟨0, _⟩ => exact (show 128 * (blk0 u.val).val + 1 * (pos 1 u.val).val = u.val by omega)
    | ⟨1, _⟩ => exact (show 0 + 1 * x.val = x.val by omega)
  · intro j x
    refine congrArg kb (funext fun a => Fin.ext ?_)
    match a with
    | ⟨0, _⟩ => exact (show 1920 + 128 * (blk0 u.val).val + 1 * j.val = (keyRow 1 u.val j.val).val by
        simp only [keyRow, Fin.ofNat]; omega)
    | ⟨1, _⟩ => exact (show 0 + 1 * x.val = x.val by omega)
  · intro j
    unfold mk0
    by_cases h : (blk0 u.val).val = 0
    · rw [h]
      refine (firstM_apply c _ j).trans ?_
      rw [show (u.val / (128 * 1) = 0) = True from eq_true (by omega), and_true]
    · rw [show Nat.beq (blk0 u.val).val 0 = false from beq_zero_of_ne h]
      refine (bandM_apply _ j).trans ?_
      rw [show (u.val / (128 * 1) = 0) = False from eq_false (by omega), and_false]
      simp

theorem sc1_row (j : Fin 256) :
    sc1 (F := Ideal) (firstM c) (plane bias 1) (fun r j => q (r.idx j)) (fun r j => kb (r.idx j)) (blk1 u.val) (ix2 (pos 4 u.val) j)
      = tsc 1 4 (c 1).val bias q kb u j := by
  have hb : (blk1 u.val).val = 4 * (u.val / 512) + u.val % 4 := by simp only [blk1, Fin.ofNat]; omega
  have hp : (pos 4 u.val).val = u.val % 512 / 4 := by simp only [pos, Fin.ofNat]; omega
  have ha : at1 (blk1 u.val) = 512 * (u.val / 512) + u.val % 4 := by unfold at1; omega
  refine scores_row _ 1 4 _ bias q kb u (q1 (blk1 u.val)) (k1 (blk1 u.val)) rfl rfl _ _ ?_ ?_ ?_ j
  · intro x
    refine congrArg q (funext fun a => Fin.ext ?_)
    match a with
    | ⟨0, _⟩ => exact (show at1 (blk1 u.val) + 4 * (pos 4 u.val).val = u.val by omega)
    | ⟨1, _⟩ => exact (show 0 + 1 * x.val = x.val by omega)
  · intro j x
    refine congrArg kb (funext fun a => Fin.ext ?_)
    match a with
    | ⟨0, _⟩ => exact (show 1536 + at1 (blk1 u.val) + 4 * j.val = (keyRow 4 u.val j.val).val by
        simp only [keyRow, Fin.ofNat]; omega)
    | ⟨1, _⟩ => exact (show 0 + 1 * x.val = x.val by omega)
  · intro j
    unfold mk1
    by_cases h : (blk1 u.val).val / 4 = 0
    · rw [h]
      refine (firstM_apply c _ j).trans ?_
      rw [show (u.val / (128 * 4) = 0) = True from eq_true (by omega), and_true]
    · rw [show Nat.beq ((blk1 u.val).val / 4) 0 = false from beq_zero_of_ne h]
      refine (bandM_apply _ j).trans ?_
      rw [show (u.val / (128 * 4) = 0) = False from eq_false (by omega), and_false]
      simp

theorem sc2_row (j : Fin 256) :
    sc2 (F := Ideal) (firstM c) (plane bias 2) (fun r j => q (r.idx j)) (fun r j => kb (r.idx j)) (blk2 u.val) (ix2 (pos 16 u.val) j)
      = tsc 2 16 (c 1).val bias q kb u j := by
  have hb : (blk2 u.val).val = u.val % 16 := by simp only [blk2, Fin.ofNat]; omega
  have hp : (pos 16 u.val).val = u.val / 16 := by simp only [pos, Fin.ofNat]; omega
  refine scores_row _ 2 16 _ bias q kb u (q2 (blk2 u.val)) (k2 (blk2 u.val)) rfl rfl _ _ ?_ ?_ ?_ j
  · intro x
    refine congrArg q (funext fun a => Fin.ext ?_)
    match a with
    | ⟨0, _⟩ => exact (show (blk2 u.val).val + 16 * (pos 16 u.val).val = u.val by omega)
    | ⟨1, _⟩ => exact (show 0 + 1 * x.val = x.val by omega)
  · intro j x
    refine congrArg kb (funext fun a => Fin.ext ?_)
    match a with
    | ⟨0, _⟩ => exact (show (blk2 u.val).val + 16 * j.val = (keyRow 16 u.val j.val).val by
        simp only [keyRow, Fin.ofNat]; omega)
    | ⟨1, _⟩ => exact (show 0 + 1 * x.val = x.val by omega)
  · intro j
    refine (firstM_apply c _ j).trans ?_
    rw [show (u.val / (128 * 16) = 0) = True from eq_true (by omega), and_true]

/-- A column of values as a row of pattern `D` reads it. -/
def tval (D : ℕ) (d : Fin 128) (j : Fin 256) : EReal := vb (ix2 (keyRow D u.val j.val) d)

theorem v0_row (d : Fin 128) (j : Fin 256) : vb ((k0 (blk0 u.val)).idx (ix2 j d)) = tval vb u 1 d j := by
  have hb : (blk0 u.val).val = u.val / 128 := by simp only [blk0, Fin.ofNat]; omega
  refine congrArg vb (funext fun a => Fin.ext ?_)
  match a with
  | ⟨0, _⟩ => exact (show 1920 + 128 * (blk0 u.val).val + 1 * j.val = (keyRow 1 u.val j.val).val by
        simp only [keyRow, Fin.ofNat]; omega)
  | ⟨1, _⟩ => exact (show 0 + 1 * d.val = d.val by omega)

theorem v1_row (d : Fin 128) (j : Fin 256) : vb ((k1 (blk1 u.val)).idx (ix2 j d)) = tval vb u 4 d j := by
  have hb : (blk1 u.val).val = 4 * (u.val / 512) + u.val % 4 := by simp only [blk1, Fin.ofNat]; omega
  have ha : at1 (blk1 u.val) = 512 * (u.val / 512) + u.val % 4 := by unfold at1; omega
  refine congrArg vb (funext fun a => Fin.ext ?_)
  match a with
  | ⟨0, _⟩ => exact (show 1536 + at1 (blk1 u.val) + 4 * j.val = (keyRow 4 u.val j.val).val by
        simp only [keyRow, Fin.ofNat]; omega)
  | ⟨1, _⟩ => exact (show 0 + 1 * d.val = d.val by omega)

theorem v2_row (d : Fin 128) (j : Fin 256) : vb ((k2 (blk2 u.val)).idx (ix2 j d)) = tval vb u 16 d j := by
  have hb : (blk2 u.val).val = u.val % 16 := by simp only [blk2, Fin.ofNat]; omega
  refine congrArg vb (funext fun a => Fin.ext ?_)
  match a with
  | ⟨0, _⟩ => exact (show (blk2 u.val).val + 16 * j.val = (keyRow 16 u.val j.val).val by
        simp only [keyRow, Fin.ofNat]; omega)
  | ⟨1, _⟩ => exact (show 0 + 1 * d.val = d.val by omega)

/-- A tile's result, entry by entry. -/
theorem tile_apply (d : Fin 128) :
    tile (F := Ideal) (firstM c) bias q kb vb (ix2 u d)
      = rmix (tsc 0 1 (c 1).val bias q kb u) (tsc 1 4 (c 1).val bias q kb u) (tsc 2 16 (c 1).val bias q kb u)
          (tval vb u 1 d) (tval vb u 4 d) (tval vb u 16 d) := by
  have eo := canon_three (F := Ideal)
    (fun k => stO (sc0 (firstM c) (plane bias 0) (fun r j => q (r.idx j)) (fun r j => kb (r.idx j)) k) (fun j => vb ((k0 k).idx j)))
    (fun k => stO (sc1 (firstM c) (plane bias 1) (fun r j => q (r.idx j)) (fun r j => kb (r.idx j)) k) (fun j => vb ((k1 k).idx j)))
    (fun k => stO (sc2 (firstM c) (plane bias 2) (fun r j => q (r.idx j)) (fun r j => kb (r.idx j)) k) (fun j => vb ((k2 k).idx j)))
  have em := canon_three (F := Ideal)
    (fun k => stC (rowMax (sc0 (firstM c) (plane bias 0) (fun r j => q (r.idx j)) (fun r j => kb (r.idx j)) k)))
    (fun k => stC (rowMax (sc1 (firstM c) (plane bias 1) (fun r j => q (r.idx j)) (fun r j => kb (r.idx j)) k)))
    (fun k => stC (rowMax (sc2 (firstM c) (plane bias 2) (fun r j => q (r.idx j)) (fun r j => kb (r.idx j)) k)))
  have el := canon_three (F := Ideal)
    (fun k => stC (rowSum (sc0 (firstM c) (plane bias 0) (fun r j => q (r.idx j)) (fun r j => kb (r.idx j)) k)))
    (fun k => stC (rowSum (sc1 (firstM c) (plane bias 1) (fun r j => q (r.idx j)) (fun r j => kb (r.idx j)) k)))
    (fun k => stC (rowSum (sc2 (firstM c) (plane bias 2) (fun r j => q (r.idx j)) (fun r j => kb (r.idx j)) k)))
  unfold tile
  rw [merge_apply]
  rw [show oS (firstM c) bias q kb vb = _ from eo, show mS (firstM c) bias q kb = _ from em, show lS (firstM c) bias q kb = _ from el]
  simp only [filled0, filled1, filled2]
  unfold rmix
  refine mix_congr ?_ ?_ ?_ ?_ ?_ ?_ ?_ ?_ ?_
  · exact stO_row _ _ _ _ _ _ (sc0_row c bias q kb u) (v0_row vb u d)
  · exact stO_row _ _ _ _ _ _ (sc1_row c bias q kb u) (v1_row vb u d)
  · exact stO_row _ _ _ _ _ _ (sc2_row c bias q kb u) (v2_row vb u d)
  · exact stM_row _ _ _ _ (sc0_row c bias q kb u)
  · exact stM_row _ _ _ _ (sc1_row c bias q kb u)
  · exact stM_row _ _ _ _ (sc2_row c bias q kb u)
  · exact stL_row _ _ _ _ (sc0_row c bias q kb u)
  · exact stL_row _ _ _ _ (sc1_row c bias q kb u)
  · exact stL_row _ _ _ _ (sc2_row c bias q kb u)

end

end Cert.KernelIdeal.Attn

end
-- ==== Proof.BucketReal.lean ====
/- The relative-position buckets over the real numbers: the logarithmic formula that buckets a distance, written as a table of thresholds. -/
module

public import Mathlib.Analysis.SpecialFunctions.Log.Basic
public import Mathlib.Analysis.Complex.Exponential
public import Mathlib.Tactic.NormNum
public import Mathlib.Tactic.Linarith

@[expose] public section

namespace Cert.Bucket

/-- The bucket of a distance: itself below 16, then logarithmic steps up to 31. -/
def bucket (d : ℕ) : ℕ :=
  if d < 16 then d else if d < 22 then 16 else if d < 30 then 17 else if d < 40 then 18 else if d < 54 then 19
  else if d < 73 then 20 else if d < 99 then 21 else if d < 134 then 22 else if d < 182 then 23 else if d < 246 then 24
  else if d < 332 then 25 else if d < 450 then 26 else if d < 609 then 27 else if d < 825 then 28 else if d < 1117 then 29
  else if d < 1513 then 30 else 31

theorem ite_lt_of {p : Prop} [Decidable p] {a b : ℕ} (ha : a < 32) (hb : b < 32) : (if p then a else b) < 32 := by
  split_ifs <;> assumption

theorem bucket_lt (d : ℕ) : bucket d < 32 := by
  unfold bucket
  by_cases h : d < 16
  · rw [if_pos h]; omega
  · rw [if_neg h]
    repeat' first | refine ite_lt_of ?_ ?_
    all_goals norm_num

/-- The divisor of the formula: the single-precision number nearest to the logarithm of 128. -/
noncomputable def c : ℝ := 10175445 / 2097152

theorem c_pos : 0 < c := by unfold c; norm_num

theorem log_two_lt : Real.log 2 < 0.6931471808 := by
  rw [Real.log_lt_iff_lt_exp (by norm_num)]
  refine lt_of_lt_of_le ?_ (Real.sum_le_exp_of_nonneg (by norm_num) 13)
  norm_num [Finset.sum_range_succ, Nat.factorial]

theorem log_two_gt : 0.6931471803 < Real.log 2 := by
  rw [Real.lt_log_iff_exp_lt (by norm_num)]
  refine lt_of_le_of_lt (Real.exp_bound' (by norm_num) (by norm_num) (n := 13) (by norm_num)) ?_
  norm_num [Finset.sum_range_succ, Nat.factorial]

theorem c_ge : 7 * Real.log 2 ≤ c := by have := log_two_lt; unfold c; linarith

theorem c_le : c ≤ 7 * Real.log 2 + 1 / 10000000 := by have := log_two_gt; unfold c; linarith

/-- The exponent the formula adds to 16. -/
noncomputable def ratio (d : ℕ) : ℝ := Real.log ((d : ℝ) / 16) / c * 16

theorem ratio_ge (m T d : ℕ) (hm : m ≤ 15) (hT : (2 : ℝ) ^ (7 * m) * (1 + 1 / 100000) ≤ ((T : ℝ) / 16) ^ 16) (h : T ≤ d) :
    (m : ℝ) ≤ ratio d := by
  have hd : ((T : ℝ) / 16) ^ 16 ≤ ((d : ℝ) / 16) ^ 16 := by
    have : (T : ℝ) ≤ d := by exact_mod_cast h
    gcongr
  have h1 := Real.log_le_log (by positivity) (hT.trans hd)
  rw [Real.log_pow, Real.log_mul (by positivity) (by norm_num), Real.log_pow] at h1
  have h2 := Real.one_sub_inv_le_log_of_pos (show (0 : ℝ) < 1 + 1 / 100000 by norm_num)
  have h3 : (1 : ℝ) / 200000 ≤ 1 - (1 + 1 / 100000)⁻¹ := by norm_num
  have hmR : (m : ℝ) ≤ 15 := by exact_mod_cast hm
  have h0 : (0 : ℝ) ≤ m := by positivity
  have h4 : (m : ℝ) * c ≤ Real.log ((d : ℝ) / 16) * 16 := by
    have := mul_le_mul_of_nonneg_left c_le h0
    push_cast at h1
    nlinarith
  unfold ratio
  rw [div_mul_eq_mul_div, le_div_iff₀ c_pos]
  exact h4

theorem ratio_lt (m T d : ℕ) (hT : ((T : ℝ) / 16) ^ 16 < (2 : ℝ) ^ (7 * m)) (h : d ≤ T) (h16 : 16 ≤ d) : ratio d < m := by
  have hd0 : (16 : ℝ) ≤ d := by exact_mod_cast h16
  have hd : ((d : ℝ) / 16) ^ 16 ≤ ((T : ℝ) / 16) ^ 16 := by
    have : (d : ℝ) ≤ T := by exact_mod_cast h
    gcongr
  have h1 := Real.log_lt_log (by positivity) (hd.trans_lt hT)
  rw [Real.log_pow, Real.log_pow] at h1
  have h0 : (0 : ℝ) ≤ m := by positivity
  unfold ratio
  rw [div_mul_eq_mul_div, div_lt_iff₀ c_pos]
  have := mul_le_mul_of_nonneg_left c_ge h0
  push_cast at h1
  nlinarith

theorem ratio_nonneg (d : ℕ) (h : 16 ≤ d) : 0 ≤ ratio d := by
  have hd0 : (16 : ℝ) ≤ d := by exact_mod_cast h
  unfold ratio
  have := Real.log_nonneg (show (1 : ℝ) ≤ (d : ℝ) / 16 by rw [le_div_iff₀ (by norm_num)]; linarith)
  have := c_pos
  positivity

theorem floor_eq (m T U d : ℕ) (hm : m ≤ 15) (hT : (2 : ℝ) ^ (7 * m) * (1 + 1 / 100000) ≤ ((T : ℝ) / 16) ^ 16)
    (hU : ((U : ℝ) / 16) ^ 16 < (2 : ℝ) ^ (7 * (m + 1))) (h : T ≤ d) (h' : d ≤ U) (h16 : 16 ≤ d) : ⌊ratio d⌋ = m := by
  rw [Int.floor_eq_iff]
  have h1 := ratio_ge m T d hm hT h
  have h2 := ratio_lt (m + 1) U d hU h' h16
  push_cast at h2 ⊢
  exact ⟨h1, h2⟩

theorem formula_mid (m T U d : ℕ) (hm : m ≤ 15) (hT : (2 : ℝ) ^ (7 * m) * (1 + 1 / 100000) ≤ ((T : ℝ) / 16) ^ 16)
    (hU : ((U : ℝ) / 16) ^ 16 < (2 : ℝ) ^ (7 * (m + 1))) (h : T ≤ d) (h' : d ≤ U) (h16 : 16 ≤ d) (hb : bucket d = 16 + m) :
    min (16 + ⌊ratio d⌋) 31 = (bucket d : ℤ) := by
  rw [floor_eq m T U d hm hT hU h h' h16, hb]
  omega

theorem formula_low (d : ℕ) (h : 16 ≤ d) (h' : d < 22) : min (16 + ⌊ratio d⌋) 31 = (bucket d : ℤ) := by
  have h1 : ⌊ratio d⌋ = 0 := by
    rw [Int.floor_eq_iff]
    have h2 := ratio_lt 1 21 d (by norm_num) (by omega) h
    push_cast at h2 ⊢
    exact ⟨ratio_nonneg d h, by linarith⟩
  have hb : bucket d = 16 := by unfold bucket; repeat (first | rw [if_neg (by omega)] | rw [if_pos (by omega)])
  rw [h1, hb]; rfl

theorem formula_high (d : ℕ) (h : 1513 ≤ d) : min (16 + ⌊ratio d⌋) 31 = (bucket d : ℤ) := by
  have h1 := ratio_ge 15 1513 d (by norm_num) (by norm_num) (by omega)
  have h2 : (15 : ℤ) ≤ ⌊ratio d⌋ := Int.le_floor.mpr (by exact_mod_cast h1)
  have hb : bucket d = 31 := by unfold bucket; repeat (first | rw [if_neg (by omega)] | rw [if_pos (by omega)])
  rw [hb]; omega

/-- The logarithmic formula, floored and capped at 31, is the table. -/
theorem formula (d : ℕ) (h : 16 ≤ d) : min (16 + ⌊ratio d⌋) 31 = (bucket d : ℤ) := by
  by_cases h1 : d < 22
  · exact formula_low d h h1
  by_cases h2 : d < 30
  · exact formula_mid 1 22 29 d (by norm_num) (by norm_num) (by norm_num) (by omega) (by omega) h (by unfold bucket; repeat (first | rw [if_neg (by omega)] | rw [if_pos (by omega)]))
  by_cases h3 : d < 40
  · exact formula_mid 2 30 39 d (by norm_num) (by norm_num) (by norm_num) (by omega) (by omega) h (by unfold bucket; repeat (first | rw [if_neg (by omega)] | rw [if_pos (by omega)]))
  by_cases h4 : d < 54
  · exact formula_mid 3 40 53 d (by norm_num) (by norm_num) (by norm_num) (by omega) (by omega) h (by unfold bucket; repeat (first | rw [if_neg (by omega)] | rw [if_pos (by omega)]))
  by_cases h5 : d < 73
  · exact formula_mid 4 54 72 d (by norm_num) (by norm_num) (by norm_num) (by omega) (by omega) h (by unfold bucket; repeat (first | rw [if_neg (by omega)] | rw [if_pos (by omega)]))
  by_cases h6 : d < 99
  · exact formula_mid 5 73 98 d (by norm_num) (by norm_num) (by norm_num) (by omega) (by omega) h (by unfold bucket; repeat (first | rw [if_neg (by omega)] | rw [if_pos (by omega)]))
  by_cases h7 : d < 134
  · exact formula_mid 6 99 133 d (by norm_num) (by norm_num) (by norm_num) (by omega) (by omega) h (by unfold bucket; repeat (first | rw [if_neg (by omega)] | rw [if_pos (by omega)]))
  by_cases h8 : d < 182
  · exact formula_mid 7 134 181 d (by norm_num) (by norm_num) (by norm_num) (by omega) (by omega) h (by unfold bucket; repeat (first | rw [if_neg (by omega)] | rw [if_pos (by omega)]))
  by_cases h9 : d < 246
  · exact formula_mid 8 182 245 d (by norm_num) (by norm_num) (by norm_num) (by omega) (by omega) h (by unfold bucket; repeat (first | rw [if_neg (by omega)] | rw [if_pos (by omega)]))
  by_cases h10 : d < 332
  · exact formula_mid 9 246 331 d (by norm_num) (by norm_num) (by norm_num) (by omega) (by omega) h (by unfold bucket; repeat (first | rw [if_neg (by omega)] | rw [if_pos (by omega)]))
  by_cases h11 : d < 450
  · exact formula_mid 10 332 449 d (by norm_num) (by norm_num) (by norm_num) (by omega) (by omega) h (by unfold bucket; repeat (first | rw [if_neg (by omega)] | rw [if_pos (by omega)]))
  by_cases h12 : d < 609
  · exact formula_mid 11 450 608 d (by norm_num) (by norm_num) (by norm_num) (by omega) (by omega) h (by unfold bucket; repeat (first | rw [if_neg (by omega)] | rw [if_pos (by omega)]))
  by_cases h13 : d < 825
  · exact formula_mid 12 609 824 d (by norm_num) (by norm_num) (by norm_num) (by omega) (by omega) h (by unfold bucket; repeat (first | rw [if_neg (by omega)] | rw [if_pos (by omega)]))
  by_cases h14 : d < 1117
  · exact formula_mid 13 825 1116 d (by norm_num) (by norm_num) (by norm_num) (by omega) (by omega) h (by unfold bucket; repeat (first | rw [if_neg (by omega)] | rw [if_pos (by omega)]))
  by_cases h15 : d < 1513
  · exact formula_mid 14 1117 1512 d (by norm_num) (by norm_num) (by norm_num) (by omega) (by omega) h (by unfold bucket; repeat (first | rw [if_neg (by omega)] | rw [if_pos (by omega)]))
  exact formula_high d (by omega)

/-- The floor the formula takes is between 0 and 200 for the distances that occur. -/
theorem floor_bounds (d : ℕ) (h : 16 ≤ d) : 0 ≤ ⌊ratio d⌋ := Int.floor_nonneg.mpr (ratio_nonneg d h)

end Cert.Bucket

end
-- ==== Proof.Spec.lean ====
/- The attention as one function of the projected rows and the bias weights: both programs compute it. -/
module

public import proofs.«01_k».proof.Proof.TileValue
public import proofs.«01_k».proof.Proof.BucketReal

@[expose] public section

noncomputable section

namespace Cert.KernelIdeal.Attn

open Cert.KernelIdeal Idealize.ShloMosaic

theorem rout_congr (s v v' : Fin 256 → EReal) (h : ∀ j, s j ≠ ⊥ → v j = v' j) : rout s v = rout s v' := by
  refine Finset.sum_congr rfl fun j _ => ?_
  by_cases hj : s j = ⊥
  · have h0 : rnum s j = 0 := by
      unfold rnum
      rw [hj, sub_eq_add_neg, EReal.bot_add]
      rfl
    rw [h0, zero_mul, zero_mul]
  · rw [h j hj]

/-- A masked key's value is not used. -/
theorem rmix_congr {s0 s1 s2 v0 v1 v2 s0' s1' s2' v0' v1' v2' : Fin 256 → EReal} (h0 : ∀ j, s0 j = s0' j) (h1 : ∀ j, s1 j = s1' j) (h2 : ∀ j, s2 j = s2' j)
    (g0 : ∀ j, s0' j ≠ ⊥ → v0 j = v0' j) (g1 : ∀ j, s1' j ≠ ⊥ → v1 j = v1' j) (g2 : ∀ j, s2' j ≠ ⊥ → v2 j = v2' j) :
    rmix s0 s1 s2 v0 v1 v2 = rmix s0' s1' s2' v0' v1' v2' := by
  obtain rfl : s0 = s0' := funext h0
  obtain rfl : s1 = s1' := funext h1
  obtain rfl : s2 = s2' := funext h2
  unfold rmix
  rw [rout_congr s0 v0 v0' g0, rout_congr s1 v1 v1' g1, rout_congr s2 v2 v2' g2]

variable (P : Vec Ideal S16384x3072 .f32) (B : Vec Ideal S32x8 .f32)

/-- The projected row `g` at column `x`. -/
def atP (g x : ℕ) : EReal := P (ix2 (Fin.ofNat 16384 g) (Fin.ofNat 3072 x))

/-- The weight of bucket `b` in head `h`. -/
def atB (b h : ℕ) : EReal := B (ix2 (Fin.ofNat 32 b) (Fin.ofNat 8 h))

/-- Query `g` sees key `j` of its two blocks: it is in the band, and there is a block before the first none. -/
def sees (D g j : ℕ) : Prop :=
  (g % (128 * D) / D ≤ j ∧ j ≤ g % (128 * D) / D + 128) ∧ (g / (128 * D) = 0 → 128 ≤ j)

instance (D g j : ℕ) : Decidable (sees D g j) := by unfold sees; infer_instance

/-- The row that holds key `j` of query `g`. -/
def gkey (D g j : ℕ) : ℕ := g + D * j - D * (g % (128 * D) / D + 128)

/-- The score of key `j` for query `g` in head `h`, at distance `D` between keys. -/
def gsc (D h g : ℕ) (j : Fin 256) : EReal :=
  if sees D g j.val then
    (∑ x : Fin 128, (atP P g (128 * h + x.val) * scale) * atP P (gkey D g j.val) (1024 + 128 * h + x.val))
      + atB B (Bucket.bucket (D * (g % (128 * D) / D + 128 - j.val))) h
  else ⊥

/-- The value of key `j`. -/
def gval (D h g d : ℕ) (j : Fin 256) : EReal := atP P (gkey D g j.val) (2048 + 128 * h + d)

/-- The attention's result for query `g`, head `h`, entry `d`. -/
def attn (g h d : ℕ) : EReal :=
  rmix (gsc P B 1 h g) (gsc P B 4 h g) (gsc P B 16 h g) (gval P 1 h g d) (gval P 4 h g d) (gval P 16 h g d)

theorem sees_of_ne {D h g : ℕ} {j : Fin 256} (hs : gsc P B D h g j ≠ ⊥) : sees D g j.val := by
  by_contra hc
  exact hs (if_neg hc)

end Cert.KernelIdeal.Attn

end
-- ==== Proof.Bias.lean ====
/- The bias planes that the first tile of a head writes: the weight of the bucket that the table holds. -/
module

public import proofs.«01_k».proof.Proof.Tile

@[expose] public section

noncomputable section

namespace Cert.KernelIdeal.Attn

open Cert.KernelIdeal Cert.KernelIdeal.Gen Idealize.ShloMosaic

variable {F : FTy → Type} [FloatOps F] [Named F]

/-- Where the weight of bucket `b` for the point's head lies. -/
def offB (i : grid0.Coords) (b : Fin 32) : Fin 2 → ℕ := ![b.val, (BitVec.ofNat 32 (i 0).val).toNat]

theorem head_word (i : grid0.Coords) : (BitVec.ofNat 32 (i 0).val).toNat = (i 0).val := by
  have : (i 0).val < 8 := (i 0).isLt
  rw [BitVec.toNat_ofNat]; omega

theorem offB_inb (i : grid0.Coords) (b : Fin 32) (a : Fin 2) : offB i b a + S1x1.size a ≤ S32x8.size a := by
  have h : (i 0).val < 8 := (i 0).isLt
  match a with
  | ⟨0, _⟩ => exact (show b.val + 1 ≤ 32 by omega)
  | ⟨1, _⟩ => exact (show (BitVec.ofNat 32 (i 0).val).toNat + 1 ≤ 8 by rw [head_word]; omega)

def buckets : List (Fin 32) :=
  [31, 30, 29, 28, 27, 26, 25, 24, 23, 22, 21, 20, 19, 18, 17, 16, 15, 14, 13, 12, 11, 10, 9, 8, 7, 6, 5, 4, 3, 2, 1, 0]

theorem mem_buckets : ∀ n : Fin 32, n ∈ buckets := by decide

/-- The last choice first: where the table holds `b`, the weight `r b`. -/
def nest (bkt : IVec S128x256 32) (r : Fin 32 → F .f32) : FVec F S128x256 .f32 :=
  buckets.foldr
    (fun b acc => select (cmpi .eq bkt (broadcast S128x256 (BitVec.ofNat 32 b.val))) (broadcast S128x256 (r b)) acc)
    (broadcast S128x256 (Scalar.ofBits .f32 0x00000000#32))

theorem foldr_pick (bkt : IVec S128x256 32) (r : Fin 32 → F .f32) (z : FVec F S128x256 .f32) (y : S128x256.Idx) (n : Fin 32)
    (h : bkt y = BitVec.ofNat 32 n.val) (l : List (Fin 32)) (hl : n ∈ l) :
    l.foldr (fun b acc => select (cmpi .eq bkt (broadcast S128x256 (BitVec.ofNat 32 b.val))) (broadcast S128x256 (r b)) acc) z y = r n := by
  induction l with
  | nil => exact absurd hl (by simp)
  | cons b l ih =>
    show Scalar.select (IntOp.cmpi .eq (bkt y) (BitVec.ofNat 32 b.val)) (r b) _ = r n
    rw [h]
    by_cases hb : n = b
    · subst hb
      rw [show IntOp.cmpi .eq (BitVec.ofNat 32 n.val) (BitVec.ofNat 32 n.val) = 1#1 from
        (WordCmp.cmpi_eq_ofNat_eq_one_iff (by omega) (by omega)).2 rfl]
      rfl
    · have hne : IntOp.cmpi .eq (BitVec.ofNat 32 n.val) (BitVec.ofNat 32 b.val) ≠ 1#1 := fun e =>
        hb (Fin.ext ((WordCmp.cmpi_eq_ofNat_eq_one_iff (by omega) (by omega)).1 e))
      rw [show Scalar.select (IntOp.cmpi .eq (BitVec.ofNat 32 n.val) (BitVec.ofNat 32 b.val)) (r b) _ = _ from if_neg hne]
      exact ih ((List.mem_cons.1 hl).resolve_left hb)

theorem nest_apply (bkt : IVec S128x256 32) (r : Fin 32 → F .f32) (y : S128x256.Idx) (n : Fin 32) (h : bkt y = BitVec.ofNat 32 n.val) :
    nest bkt r y = r n :=
  foldr_pick bkt r _ y n h _ (mem_buckets n)

def planeR (p : Fin 3) : Rect S3x128x256 :=
  Rect.unit (s := S3x128x256) ![p.val, 0, 0] S1x128x256.size (fun a => by
    match a with
    | ⟨0, _⟩ => exact (show p.val + 1 ≤ 3 by omega)
    | ⟨1, _⟩ => exact (show 0 + 128 ≤ 128 by omega)
    | ⟨2, _⟩ => exact (show 0 + 256 ≤ 256 by omega))

section

variable (c : Dev nD) (i : grid0.Coords) (arg2 : Memref sig .tc .smem S32x8 .f32) (harg2 : arg2.IsWhole) (arg3 : Memref sig .tc .vmem S3x128x256 .i32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .bf16)
  (harg9 : arg9.IsWhole) (arg10 : Memref sig .tc .vmem S3x128x256 .f32) (harg10 : arg10.IsWhole) (arg11 : Memref sig .tc .vmem S4096x128 .f32) (harg11 : arg11.IsWhole) (arg12 : Memref sig .tc .vmem S4096x128 .f32)
  (harg12 : arg12.IsWhole) (arg13 : Memref sig .tc .vmem S3x2048x128 .f32) (harg13 : arg13.IsWhole) (arg14 : Memref sig .tc .vmem S3x2048x128 .f32) (harg14 : arg14.IsWhole) (arg15 : Memref sig .tc .vmem S3x2048x128 .f32) (harg15 : arg15.IsWhole)
  (x0 : Vec F S32x8 .f32) (x1 : Vec F S3x128x256 .i32) (x2 x3 x4 x5 x6 : Vec F S2048x128 .f32)

def bktL (p : Fin 3) : IVec S128x256 32 :=
  shapeCast S128x256 (View.readAt (Elt F) arg3.view (planeR p).toLoadRect (harg3.unread x1)) shapeCasts_S1x128x256_S128x256

def wt (b : Fin 32) : F .f32 :=
  View.readAt (Elt F) arg2.view (Rect.unit (s := S32x8) (offB i b) S1x1.size (offB_inb i b)).toLoadRect (harg2.unread x0)
    (Shape.Idx.first (s := S1x1) (by decide))

def planeV (p : Fin 3) : FVec F S1x128x256 .f32 :=
  shapeCast S1x128x256 (nest (bktL arg3 harg3 x1 p) (wt i arg2 harg2 x0)) shapeCasts_S128x256_S1x128x256

theorem biasL_eq (hc0 : cond0_0 i) : biasL c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hc0
    = [⟨planeR 2, planeV i arg2 harg2 arg3 harg3 x0 x1 2⟩, ⟨planeR 1, planeV i arg2 harg2 arg3 harg3 x0 x1 1⟩, ⟨planeR 0, planeV i arg2 harg2 arg3 harg3 x0 x1 0⟩] := by
  sl_kernel_rfl

theorem wt_apply (b : Fin 32) : wt i arg2 harg2 x0 b = x0 (ix2 b (i 0 : Fin 8)) := by
  refine (harg2.readAt_unread x0 _ _).trans (congrArg x0 (funext fun a => Fin.ext ?_))
  match a with
  | ⟨0, _⟩ => exact (show b.val + 1 * 0 = b.val by omega)
  | ⟨1, _⟩ => exact (show (BitVec.ofNat 32 (i 0).val).toNat + 1 * 0 = (i 0).val by rw [head_word]; omega)

theorem cast_apply (v : IVec S1x128x256 32) (a : Fin 128) (b : Fin 256) :
    shapeCast S128x256 v shapeCasts_S1x128x256_S128x256 (ix2 a b) = v (ix3 (0 : Fin 1) a b) := by
  pointwise

theorem bktL_apply (p : Fin 3) (a : Fin 128) (b : Fin 256) : bktL (F := F) arg3 harg3 x1 p (ix2 a b) = x1 (ix3 p a b) := by
  refine (cast_apply _ a b).trans ((harg3.readAt_unread x1 _ _).trans (congrArg x1 (funext fun k => Fin.ext ?_)))
  match k with
  | ⟨0, _⟩ => exact (show p.val + 1 * 0 = p.val by omega)
  | ⟨1, _⟩ => exact (show 0 + 1 * a.val = a.val by omega)
  | ⟨2, _⟩ => exact (show 0 + 1 * b.val = b.val by omega)

theorem planeV_apply (p : Fin 3) (z : Fin 1) (a : Fin 128) (b : Fin 256) (n : Fin 32) (h : x1 (ix3 p a b) = BitVec.ofNat 32 n.val) :
    planeV i arg2 harg2 arg3 harg3 x0 x1 p (ix3 z a b) = x0 (ix2 n (i 0 : Fin 8)) := by
  have h2 : nest (bktL arg3 harg3 x1 p) (wt i arg2 harg2 x0) (ix2 a b) = x0 (ix2 n (i 0 : Fin 8)) :=
    (nest_apply _ _ _ n ((bktL_apply arg3 harg3 x1 p a b).trans h)).trans (wt_apply i arg2 harg2 x0 n)
  rw [← h2]
  unfold planeV
  pointwise

/-- The bias at an entry whose table entry is a bucket. -/
theorem bias_A (hc0 : cond0_0 i) (p : Fin 3) (a : Fin 128) (b : Fin 256) (n : Fin 32) (h : x1 (ix3 p a b) = BitVec.ofNat 32 n.val) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix3 p a b) = x0 (ix2 n (i 0 : Fin 8)) := by
  have hs : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = View.canon (biasL c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hc0) :=
    View.read_writes_junk_eq_canon _ _
  rw [hs, biasL_eq]
  let G : S3x128x256.Idx → Elt F .f32 := fun y => planeV i arg2 harg2 arg3 harg3 x0 x1 (y 0) (ix3 (0 : Fin 1) (y 1 : Fin 128) (y 2 : Fin 256))
  refine (View.canon_apply_of_pieces G _ ?_ (ix3 p a b) ?_).trans (planeV_apply i arg2 harg2 arg3 harg3 x0 x1 p 0 a b n h)
  · have key : ∀ (p : Fin 3) (x : S1x128x256.Idx), planeV i arg2 harg2 arg3 harg3 x0 x1 p x = G ((planeR p).emb x) := by
      intro p x
      have h0 : (x 0).val < 1 := (x 0).isLt
      have e0 : ((planeR p).emb x 0) = p := Fin.ext (show p.val + 1 * (x 0).val = p.val by omega)
      have e1 : ((planeR p).emb x 1) = x 1 := Fin.ext (show 0 + 1 * (x 1).val = (x 1).val by omega)
      have e2 : ((planeR p).emb x 2) = x 2 := Fin.ext (show 0 + 1 * (x 2).val = (x 2).val by omega)
      show _ = planeV i arg2 harg2 arg3 harg3 x0 x1 ((planeR p).emb x 0) (ix3 (0 : Fin 1) ((planeR p).emb x 1 : Fin 128) ((planeR p).emb x 2 : Fin 256))
      rw [e0, e1, e2]
      refine congrArg (planeV i arg2 harg2 arg3 harg3 x0 x1 p) (funext fun a => Fin.ext ?_)
      match a with
      | ⟨0, _⟩ => exact (show (x 0).val = 0 by omega)
      | ⟨1, _⟩ => rfl
      | ⟨2, _⟩ => rfl
    intro q hq x
    simp only [List.mem_cons, List.not_mem_nil, or_false] at hq
    rcases hq with rfl | rfl | rfl
    · exact key 2 x
    · exact key 1 x
    · exact key 0 x
  · have hm : (ix3 p a b : S3x128x256.Idx) ∈ (planeR p).set := by
      unfold planeR
      rw [Rect.mem_set_unit]
      intro k
      match k with
      | ⟨0, _⟩ => exact (show p.val ≤ p.val ∧ p.val < p.val + 1 by omega)
      | ⟨1, _⟩ => exact (show 0 ≤ a.val ∧ a.val < 0 + 128 by omega)
      | ⟨2, _⟩ => exact (show 0 ≤ b.val ∧ b.val < 0 + 256 by omega)
    have hp : p = 2 ∨ p = 1 ∨ p = 0 := by omega
    rcases hp with rfl | rfl | rfl
    · exact ⟨_, List.mem_cons_self .., hm⟩
    · exact ⟨_, List.mem_cons_of_mem _ (List.mem_cons_self ..), hm⟩
    · exact ⟨_, List.mem_cons_of_mem _ (List.mem_cons_of_mem _ (List.mem_cons_self ..)), hm⟩

end

end Cert.KernelIdeal.Attn

end
-- ==== Proof.Blocks.lean ====
/- What the call's windows hold at a grid point, in the kernel's arguments. -/
module

public import proofs.«01_k».proof.Proof.Gen.KernelIdeal.Frame
public import Idealize.ShloMosaic.Lib.Pointwise
public import Idealize.ShloMosaic.Lib.KernelVsHost

@[expose] public section

noncomputable section

namespace Cert.KernelIdeal.Attn

open Cert.KernelIdeal Cert.KernelIdeal.Gen Idealize.ShloMosaic Idealize.ShloMosaic.TcCoe Idealize.SL.Sem

variable {F : FTy → Type} [FloatOps F] [Named F] (m : (ℓ : Loc nD τ sig) → Buf (Elt F) ℓ) (c : Dev nD)

/-- The two arguments. -/
def argP : Vec F S16384x3072 .f32 := m ((c : Thread nD τ).loc main_arg0)
def argB : Vec F S32x8 .f32 := m ((c : Thread nD τ).loc main_arg1)

theorem V_v0 : V m c main_v0
    = pad S16384x14848 ![0, 6272] ![0, 5504] ![0, 0] (argP m c) (sitofp .f32 (constantI S_ 32 0#32)) pads_S16384x3072_S16384x14848_000_627255040 h_S_ := by
  show StableHlo.after (List.flatten [hostOps0, hostOps0_1]) _ (Proc.devRef .tc main_v0) = _
  simp only [List.flatten_cons, List.flatten_nil, List.append_nil, List.cons_append, List.nil_append]
  after_results
  rfl

theorem V_c : V m c main_c = fun i => lit0 (S3x128x256.rowMajor i) := by
  show StableHlo.after (List.flatten [hostOps0, hostOps0_1]) _ (Proc.devRef .tc main_c) = _
  simp only [List.flatten_cons, List.flatten_nil, List.append_nil, List.cons_append, List.nil_append]
  after_results
  rfl

theorem index_facts : ∀ t : Fin cfg0.N,
    win0_0.index t = ![0, 0] ∧ win0_1.index t = ![0, 0, 0] ∧ win0_2.index t = ![t.val % 8, 49 + t.val / 8] ∧ win0_3.index t = ![t.val % 8, 57 + t.val / 8]
    ∧ win0_4.index t = ![t.val % 8 - 1, 57 + t.val / 8] ∧ win0_5.index t = ![t.val % 8, 65 + t.val / 8] ∧ win0_6.index t = ![t.val % 8 - 1, 65 + t.val / 8]
    ∧ (grid0.coords t 0).val = t.val / 8 ∧ (grid0.coords t 1).val = t.val % 8 := by
  decide +kernel

/-- The padded projection at a column of the padded part. -/
theorem V_v0_apply (y : S16384x14848.Idx) (r c' : ℕ) (h0 : (y 0).val = r) (h1 : (y 1).val = 6272 + c') (hc : c' < 3072) :
    V m c main_v0 y = argP m c (ix2 (Fin.ofNat 16384 r) (Fin.ofNat 3072 c')) := by
  rw [V_v0]
  have hr : (y 0).val < 16384 := (y 0).isLt
  refine pad_apply_of_inside _ _ _ _ _ _ _ y _ fun a => ?_
  match a with
  | ⟨0, _⟩ => exact (show (y 0).val = 0 + (Fin.ofNat 16384 r).val * (0 + 1) by simp only [Fin.ofNat]; omega)
  | ⟨1, _⟩ => exact (show (y 1).val = 6272 + (Fin.ofNat 3072 c').val * (0 + 1) by simp only [Fin.ofNat]; omega)

section

variable (t : Fin cfg0.N) (u : Fin 2048) (d : Fin 128)

theorem tN : t.val < 64 := t.isLt

theorem iblk2 : iblk m c 2 t (ix2 u d) = argP m c (ix2 (Fin.ofNat 16384 (2048 * (t.val % 8) + u.val)) (Fin.ofNat 3072 (128 * (t.val / 8) + d.val))) := by
  have ht := tN t
  obtain ⟨-, -, e, -⟩ := index_facts t
  have hb0 : (((cfg0.win 2).blk t).view.emb (ix2 u d) 0).val = win0_2.index t (0 : Fin 2) * 2048 + 1 * u.val := rfl
  have hb1 : (((cfg0.win 2).blk t).view.emb (ix2 u d) 1).val = win0_2.index t (1 : Fin 2) * 128 + 1 * d.val := rfl
  rw [e] at hb0 hb1
  refine V_v0_apply m c (((cfg0.win 2).blk t).view.emb (ix2 u d)) _ _ (hb0.trans ?_) (hb1.trans ?_) (by omega)
  · show t.val % 8 * 2048 + 1 * u.val = _; omega
  · show (49 + t.val / 8) * 128 + 1 * d.val = _; omega

theorem iblk3 : iblk m c 3 t (ix2 u d) = argP m c (ix2 (Fin.ofNat 16384 (2048 * (t.val % 8) + u.val)) (Fin.ofNat 3072 (1024 + 128 * (t.val / 8) + d.val))) := by
  have ht := tN t
  obtain ⟨-, -, -, e, -⟩ := index_facts t
  have hb0 : (((cfg0.win 3).blk t).view.emb (ix2 u d) 0).val = win0_3.index t (0 : Fin 2) * 2048 + 1 * u.val := rfl
  have hb1 : (((cfg0.win 3).blk t).view.emb (ix2 u d) 1).val = win0_3.index t (1 : Fin 2) * 128 + 1 * d.val := rfl
  rw [e] at hb0 hb1
  refine V_v0_apply m c (((cfg0.win 3).blk t).view.emb (ix2 u d)) _ _ (hb0.trans ?_) (hb1.trans ?_) (by omega)
  · show t.val % 8 * 2048 + 1 * u.val = _; omega
  · show (57 + t.val / 8) * 128 + 1 * d.val = _; omega

theorem iblk4 : iblk m c 4 t (ix2 u d) = argP m c (ix2 (Fin.ofNat 16384 (2048 * (t.val % 8 - 1) + u.val)) (Fin.ofNat 3072 (1024 + 128 * (t.val / 8) + d.val))) := by
  have ht := tN t
  obtain ⟨-, -, -, -, e, -⟩ := index_facts t
  have hb0 : (((cfg0.win 4).blk t).view.emb (ix2 u d) 0).val = win0_4.index t (0 : Fin 2) * 2048 + 1 * u.val := rfl
  have hb1 : (((cfg0.win 4).blk t).view.emb (ix2 u d) 1).val = win0_4.index t (1 : Fin 2) * 128 + 1 * d.val := rfl
  rw [e] at hb0 hb1
  refine V_v0_apply m c (((cfg0.win 4).blk t).view.emb (ix2 u d)) _ _ (hb0.trans ?_) (hb1.trans ?_) (by omega)
  · show (t.val % 8 - 1) * 2048 + 1 * u.val = _; omega
  · show (57 + t.val / 8) * 128 + 1 * d.val = _; omega

theorem iblk5 : iblk m c 5 t (ix2 u d) = argP m c (ix2 (Fin.ofNat 16384 (2048 * (t.val % 8) + u.val)) (Fin.ofNat 3072 (2048 + 128 * (t.val / 8) + d.val))) := by
  have ht := tN t
  obtain ⟨-, -, -, -, -, e, -⟩ := index_facts t
  have hb0 : (((cfg0.win 5).blk t).view.emb (ix2 u d) 0).val = win0_5.index t (0 : Fin 2) * 2048 + 1 * u.val := rfl
  have hb1 : (((cfg0.win 5).blk t).view.emb (ix2 u d) 1).val = win0_5.index t (1 : Fin 2) * 128 + 1 * d.val := rfl
  rw [e] at hb0 hb1
  refine V_v0_apply m c (((cfg0.win 5).blk t).view.emb (ix2 u d)) _ _ (hb0.trans ?_) (hb1.trans ?_) (by omega)
  · show t.val % 8 * 2048 + 1 * u.val = _; omega
  · show (65 + t.val / 8) * 128 + 1 * d.val = _; omega

theorem iblk6 : iblk m c 6 t (ix2 u d) = argP m c (ix2 (Fin.ofNat 16384 (2048 * (t.val % 8 - 1) + u.val)) (Fin.ofNat 3072 (2048 + 128 * (t.val / 8) + d.val))) := by
  have ht := tN t
  obtain ⟨-, -, -, -, -, -, e, -⟩ := index_facts t
  have hb0 : (((cfg0.win 6).blk t).view.emb (ix2 u d) 0).val = win0_6.index t (0 : Fin 2) * 2048 + 1 * u.val := rfl
  have hb1 : (((cfg0.win 6).blk t).view.emb (ix2 u d) 1).val = win0_6.index t (1 : Fin 2) * 128 + 1 * d.val := rfl
  rw [e] at hb0 hb1
  refine V_v0_apply m c (((cfg0.win 6).blk t).view.emb (ix2 u d)) _ _ (hb0.trans ?_) (hb1.trans ?_) (by omega)
  · show (t.val % 8 - 1) * 2048 + 1 * u.val = _; omega
  · show (65 + t.val / 8) * 128 + 1 * d.val = _; omega

/-- The bias weights are whole at every point, -/
theorem iblk0 (b : Fin 32) (h : Fin 8) : iblk m c 0 t (ix2 b h) = argB m c (ix2 b h) := by
  obtain ⟨e, -⟩ := index_facts t
  show V m c main_arg1 (((cfg0.win 0).blk t).view.emb (ix2 b h)) = _
  rw [V_main_arg1]
  refine congrArg (argB m c) (funext fun a => Fin.ext ?_)
  have hb0 : (((cfg0.win 0).blk t).view.emb (ix2 b h) 0).val = win0_0.index t (0 : Fin 2) * 32 + 1 * b.val := rfl
  have hb1 : (((cfg0.win 0).blk t).view.emb (ix2 b h) 1).val = win0_0.index t (1 : Fin 2) * 8 + 1 * h.val := rfl
  rw [e] at hb0 hb1
  match a with
  | ⟨0, _⟩ => exact hb0.trans (show 0 * 32 + 1 * b.val = b.val by omega)
  | ⟨1, _⟩ => exact hb1.trans (show 0 * 8 + 1 * h.val = h.val by omega)

/-- and so is the table of buckets. -/
theorem iblk1 (p : Fin 3) (i : Fin 128) (j : Fin 256) : iblk m c 1 t (ix3 p i j) = lit0t (32768 * p.val + 256 * i.val + j.val) := by
  obtain ⟨-, e, -⟩ := index_facts t
  show V m c main_c (((cfg0.win 1).blk t).view.emb (ix3 p i j)) = _
  rw [V_c]
  have hb0 : (((cfg0.win 1).blk t).view.emb (ix3 p i j) 0).val = win0_1.index t (0 : Fin 3) * 3 + 1 * p.val := rfl
  have hb1 : (((cfg0.win 1).blk t).view.emb (ix3 p i j) 1).val = win0_1.index t (1 : Fin 3) * 128 + 1 * i.val := rfl
  have hb2 : (((cfg0.win 1).blk t).view.emb (ix3 p i j) 2).val = win0_1.index t (2 : Fin 3) * 256 + 1 * j.val := rfl
  rw [e] at hb0 hb1 hb2
  have hy : ((cfg0.win 1).blk t).view.emb (ix3 p i j) = ix3 p i j := funext fun a => Fin.ext (by
    match a with
    | ⟨0, _⟩ => exact hb0.trans (show 0 * 3 + 1 * p.val = p.val by omega)
    | ⟨1, _⟩ => exact hb1.trans (show 0 * 128 + 1 * i.val = i.val by omega)
    | ⟨2, _⟩ => exact hb2.trans (show 0 * 256 + 1 * j.val = j.val by omega))
  rw [hy]
  refine congrArg lit0t ?_
  refine (rowMajor_val3 (ix3 p i j) 32768 256 rfl rfl).trans ?_
  show p.val * 32768 + i.val * 256 + j.val = _
  omega

end

end Cert.KernelIdeal.Attn

end
-- ==== Proof.Table.lean ====
/- The kernel's table of buckets holds, inside the band, the bucket of the distance between query and key. -/
module

public import proofs.«01_k».proof.Proof.BucketReal
public import proofs.«01_k».proof.KernelIdeal

@[expose] public section

namespace Cert.KernelIdeal.Attn

open Cert.KernelIdeal Idealize.ShloMosaic

/-- The distance between neighbouring keys of pattern `p`. -/
def dil (p : ℕ) : ℕ := 4 ^ p

/-- The table's entry for query `i` and key `i + x` of pattern `p`. -/
def EntryOk (p i x : ℕ) : Prop := (lit0t (32768 * p + 256 * i + (i + x))).toNat = Cert.Bucket.bucket (dil p * (128 - x))

noncomputable instance (p i x : ℕ) : Decidable (EntryOk p i x) := inferInstanceAs (Decidable (_ = _))

/-- Sixty-four queries of pattern `p`, from query `64 * h` on. -/
def BandOk (p h : ℕ) : Prop := ∀ i : Fin 64, ∀ x : Fin 129, EntryOk p (64 * h + i.val) x.val

noncomputable instance (p h : ℕ) : Decidable (BandOk p h) := inferInstanceAs (Decidable (∀ _, _))

end Cert.KernelIdeal.Attn
-- ==== Proof.Table0.lean ====
/- The table's entries of pattern 0, read one by one. -/
module

public import proofs.«01_k».proof.Proof.Table

@[expose] public section

namespace Cert.KernelIdeal.Attn

theorem band0_0 : BandOk 0 0 := by decide +kernel
theorem band0_1 : BandOk 0 1 := by decide +kernel

end Cert.KernelIdeal.Attn
-- ==== Proof.Table1.lean ====
/- The table's entries of pattern 1, read one by one. -/
module

public import proofs.«01_k».proof.Proof.Table

@[expose] public section

namespace Cert.KernelIdeal.Attn

theorem band1_0 : BandOk 1 0 := by decide +kernel
theorem band1_1 : BandOk 1 1 := by decide +kernel

end Cert.KernelIdeal.Attn
-- ==== Proof.Table2.lean ====
/- The table's entries of pattern 2, read one by one. -/
module

public import proofs.«01_k».proof.Proof.Table

@[expose] public section

namespace Cert.KernelIdeal.Attn

theorem band2_0 : BandOk 2 0 := by decide +kernel
theorem band2_1 : BandOk 2 1 := by decide +kernel

end Cert.KernelIdeal.Attn
-- ==== Proof.Out.lean ====
/- The kernel's result, entry by entry. -/
module

public import proofs.«01_k».proof.Proof.Spec
public import proofs.«01_k».proof.Proof.Bias
public import proofs.«01_k».proof.Proof.Blocks
public import proofs.«01_k».proof.Proof.Table0
public import proofs.«01_k».proof.Proof.Table1
public import proofs.«01_k».proof.Proof.Table2
public import proofs.«01_k».proof.Proof.Gen.KernelIdeal.Value

@[expose] public section

noncomputable section

namespace Cert.KernelIdeal.Attn

open Cert.KernelIdeal Cert.KernelIdeal.Gen Cert.KernelIdeal.Value Idealize.ShloMosaic Idealize.ShloMosaic.TcCoe Idealize.SL.Sem

/-- The table inside the band. -/
theorem entry_ok (p : Fin 3) (i : Fin 128) (x : Fin 129) : EntryOk p.val i.val x.val := by
  have h0 : i.val = 64 * (i.val / 64) + i.val % 64 := by omega
  have h1 : i.val / 64 = 0 ∨ i.val / 64 = 1 := by omega
  have hp : p = 0 ∨ p = 1 ∨ p = 2 := by omega
  rw [h0]
  rcases hp with rfl | rfl | rfl <;> rcases h1 with h | h <;> rw [h]
  · exact band0_0 ⟨i.val % 64, by omega⟩ x
  · exact band0_1 ⟨i.val % 64, by omega⟩ x
  · exact band1_0 ⟨i.val % 64, by omega⟩ x
  · exact band1_1 ⟨i.val % 64, by omega⟩ x
  · exact band2_0 ⟨i.val % 64, by omega⟩ x
  · exact band2_1 ⟨i.val % 64, by omega⟩ x

theorem table (p : Fin 3) (i : Fin 128) (j : Fin 256) (h : i.val ≤ j.val) (h' : j.val ≤ i.val + 128) :
    lit0t (32768 * p.val + 256 * i.val + j.val)
      = BitVec.ofNat 32 (Fin.ofNat 32 (Bucket.bucket (4 ^ p.val * (i.val + 128 - j.val)))).val := by
  have e := entry_ok p i ⟨j.val - i.val, by omega⟩
  unfold EntryOk dil at e
  dsimp only at e
  rw [show i.val + (j.val - i.val) = j.val by omega, show 128 - (j.val - i.val) = i.val + 128 - j.val by omega] at e
  have hb := Bucket.bucket_lt (4 ^ p.val * (i.val + 128 - j.val))
  rw [show (Fin.ofNat 32 (Bucket.bucket (4 ^ p.val * (i.val + 128 - j.val)))).val = Bucket.bucket (4 ^ p.val * (i.val + 128 - j.val)) from
    Nat.mod_eq_of_lt hb, ← e]
  rw [BitVec.ofNat_toNat, BitVec.setWidth_eq]

variable (m : (ℓ : Loc nD τ sig) → Buf (Elt Ideal) ℓ) (c : Dev nD)

/-- The bias planes of head `h` inside the band. -/
def BiasOk (b : Vec Ideal S3x128x256 .f32) (h : ℕ) : Prop :=
  ∀ (p : Fin 3) (i : Fin 128) (j : Fin 256), i.val ≤ j.val → j.val ≤ i.val + 128 →
    b (ix3 p i j) = atB (argB m c) (Bucket.bucket (4 ^ p.val * (i.val + 128 - j.val))) h

theorem coord0 (t : Fin cfg0.N) : (grid0.coords t 0).val = t.val / 8 := (index_facts t).2.2.2.2.2.2.2.1
theorem coord1 (t : Fin cfg0.N) : (grid0.coords t 1).val = t.val % 8 := (index_facts t).2.2.2.2.2.2.2.2

theorem head_weight (t : Fin cfg0.N) (b : ℕ) (hb : b < 32) (i : Fin 8) (hi : i.val = t.val / 8) :
    iblk m c 0 t (ix2 (Fin.ofNat 32 b) i) = atB (argB m c) b (t.val / 8) := by
  refine (iblk0 m c t _ i).trans ?_
  have ht : t.val < 64 := t.isLt
  have e : i = Fin.ofNat 8 (t.val / 8) := Fin.ext (by simp only [Fin.ofNat]; omega)
  unfold atB
  rw [e]

theorem bias_first (t : Fin cfg0.N) (h0 : t.val % 8 = 0) : BiasOk m c (outsAt0 m c t.val t.isLt).2 (t.val / 8) := by
  intro p i j h h'
  rw [outsAt0_A m c t h0]
  dsimp only
  rw [bias_A (F := Ideal) (x1 := iblk m c 1 t) (n := Fin.ofNat 32 (Bucket.bucket (4 ^ p.val * (i.val + 128 - j.val)))) (h := (iblk1 m c t p i j).trans (table p i j h h'))]
  exact head_weight m c t _ (Bucket.bucket_lt _) _ (coord0 t)

theorem bias_later (t : Fin cfg0.N) (h0 : ¬ t.val % 8 = 0) (ih : BiasOk m c (outsAt0 m c (t.val - 1) (by omega)).2 (t.val / 8)) :
    BiasOk m c (outsAt0 m c t.val t.isLt).2 (t.val / 8) := by
  rw [outsAt0_B m c t h0]
  exact ih

/-- The bias planes hold the head's weights after every point. -/
theorem bias_ok (n : ℕ) : ∀ hn : n < cfg0.N, BiasOk m c (outsAt0 m c n hn).2 (n / 8) := by
  induction n with
  | zero => exact fun hn => bias_first m c ⟨0, hn⟩ (Nat.zero_mod 8)
  | succ n ih =>
    intro hn
    by_cases h0 : (n + 1) % 8 = 0
    · exact bias_first m c ⟨n + 1, hn⟩ h0
    · refine bias_later m c ⟨n + 1, hn⟩ h0 ?_
      have e : (n + 1) / 8 = n / 8 := by omega
      show BiasOk m c (outsAt0 m c n _).2 ((n + 1) / 8)
      rw [e]
      exact ih _

section

variable (t : Fin cfg0.N) (bias : Vec Ideal S3x128x256 .f32) (hb : BiasOk m c bias (t.val / 8)) (u : Fin 2048)

theorem query_pos (D : ℕ) (hD : D = 1 ∨ D = 4 ∨ D = 16) : (2048 * (t.val % 8) + u.val) % (128 * D) / D = u.val % (128 * D) / D := by
  rcases hD with rfl | rfl | rfl <;> omega

theorem pos_val (D : ℕ) (hD : D = 1 ∨ D = 4 ∨ D = 16) : (pos D u.val).val = u.val % (128 * D) / D := by
  rcases hD with rfl | rfl | rfl <;> simp only [pos, Fin.ofNat] <;> omega

theorem sees_iff (D : ℕ) (hD : D = 1 ∨ D = 4 ∨ D = 16) (j : Fin 256) :
    (((pos D u.val).val ≤ j.val ∧ j.val ≤ (pos D u.val).val + 128) ∧ ((grid0.coords t 1).val = 0 ∧ u.val / (128 * D) = 0 → 128 ≤ j.val))
      ↔ sees D (2048 * (t.val % 8) + u.val) j.val := by
  rw [pos_val u D hD, coord1]
  unfold sees
  rw [query_pos t u D hD]
  rcases hD with rfl | rfl | rfl <;> omega

/-- A seen key in the pair of tiles. -/
theorem pair_key (cur prev : Vec Ideal S2048x128 .f32) (o : ℕ)
    (hc : ∀ (u : Fin 2048) (x : Fin 128), cur (ix2 u x) = atP (argP m c) (2048 * (t.val % 8) + u.val) (o + x.val))
    (hp : ∀ (u : Fin 2048) (x : Fin 128), prev (ix2 u x) = atP (argP m c) (2048 * (t.val % 8 - 1) + u.val) (o + x.val))
    (D : ℕ) (hD : D = 1 ∨ D = 4 ∨ D = 16) (j : Fin 256) (x : Fin 128) (hs : sees D (2048 * (t.val % 8) + u.val) j.val) :
    pair (F := Ideal) cur prev (ix2 (keyRow D u.val j.val) x) = atP (argP m c) (gkey D (2048 * (t.val % 8) + u.val) j.val) (o + x.val) := by
  have hk : (keyRow D u.val j.val).val = u.val - D * (u.val % (128 * D) / D) + (2048 - 128 * D) + D * j.val := by
    rcases hD with rfl | rfl | rfl <;> simp only [keyRow, Fin.ofNat] <;> omega
  have hg : gkey D (2048 * (t.val % 8) + u.val) j.val + 2048 = 2048 * (t.val % 8) + (keyRow D u.val j.val).val := by
    rw [hk]
    unfold sees at hs
    unfold gkey
    rw [query_pos t u D hD] at hs ⊢
    rcases hD with rfl | rfl | rfl <;> omega
  have hl := (keyRow D u.val j.val).isLt
  unfold pair
  by_cases h : 2048 ≤ (keyRow D u.val j.val).val
  · refine (dif_pos h).trans ((hc ⟨(keyRow D u.val j.val).val - 2048, by omega⟩ x).trans ?_)
    refine congrArg (fun g => atP (argP m c) g (o + x.val)) ?_
    show 2048 * (t.val % 8) + ((keyRow D u.val j.val).val - 2048) = _
    omega
  · refine (dif_neg h).trans ((hp ⟨(keyRow D u.val j.val).val, by omega⟩ x).trans ?_)
    refine congrArg (fun g => atP (argP m c) g (o + x.val)) ?_
    show 2048 * (t.val % 8 - 1) + (keyRow D u.val j.val).val = _
    omega

include hb

theorem tsc_eq (p : Fin 3) (D : ℕ) (hp : 4 ^ p.val = D) (hD : D = 1 ∨ D = 4 ∨ D = 16) (j : Fin 256) :
    tsc p D (grid0.coords t 1).val bias (iblk m c 2 t) (pair (F := Ideal) (iblk m c 3 t) (iblk m c 4 t)) u j
      = gsc (argP m c) (argB m c) D (t.val / 8) (2048 * (t.val % 8) + u.val) j := by
  unfold tsc gsc
  by_cases hs : sees D (2048 * (t.val % 8) + u.val) j.val
  · have hs' := (sees_iff t u D hD j).2 hs
    rw [if_pos hs', if_pos hs, hb p (pos D u.val) j hs'.1.1 hs'.1.2, hp, pos_val u D hD, query_pos t u D hD]
    refine congrArg (· + _) (Finset.sum_congr rfl fun x _ => ?_)
    rw [pair_key m c t u _ _ (1024 + 128 * (t.val / 8)) (fun u x => iblk3 m c t u x) (fun u x => iblk4 m c t u x) D hD j x hs]
    refine congrArg (· * _) (congrArg (· * _) ?_)
    exact iblk2 m c t u x
  · rw [if_neg (fun h => hs ((sees_iff t u D hD j).1 h)), if_neg hs]

/-- A tile's entry. -/
theorem tile_attn (d : Fin 128) :
    tile (F := Ideal) (firstM (grid0.coords t)) bias (iblk m c 2 t) (pair (F := Ideal) (iblk m c 3 t) (iblk m c 4 t)) (pair (F := Ideal) (iblk m c 5 t) (iblk m c 6 t)) (ix2 u d)
      = attn (argP m c) (argB m c) (2048 * (t.val % 8) + u.val) (t.val / 8) d.val := by
  have hv : ∀ D, (D = 1 ∨ D = 4 ∨ D = 16) → ∀ j : Fin 256, gsc (argP m c) (argB m c) D (t.val / 8) (2048 * (t.val % 8) + u.val) j ≠ ⊥ →
      tval (pair (F := Ideal) (iblk m c 5 t) (iblk m c 6 t)) u D d j = gval (argP m c) D (t.val / 8) (2048 * (t.val % 8) + u.val) d.val j :=
    fun D hD j hj => pair_key m c t u _ _ (2048 + 128 * (t.val / 8)) (fun u x => iblk5 m c t u x) (fun u x => iblk6 m c t u x) D hD j d
      (sees_of_ne _ _ hj)
  refine (tile_apply (grid0.coords t) bias _ _ _ u d).trans ?_
  exact rmix_congr (tsc_eq m c t bias hb u 0 1 rfl (.inl rfl)) (tsc_eq m c t bias hb u 1 4 rfl (.inr (.inl rfl)))
    (tsc_eq m c t bias hb u 2 16 rfl (.inr (.inr rfl))) (hv 1 (.inl rfl)) (hv 4 (.inr (.inl rfl))) (hv 16 (.inr (.inr rfl)))

end

/-- What the kernel leaves at a point of the grid. -/
theorem outs_attn (n : ℕ) (hn : n < cfg0.N) (u : Fin 2048) (d : Fin 128) :
    (outsAt0 m c n hn).1 (ix2 u d) = attn (argP m c) (argB m c) (2048 * (n % 8) + u.val) (n / 8) d.val := by
  have hN : n < 64 := hn
  by_cases h0 : n % 8 = 0
  · have hb := bias_ok m c n hn
    rw [outsAt0_A m c ⟨n, hn⟩ h0] at hb
    rw [outsAt0_A m c ⟨n, hn⟩ h0]
    dsimp only at hb ⊢
    rw [out_A (F := Ideal)]
    exact tile_attn m c ⟨n, hn⟩ _ hb u d
  · have hb := bias_ok m c (n - 1) (by omega)
    rw [show (n - 1) / 8 = n / 8 by omega] at hb
    rw [outsAt0_B m c ⟨n, hn⟩ h0]
    dsimp only
    rw [out_B (F := Ideal)]
    exact tile_attn m c ⟨n, hn⟩ _ hb u d

/-- The kernel's result at an entry. -/
theorem G7_apply (y : S16384x1024.Idx) : G7 m c y = attn (argP m c) (argB m c) (y 0).val ((y 1).val / 128) ((y 1).val % 128) := by
  have h0 : (y 0).val < 16384 := (y 0).isLt
  have h1 : (y 1).val < 1024 := (y 1).isLt
  have hr : run7Of y < cfg0.N := (show 1 * ((y 0).val / 2048 - 0) + 8 * ((y 1).val / 128 - 0) < 64 by omega)
  unfold G7
  rw [dif_pos hr, ← outsAt0_sweep m c (run7Of y) hr]
  have hl : loc7Of y = ix2 (⟨(y 0).val % 2048, by omega⟩ : Fin 2048) (⟨(y 1).val % 128, by omega⟩ : Fin 128) := funext fun a => by
    match a with
    | ⟨0, _⟩ => rfl
    | ⟨1, _⟩ => rfl
  rw [hl]
  refine (outs_attn m c (run7Of y) hr _ _).trans ?_
  have e1 : 2048 * (run7Of y % 8) + (y 0).val % 2048 = (y 0).val := (show 2048 * ((1 * ((y 0).val / 2048 - 0) + 8 * ((y 1).val / 128 - 0)) % 8) + (y 0).val % 2048 = (y 0).val by omega)
  have e2 : run7Of y / 8 = (y 1).val / 128 := (show (1 * ((y 0).val / 2048 - 0) + 8 * ((y 1).val / 128 - 0)) / 8 = (y 1).val / 128 by omega)
  dsimp only
  rw [e1, e2]

end Cert.KernelIdeal.Attn

end
-- ==== Proof.RefOps.lean ====
/- Operations of the reference read at an entry: the largest of a row, the choice of a weight by its bucket, a block with the block before it. -/
module

public import proofs.«01_k».proof.Proof.Spec
public import proofs.«01_k».proof.Proof.Gen.ReferenceIdeal.Read
public import Idealize.ShloMosaic.Lib.Pointwise
public import Idealize.ShloMosaic.Lib.KernelVsHost

@[expose] public section

noncomputable section

namespace Cert.ReferenceIdeal.Attn

open Cert.ReferenceIdeal Cert.ReferenceIdeal.Gen Cert.ReferenceIdeal.Read Idealize.ShloMosaic

/-- The largest entry along the last axis of a rank-five array. -/
theorem max_last (a b c d : ℕ) (x : FVec Ideal ⟨5, ![a, b, c, d, 256]⟩ .f32) (init : FVec Ideal S_ .f32)
    (h : (⟨5, ![a, b, c, d, 256]⟩ : Shape).ReducesTo [4] ⟨4, ![a, b, c, d]⟩) (hu : 0 < S_.numel) (r : Fin a) (n : Fin b) (k : Fin c) (i : Fin d)
    (hi : init (Shape.Idx.first hu) = ⊥) :
    Host.reduce FloatOps.maximumf x init h hu (ix4 r n k i) = Finset.univ.fold max ⊥ (fun j : Fin 256 => x (ix5 r n k i j)) := by
  rw [Host.reduce_eq_fold, hi]
  have hd : (Finset.univ.filter fun y => h.drop y = ix4 r n k i) = Finset.univ.image (fun j : Fin 256 => (ix5 r n k i j : (⟨5, ![a, b, c, d, 256]⟩ : Shape).Idx)) := by
    ext y
    simp only [Finset.mem_filter, Finset.mem_univ, true_and, Finset.mem_image]
    have e0 : (h.drop y 0 : ℕ) = y 0 := h.drop_apply_val_of_eq y 0 0 (hb := of_decide_eq_true rfl) (hc := rfl)
    have e1 : (h.drop y 1 : ℕ) = y 1 := h.drop_apply_val_of_eq y 1 1 (hb := of_decide_eq_true rfl) (hc := rfl)
    have e2 : (h.drop y 2 : ℕ) = y 2 := h.drop_apply_val_of_eq y 2 2 (hb := of_decide_eq_true rfl) (hc := rfl)
    have e3 : (h.drop y 3 : ℕ) = y 3 := h.drop_apply_val_of_eq y 3 3 (hb := of_decide_eq_true rfl) (hc := rfl)
    constructor
    · intro e
      refine ⟨y 4, funext fun q => Fin.ext ?_⟩
      rw [e] at e0 e1 e2 e3
      match q with
      | ⟨0, _⟩ => exact e0
      | ⟨1, _⟩ => exact e1
      | ⟨2, _⟩ => exact e2
      | ⟨3, _⟩ => exact e3
      | ⟨4, _⟩ => rfl
    · rintro ⟨j, rfl⟩
      refine funext fun q => Fin.ext ?_
      match q with
      | ⟨0, _⟩ => exact e0
      | ⟨1, _⟩ => exact e1
      | ⟨2, _⟩ => exact e2
      | ⟨3, _⟩ => exact e3
  rw [hd, Finset.fold_image]
  · rfl
  · intro j _ j' _ e
    exact congrFun e 4

/-- The weights of the buckets that an index array names. -/
theorem weights (x : FVec Ideal S32x8 .f32) (idx : IVec S128x256x1 32) (i : Fin 128) (j : Fin 256) (h : Fin 8) (b : ℕ) (hb : b < 32)
    (hi : idx (ix3 i j (0 : Fin 1)) = BitVec.ofNat 32 b) :
    Host.gather gather_S32x8_S128x256x1_S128x256x8_2_0_n_n_0_2_18 x idx (ix3 i j h) = x (ix2 (Fin.ofNat 32 b) h) := by
  unfold Host.gather
  refine congrArg x (funext fun q => Fin.ext ?_)
  have hsi : gather_S32x8_S128x256x1_S128x256x8_2_0_n_n_0_2_18.siIdx (ix3 i j h) ⟨0, by decide⟩ = ix3 i j (0 : Fin 1) := funext fun q => Fin.ext (by
    match q with
    | ⟨0, _⟩ => rfl
    | ⟨1, _⟩ => rfl
    | ⟨2, _⟩ => rfl)
  match q with
  | ⟨0, _⟩ =>
    refine (show _ = min (idx (gather_S32x8_S128x256x1_S128x256x8_2_0_n_n_0_2_18.siIdx (ix3 i j h) ⟨0, by decide⟩)).toInt.toNat (32 - 1) + 0 + 0 from rfl).trans ?_
    rw [hsi, hi]
    have e : (BitVec.ofNat 32 b).toInt.toNat = b := by
      rw [BitVec.toInt_eq_toNat_of_lt (by rw [BitVec.toNat_ofNat]; omega), BitVec.toNat_ofNat, Int.toNat_natCast]; omega
    rw [e]
    show min b (32 - 1) + 0 + 0 = b % 32
    omega
  | ⟨1, _⟩ =>
    show 0 + 0 + h.val = h.val
    omega

/-- A block of keys after the block before it, where there is one or where the key is in the block itself. -/
theorem window (a nb : ℕ) (x : FVec Ideal ⟨5, ![a, nb, 128, 8, 128]⟩ .f32) (z : FVec Ideal S_ .f32) (lo : Fin 5 → ℕ) (hlo : lo = ![0, 1, 0, 0, 0]) (hi : Fin 5 → ℕ) (mid : Fin 5 → ℕ) (hmid : mid = ![0, 0, 0, 0, 0])
    (off : Fin 5 → ℕ) (hoff : off = ![0, 0, 0, 0, 0])
    (hp : (⟨5, ![a, nb, 128, 8, 128]⟩ : Shape).Pads lo hi mid ⟨5, ![a, nb + 1, 128, 8, 128]⟩) (hu : 0 < S_.numel)
    (hs : (⟨5, ![a, nb + 1, 128, 8, 128]⟩ : Shape).Slices off ⟨5, ![a, nb, 128, 8, 128]⟩)
    (hc : Shape.Concatenates [⟨5, ![a, nb, 128, 8, 128]⟩, ⟨5, ![a, nb, 128, 8, 128]⟩] ⟨5, ![a, nb, 256, 8, 128]⟩ 2)
    (r : Fin a) (n : Fin nb) (j : Fin 256) (h : Fin 8) (d : Fin 128) (hj : 128 ≤ j.val ∨ 1 ≤ n.val) :
    concatenate (⟨5, ![a, nb, 256, 8, 128]⟩ : Shape) 2 [⟨_, extractStridedSlice ⟨5, ![a, nb, 128, 8, 128]⟩ off (pad ⟨5, ![a, nb + 1, 128, 8, 128]⟩ lo hi mid x z hp hu) hs⟩,
        ⟨_, x⟩] hc (ix5 r n j h d)
      = if 128 ≤ j.val then x (ix5 r n (Fin.ofNat 128 (j.val - 128)) h d) else x (ix5 r (⟨n.val - 1, by omega⟩ : Fin nb) (Fin.ofNat 128 j.val) h d) := by
  subst hlo hmid hoff
  by_cases h128 : 128 ≤ j.val
  · rw [if_pos h128]
    refine concatenate_pair_apply_right _ _ _ hc (ix5 r n j h d) rfl rfl (ix5 r n (Fin.ofNat 128 (j.val - 128)) h d) ?_ ?_
    · intro q hq
      match q with
      | ⟨0, _⟩ => rfl
      | ⟨1, _⟩ => rfl
      | ⟨2, _⟩ => exact absurd rfl hq
      | ⟨3, _⟩ => rfl
      | ⟨4, _⟩ => rfl
    · show (j.val - 128) % 128 + 128 = j.val
      omega
  · rw [if_neg h128]
    refine (concatenate_pair_apply_left _ _ _ hc (ix5 r n j h d) rfl (ix5 r n (Fin.ofNat 128 j.val) h d) ?_).trans ?_
    · intro q
      match q with
      | ⟨0, _⟩ => rfl
      | ⟨1, _⟩ => rfl
      | ⟨2, _⟩ => exact (show j.val % 128 = j.val by omega)
      | ⟨3, _⟩ => rfl
      | ⟨4, _⟩ => rfl
    · refine pad_apply_of_inside _ _ _ _ _ hp hu _ _ fun q => ?_
      match q with
      | ⟨0, _⟩ => exact (show 0 + r.val = 0 + r.val * (0 + 1) by omega)
      | ⟨1, _⟩ => exact (show 0 + n.val = 1 + (n.val - 1) * (0 + 1) by omega)
      | ⟨2, _⟩ => exact (show 0 + j.val % 128 = 0 + j.val % 128 * (0 + 1) by omega)
      | ⟨3, _⟩ => exact (show 0 + h.val = 0 + h.val * (0 + 1) by omega)
      | ⟨4, _⟩ => exact (show 0 + d.val = 0 + d.val * (0 + 1) by omega)

end Cert.ReferenceIdeal.Attn

end
-- ==== Proof.RefBucket.lean ====
/- The bucket of a distance as the reference computes it, in words: the logarithmic formula gives the bucket. -/
module

public import proofs.«01_k».proof.Proof.BucketReal
public import proofs.«01_k».proof.Proof.RefOps

@[expose] public section

noncomputable section

namespace Cert.ReferenceIdeal.Attn

open Cert.ReferenceIdeal Cert.ReferenceIdeal.Gen Cert.ReferenceIdeal.Read Idealize.ShloMosaic

/-- How many steps key `j` of a window of 256 lies before query `i`. -/
def stepsW (i j : ℕ) : BitVec 32 := IntOp.subi (IntOp.addi (BitVec.ofNat 32 i) 128#32) (BitVec.ofNat 32 j)

/-- The logarithmic part of the bucket of the distance `d`. -/
def logW (d : BitVec 32) : BitVec 32 :=
  Ideal.fptosi 32 (Ideal.div (Ideal.log (Ideal.div (((IntOp.maxsi d 1#32).toInt : ℝ) : EReal) (Ideal.ofBits .f32 0x41800000#32)))
    (Ideal.ofBits .f32 0x409B43D5#32) * Ideal.ofBits .f32 0x41800000#32)

/-- The bucket of the distance `d`, as a word. -/
def bucketW (d : BitVec 32) : BitVec 32 :=
  Scalar.select (IntOp.cmpi .slt d 16#32) d (IntOp.minsi (IntOp.addi 16#32 (logW d)) 31#32)

/-- A negative bucket would count from the end. -/
def wrapW (b : BitVec 32) : BitVec 32 := Scalar.select (IntOp.cmpi .slt b 0#32) (IntOp.addi b 32#32) b

/-- The distance, never below zero. -/
def distW (D i j : ℕ) : BitVec 32 := IntOp.muli (IntOp.maxsi (stepsW i j) 0#32) (BitVec.ofNat 32 D)

theorem v79_eq (i : Fin 128) (j : Fin 256) :
    val_main_v79 (F := Ideal) (ix2 i j) = wrapW (bucketW (distW 1 i.val j.val)) := rfl

theorem v178_eq (i : Fin 128) (j : Fin 256) :
    val_main_v178 (F := Ideal) (ix2 i j) = wrapW (bucketW (distW 4 i.val j.val)) := rfl

theorem v277_eq (i : Fin 128) (j : Fin 256) :
    val_main_v277 (F := Ideal) (ix2 i j) = wrapW (bucketW (distW 16 i.val j.val)) := rfl

theorem stepsW_eq {i j : ℕ} (h : j ≤ i + 128) (hi : i < 128) : stepsW i j = BitVec.ofNat 32 (i + 128 - j) := by
  unfold stepsW IntOp.subi IntOp.addi
  apply BitVec.eq_of_toNat_eq
  simp only [BitVec.toNat_sub, BitVec.toNat_add, BitVec.toNat_ofNat]
  omega

theorem maxsi_ofNat (a b : ℕ) (ha : a < 2 ^ 31) (hb : b < 2 ^ 31) :
    IntOp.maxsi (BitVec.ofNat 32 a) (BitVec.ofNat 32 b) = BitVec.ofNat 32 (max a b) := by
  unfold IntOp.maxsi
  have e : (BitVec.ofNat 32 b).slt (BitVec.ofNat 32 a) = decide (b < a) := by
    rw [BitVec.slt_eq_decide, WordCmp.toInt_ofNat_of_lt (by simpa using hb), WordCmp.toInt_ofNat_of_lt (by simpa using ha)]
    simp
  rw [e]
  by_cases h : b < a
  · simp [h, max_eq_left h.le]
  · simp [h, max_eq_right (not_lt.mp h)]

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  have e : (BitVec.ofNat 32 a).slt (BitVec.ofNat 32 b) = decide (a < b) := by
    rw [BitVec.slt_eq_decide, WordCmp.toInt_ofNat_of_lt (by simpa using ha), WordCmp.toInt_ofNat_of_lt (by simpa using hb)]
    simp
  rw [e]
  by_cases h : a < b
  · simp [h, min_eq_left h.le]
  · simp [h, min_eq_right (not_lt.mp h)]

theorem distW_eq {D i j : ℕ} (h : j ≤ i + 128) (hi : i < 128) (hD : D ≤ 16) :
    distW D i j = BitVec.ofNat 32 (D * (i + 128 - j)) := by
  unfold distW
  rw [stepsW_eq h hi, maxsi_ofNat _ 0 (by omega) (by omega), Nat.max_zero]
  unfold IntOp.muli
  rw [← BitVec.ofNat_mul, Nat.mul_comm]

theorem sixteen : Ideal.ofBits .f32 0x41800000#32 = ((16 : ℝ) : EReal) := by
  simp [Ideal.ofBits, Ideal.ieee]
  rw [← EReal.coe_mul]
  norm_num

theorem divisor : Ideal.ofBits .f32 0x409B43D5#32 = ((Bucket.c : ℝ) : EReal) := by
  unfold Bucket.c
  simp [Ideal.ofBits, Ideal.ieee]
  rw [← EReal.coe_mul]
  norm_num

theorem logW_eq {d : ℕ} (h : 16 ≤ d) (hd : d ≤ 2048) : logW (BitVec.ofNat 32 d) = BitVec.ofNat 32 ⌊Bucket.ratio d⌋.toNat := by
  have h0 := Bucket.ratio_nonneg d h
  have h1 : Bucket.ratio d < (17 : ℕ) := Bucket.ratio_lt 17 2048 d (by norm_num) hd h
  have hf0 : 0 ≤ ⌊Bucket.ratio d⌋ := Int.floor_nonneg.mpr h0
  have hf1 : ⌊Bucket.ratio d⌋ < 17 := Int.floor_lt.mpr (by exact_mod_cast h1)
  have hpos : (0 : ℝ) < (d : ℝ) / 16 := by
    have : (16 : ℝ) ≤ d := by exact_mod_cast h
    positivity
  unfold logW
  rw [maxsi_ofNat d 1 (by omega) (by omega), max_eq_left (by omega), WordCmp.toInt_ofNat_of_lt (by omega), sixteen, divisor,
    Ideal.div_coe (show (16 : ℝ) ≠ 0 by norm_num)]
  have e1 : (((((d : ℕ) : ℤ) : ℝ) : EReal)) * ((1 / 16 : ℝ) : EReal) = ((((d : ℝ) / 16 : ℝ)) : EReal) := by
    rw [← EReal.coe_mul]; congr 1; push_cast; ring
  rw [e1, Ideal.log_coe, if_neg (not_le.mpr hpos), Ideal.div_coe Bucket.c_pos.ne', ← EReal.coe_mul, ← EReal.coe_mul]
  have e2 : Real.log ((d : ℝ) / 16) * (1 / Bucket.c) * 16 = Bucket.ratio d := by
    unfold Bucket.ratio; ring
  rw [e2]
  unfold Ideal.fptosi
  rw [Ideal.toIntClamped_coe, if_pos h0, min_eq_right (by norm_num; omega), max_eq_right (by norm_num; omega)]
  apply BitVec.eq_of_toInt_eq
  rw [WordCmp.toInt_ofNat_of_lt (by omega), BitVec.toInt_ofInt]
  rw [Int.bmod_def]
  omega

/-- Up to 2048 the formula gives the bucket. -/
theorem bucketW_eq {d : ℕ} (hd : d ≤ 2048) : wrapW (bucketW (BitVec.ofNat 32 d)) = BitVec.ofNat 32 (Bucket.bucket d) := by
  have e : bucketW (BitVec.ofNat 32 d) = BitVec.ofNat 32 (Bucket.bucket d) := by
    unfold bucketW
    by_cases h : d < 16
    · have e1 := (WordCmp.cmpi_slt_ofNat_eq_one_iff (w := 32) (a := d) (b := 16) (by omega) (by omega)).mpr h
      show (if IntOp.cmpi .slt (BitVec.ofNat 32 d) (BitVec.ofNat 32 16) = 1#1 then _ else _) = _
      rw [if_pos e1]
      unfold Bucket.bucket
      rw [if_pos h]
    · have e1 : ¬ IntOp.cmpi .slt (BitVec.ofNat 32 d) (BitVec.ofNat 32 16) = 1#1 := fun hh =>
        h ((WordCmp.cmpi_slt_ofNat_eq_one_iff (w := 32) (a := d) (b := 16) (by omega) (by omega)).mp hh)
      show (if IntOp.cmpi .slt (BitVec.ofNat 32 d) (BitVec.ofNat 32 16) = 1#1 then _ else _) = _
      rw [if_neg e1, logW_eq (by omega) hd]
      have hf := Bucket.formula d (by omega)
      have hf0 : 0 ≤ ⌊Bucket.ratio d⌋ := Int.floor_nonneg.mpr (Bucket.ratio_nonneg d (by omega))
      have h1 : Bucket.ratio d < (17 : ℕ) := Bucket.ratio_lt 17 2048 d (by norm_num) hd (by omega)
      have hf1 : ⌊Bucket.ratio d⌋ < 17 := Int.floor_lt.mpr (by exact_mod_cast h1)
      have e2 : IntOp.addi 16#32 (BitVec.ofNat 32 ⌊Bucket.ratio d⌋.toNat) = BitVec.ofNat 32 (16 + ⌊Bucket.ratio d⌋.toNat) := by
        unfold IntOp.addi; rw [BitVec.ofNat_add]
      rw [e2]
      refine (minsi_ofNat _ 31 (by omega) (by omega)).trans (congrArg _ ?_)
      omega
  rw [e]
  have hb := Bucket.bucket_lt d
  have e1 : ¬ IntOp.cmpi .slt (BitVec.ofNat 32 (Bucket.bucket d)) (BitVec.ofNat 32 0) = 1#1 := fun hh =>
    Nat.not_lt_zero _ ((WordCmp.cmpi_slt_ofNat_eq_one_iff (w := 32) (a := Bucket.bucket d) (b := 0) (by omega) (by omega)).mp hh)
  show (if IntOp.cmpi .slt (BitVec.ofNat 32 (Bucket.bucket d)) (BitVec.ofNat 32 0) = 1#1 then _ else _) = _
  rw [if_neg e1]

/-- The word of the bucket of key `j` seen from query `i`. -/
theorem bucket_word {D i j : ℕ} (h : j ≤ i + 128) (h' : i ≤ j) (hi : i < 128) (hD : D ≤ 16) :
    wrapW (bucketW (distW D i j)) = BitVec.ofNat 32 (Bucket.bucket (D * (i + 128 - j))) := by
  rw [distW_eq h hi hD]
  refine bucketW_eq ?_
  calc D * (i + 128 - j) ≤ 16 * 128 := Nat.mul_le_mul hD (by omega)
    _ = 2048 := by norm_num

end Cert.ReferenceIdeal.Attn
-- ==== Proof.RefBranch.lean ====
/- One dilation of the reference: from the blocks of queries, keys and values, the scores, their largest, their sum and the weighted values. -/
module

public import proofs.«01_k».proof.Proof.RefBucket

@[expose] public section

noncomputable section

namespace Cert.ReferenceIdeal.Attn

open Cert.ReferenceIdeal Cert.ReferenceIdeal.Gen Cert.ReferenceIdeal.Read Cert.KernelIdeal.Attn Idealize.ShloMosaic

/-- The row of the array that query `i` of block `n` of the rows congruent to `r` stands for. -/
def rowOf (D n i r : ℕ) : ℕ := D * (128 * n + i) + r

theorem rowOf_div {D n i r : ℕ} (hi : i < 128) (hr : r < D) : rowOf D n i r / (128 * D) = n := by
  unfold rowOf
  rw [Nat.mul_comm 128 D, ← Nat.div_div_eq_div_mul, Nat.mul_add_div (by omega), Nat.div_eq_of_lt hr]
  omega

theorem rowOf_mod {D n i r : ℕ} (hi : i < 128) (hr : r < D) : rowOf D n i r % (128 * D) / D = i := by
  unfold rowOf
  rw [Nat.mul_comm 128 D, Nat.mod_mul_right_div_self, Nat.mul_add_div (by omega), Nat.div_eq_of_lt hr]
  omega

/-- Position `j` of the window stands for the row of key `j`. -/
theorem gkey_rowOf {D n i r j : ℕ} (hi : i < 128) (hr : r < D) (hj : 128 ≤ j ∨ 1 ≤ n) :
    gkey D (rowOf D n i r) j = if 128 ≤ j then rowOf D n (j - 128) r else rowOf D (n - 1) j r := by
  unfold gkey
  rw [rowOf_mod hi hr]
  unfold rowOf
  split_ifs with h
  · obtain ⟨j', rfl⟩ := Nat.exists_eq_add_of_le h
    simp only [Nat.mul_add, Nat.add_sub_cancel_left]
    omega
  · obtain ⟨n', rfl⟩ := Nat.exists_eq_add_of_le (hj.resolve_left h)
    simp only [Nat.mul_add, Nat.add_sub_cancel_left]
    omega

theorem sees_rowOf {D n i r : ℕ} (j : ℕ) (hi : i < 128) (hr : r < D) :
    sees D (rowOf D n i r) j ↔ (i ≤ j ∧ j ≤ i + 128) ∧ (n = 0 → 128 ≤ j) := by
  unfold sees
  rw [rowOf_mod hi hr, rowOf_div hi hr]

section
variable {D nb : ℕ} (P : FVec Ideal S16384x3072 .f32) (B : FVec Ideal S32x8 .f32)

/-- A window holds the rows its positions stand for, where the query sees them. -/
theorem window_row (off : ℕ) (k : FVec Ideal ⟨5, ![D, nb, 128, 8, 128]⟩ .f32) (kw : FVec Ideal ⟨5, ![D, nb, 256, 8, 128]⟩ .f32)
    (hk : ∀ r n i h x, k (ix5 r n i h x) = atP P (rowOf D n.val i.val r.val) (off + 128 * h.val + x.val))
    (hw : ∀ (r : Fin D) (n : Fin nb) (j : Fin 256) (h : Fin 8) (x : Fin 128), (128 ≤ j.val ∨ 1 ≤ n.val) → kw (ix5 r n j h x) =
      if 128 ≤ j.val then k (ix5 r n (Fin.ofNat 128 (j.val - 128)) h x) else k (ix5 r (⟨n.val - 1, by omega⟩ : Fin nb) (Fin.ofNat 128 j.val) h x))
    (r : Fin D) (n : Fin nb) (i : Fin 128) (j : Fin 256) (h : Fin 8) (x : Fin 128) (hs : sees D (rowOf D n.val i.val r.val) j.val) :
    kw (ix5 r n j h x) = atP P (gkey D (rowOf D n.val i.val r.val) j.val) (off + 128 * h.val + x.val) := by
  have hs' := (sees_rowOf j.val i.isLt r.isLt).mp hs
  have hj : 128 ≤ j.val ∨ 1 ≤ n.val := by omega
  rw [hw r n j h x hj, gkey_rowOf i.isLt r.isLt hj]
  have hj' := j.isLt
  split_ifs with h128
  · rw [hk]
    refine congrArg (fun a => atP P (rowOf D n.val a r.val) _) ?_
    show (j.val - 128) % 128 = j.val - 128
    omega
  · rw [hk]
    refine congrArg (fun a => atP P (rowOf D (n.val - 1) a r.val) _) ?_
    show j.val % 128 = j.val
    omega

/-- The scores of a row of the reference are those of the specification. -/
theorem score_row (q : FVec Ideal ⟨5, ![D, nb, 128, 8, 128]⟩ .f32) (kw : FVec Ideal ⟨5, ![D, nb, 256, 8, 128]⟩ .f32)
    (dot bias : FVec Ideal ⟨5, ![D, nb, 8, 128, 256]⟩ .f32) (mask : IVec ⟨5, ![D, nb, 8, 128, 256]⟩ 1) (s : FVec Ideal ⟨5, ![D, nb, 8, 128, 256]⟩ .f32)
    (hq : ∀ r n i h x, q (ix5 r n i h x) = atP P (rowOf D n.val i.val r.val) (128 * h.val + x.val) * scale)
    (hkw : ∀ (r : Fin D) (n : Fin nb) (i : Fin 128) (j : Fin 256) (h : Fin 8) (x : Fin 128), sees D (rowOf D n.val i.val r.val) j.val →
      kw (ix5 r n j h x) = atP P (gkey D (rowOf D n.val i.val r.val) j.val) (1024 + 128 * h.val + x.val))
    (hdot : ∀ r n h i j, dot (ix5 r n h i j) = ∑ x : Fin 128, q (ix5 r n i h x) * kw (ix5 r n j h x))
    (hbias : ∀ r n (h : Fin 8) (i : Fin 128) (j : Fin 256), i.val ≤ j.val → j.val ≤ i.val + 128 →
      bias (ix5 r n h i j) = B (ix2 (Fin.ofNat 32 (Bucket.bucket (D * (i.val + 128 - j.val)))) h))
    (hmask : ∀ r (n : Fin nb) (h : Fin 8) (i : Fin 128) (j : Fin 256), mask (ix5 r n h i j) = 1#1 ↔
      (i.val ≤ j.val ∧ j.val ≤ i.val + 128) ∧ (n.val = 0 → 128 ≤ j.val))
    (hsel : ∀ y, s y = if mask y = 1#1 then dot y + bias y else ⊥)
    (r : Fin D) (n : Fin nb) (h : Fin 8) (i : Fin 128) (j : Fin 256) :
    s (ix5 r n h i j) = gsc P B D h.val (rowOf D n.val i.val r.val) j := by
  rw [hsel]
  unfold gsc
  by_cases hs : sees D (rowOf D n.val i.val r.val) j.val
  · have hs' := (sees_rowOf j.val i.isLt r.isLt).mp hs
    rw [if_pos hs, if_pos ((hmask r n h i j).mpr hs'), hdot, hbias r n h i j hs'.1.1 hs'.1.2, rowOf_mod i.isLt r.isLt]
    refine congrArg₂ (· + ·) (Finset.sum_congr rfl fun x _ => ?_) ?_
    · rw [hq, hkw r n i j h x hs]
    · refine congrArg B (funext fun a => Fin.ext ?_)
      have hh := h.isLt
      match a with
      | ⟨0, _⟩ => rfl
      | ⟨1, _⟩ => exact (show h.val = h.val % 8 by omega)
  · rw [if_neg hs, if_neg fun hm => hs ((sees_rowOf j.val i.isLt r.isLt).mpr ((hmask r n h i j).mp hm))]

/-- Largest score, sum and weighted values of a row. -/
theorem stats_row (s p : FVec Ideal ⟨5, ![D, nb, 8, 128, 256]⟩ .f32) (vw : FVec Ideal ⟨5, ![D, nb, 256, 8, 128]⟩ .f32)
    (m l : FVec Ideal ⟨4, ![D, nb, 8, 128]⟩ .f32) (o : FVec Ideal ⟨5, ![D, nb, 8, 128, 128]⟩ .f32)
    (hs : ∀ r n h i j, s (ix5 r n h i j) = gsc P B D h.val (rowOf D n.val i.val r.val) j)
    (hvw : ∀ (r : Fin D) (n : Fin nb) (i : Fin 128) (j : Fin 256) (h : Fin 8) (x : Fin 128), sees D (rowOf D n.val i.val r.val) j.val →
      vw (ix5 r n j h x) = atP P (gkey D (rowOf D n.val i.val r.val) j.val) (2048 + 128 * h.val + x.val))
    (hm : ∀ r n h i, m (ix4 r n h i) = Finset.univ.fold max ⊥ (fun j : Fin 256 => s (ix5 r n h i j)))
    (hp : ∀ r n h i j, p (ix5 r n h i j) = Ideal.exp (s (ix5 r n h i j) - m (ix4 r n h i)))
    (hl : ∀ r n h i, l (ix4 r n h i) = 0 + ∑ j : Fin 256, p (ix5 r n h i j))
    (ho : ∀ r n h x i, o (ix5 r n h x i) = ∑ j : Fin 256, vw (ix5 r n j h x) * p (ix5 r n h i j))
    (r : Fin D) (n : Fin nb) (h : Fin 8) (i : Fin 128) :
    m (ix4 r n h i) = rmax (gsc P B D h.val (rowOf D n.val i.val r.val)) ∧
    l (ix4 r n h i) = rsum (gsc P B D h.val (rowOf D n.val i.val r.val)) ∧
    ∀ x : Fin 128, o (ix5 r n h x i) = rout (gsc P B D h.val (rowOf D n.val i.val r.val)) (gval P D h.val (rowOf D n.val i.val r.val) x.val) := by
  have em : m (ix4 r n h i) = rmax (gsc P B D h.val (rowOf D n.val i.val r.val)) := by
    rw [hm]; unfold rmax
    exact congrArg (fun f => Finset.univ.fold max ⊥ f) (funext fun j => hs r n h i j)
  have ep : ∀ j, p (ix5 r n h i j) = rnum (gsc P B D h.val (rowOf D n.val i.val r.val)) j := fun j => by
    rw [hp, em, hs]; rfl
  refine ⟨em, ?_, fun x => ?_⟩
  · rw [hl, zero_add]; unfold rsum
    exact Finset.sum_congr rfl fun j _ => ep j
  · rw [ho]
    refine Eq.trans ?_ (rout_congr (gsc P B D h.val (rowOf D n.val i.val r.val)) (fun j => vw (ix5 r n j h x)) _ fun j hj =>
      hvw r n i j h x (sees_of_ne _ _ hj))
    unfold rout
    exact Finset.sum_congr rfl fun j _ => by rw [ep, mul_comm]
end

end Cert.ReferenceIdeal.Attn
-- ==== Proof.RefBlocks.lean ====
/- Cutting the rows into blocks for one dilation, and putting the blocks together again. -/
module

public import proofs.«01_k».proof.Proof.RefBranch

@[expose] public section

noncomputable section

namespace Cert.ReferenceIdeal.Attn

open Cert.ReferenceIdeal Cert.ReferenceIdeal.Gen Cert.ReferenceIdeal.Read Cert.KernelIdeal.Attn Idealize.ShloMosaic

variable {D m nb : ℕ}

theorem row_lt (hm : D * m = 16384) (hnb : nb * 128 = m) (r : Fin D) (n : Fin nb) (i : Fin 128) : rowOf D n.val i.val r.val < 16384 := by
  have h1 : 128 * n.val + i.val + 1 ≤ m := by have := n.isLt; have := i.isLt; omega
  have h2 := Nat.mul_le_mul_left D h1
  have := r.isLt
  unfold rowOf
  rw [Nat.mul_add, Nat.mul_one] at h2
  omega

/-- Query `i` of block `n` of the rows congruent to `r`. -/
theorem blocks (hm : D * m = 16384) (hnb : nb * 128 = m) (x : FVec Ideal S16384x8x128 .f32)
    (h1 : S16384x8x128.ShapeCasts ⟨4, ![m, D, 8, 128]⟩) (h2 : (⟨4, ![m, D, 8, 128]⟩ : Shape).Transposes [1, 0, 2, 3] ⟨4, ![D, m, 8, 128]⟩)
    (h3 : (⟨4, ![D, m, 8, 128]⟩ : Shape).ShapeCasts ⟨5, ![D, nb, 128, 8, 128]⟩)
    (r : Fin D) (n : Fin nb) (i : Fin 128) (h : Fin 8) (d : Fin 128) :
    shapeCast ⟨5, ![D, nb, 128, 8, 128]⟩ (transpose ⟨4, ![D, m, 8, 128]⟩ [1, 0, 2, 3] (shapeCast ⟨4, ![m, D, 8, 128]⟩ x h1) h2) h3 (ix5 r n i h d) =
      x (ix3 (Fin.ofNat 16384 (rowOf D n.val i.val r.val)) h d) := by
  have hl : 128 * n.val + i.val < m := by have := n.isLt; have := i.isLt; omega
  have hg := row_lt hm hnb r n i
  refine (shapeCast_apply _ h3 (ix5 r n i h d) (ix4 r (⟨128 * n.val + i.val, hl⟩ : Fin m) h d) ?_).trans ?_
  · rw [Shape.rowMajor_val_four, Shape.rowMajor_val_five]
    show ((r.val * m + (128 * n.val + i.val)) * 8 + h.val) * 128 + d.val = (((r.val * nb + n.val) * 128 + i.val) * 8 + h.val) * 128 + d.val
    rw [← hnb]; ring
  refine (transpose_apply [1, 0, 2, 3] _ h2 _ (ix4 (⟨128 * n.val + i.val, hl⟩ : Fin m) r h d) fun b => ?_).trans ?_
  · match b with
    | ⟨0, _⟩ => rfl
    | ⟨1, _⟩ => rfl
    | ⟨2, _⟩ => rfl
    | ⟨3, _⟩ => rfl
  refine shapeCast_apply _ h1 _ (ix3 (Fin.ofNat 16384 (rowOf D n.val i.val r.val)) h d) ?_
  rw [Shape.rowMajor_val_three, Shape.rowMajor_val_four]
  show (rowOf D n.val i.val r.val % 16384 * 8 + h.val) * 128 + d.val = (((128 * n.val + i.val) * D + r.val) * 8 + h.val) * 128 + d.val
  rw [Nat.mod_eq_of_lt hg]
  unfold rowOf; ring

/-- The row that an entry of the blocks goes back to. -/
theorem unblocks (hm : D * m = 16384) (hnb : nb * 128 = m) (o : FVec Ideal ⟨5, ![D, nb, 8, 128, 128]⟩ .f32)
    (h0 : (⟨5, ![D, nb, 8, 128, 128]⟩ : Shape).Transposes [0, 1, 4, 2, 3] ⟨5, ![D, nb, 128, 8, 128]⟩)
    (h1 : (⟨5, ![D, nb, 128, 8, 128]⟩ : Shape).ShapeCasts ⟨4, ![D, m, 8, 128]⟩) (h2 : (⟨4, ![D, m, 8, 128]⟩ : Shape).Transposes [1, 0, 2, 3] ⟨4, ![m, D, 8, 128]⟩)
    (h3 : (⟨4, ![m, D, 8, 128]⟩ : Shape).ShapeCasts S16384x8x128)
    (r : Fin D) (n : Fin nb) (i : Fin 128) (h : Fin 8) (d : Fin 128) :
    shapeCast S16384x8x128 (transpose ⟨4, ![m, D, 8, 128]⟩ [1, 0, 2, 3] (shapeCast ⟨4, ![D, m, 8, 128]⟩
      (transpose ⟨5, ![D, nb, 128, 8, 128]⟩ [0, 1, 4, 2, 3] o h0) h1) h2) h3 (ix3 (Fin.ofNat 16384 (rowOf D n.val i.val r.val)) h d) =
      o (ix5 r n h d i) := by
  have hl : 128 * n.val + i.val < m := by have := n.isLt; have := i.isLt; omega
  have hg := row_lt hm hnb r n i
  refine (shapeCast_apply _ h3 _ (ix4 (⟨128 * n.val + i.val, hl⟩ : Fin m) r h d) ?_).trans ?_
  · rw [Shape.rowMajor_val_four, Shape.rowMajor_val_three]
    show (((128 * n.val + i.val) * D + r.val) * 8 + h.val) * 128 + d.val = (rowOf D n.val i.val r.val % 16384 * 8 + h.val) * 128 + d.val
    rw [Nat.mod_eq_of_lt hg]
    unfold rowOf; ring
  refine (transpose_apply [1, 0, 2, 3] _ h2 _ (ix4 r (⟨128 * n.val + i.val, hl⟩ : Fin m) h d) fun b => ?_).trans ?_
  · match b with
    | ⟨0, _⟩ => rfl
    | ⟨1, _⟩ => rfl
    | ⟨2, _⟩ => rfl
    | ⟨3, _⟩ => rfl
  refine (shapeCast_apply _ h1 _ (ix5 r n i h d) ?_).trans ?_
  · rw [Shape.rowMajor_val_four, Shape.rowMajor_val_five]
    show (((r.val * nb + n.val) * 128 + i.val) * 8 + h.val) * 128 + d.val = ((r.val * m + (128 * n.val + i.val)) * 8 + h.val) * 128 + d.val
    rw [← hnb]; ring
  refine transpose_apply [0, 1, 4, 2, 3] o h0 _ (ix5 r n h d i) fun b => ?_
  match b with
  | ⟨0, _⟩ => rfl
  | ⟨1, _⟩ => rfl
  | ⟨2, _⟩ => rfl
  | ⟨3, _⟩ => rfl
  | ⟨4, _⟩ => rfl

/-- The same for a number per row and head. -/
theorem unblocks_stat (hm : D * m = 16384) (hnb : nb * 128 = m) (o : FVec Ideal ⟨4, ![D, nb, 8, 128]⟩ .f32)
    (h0 : (⟨4, ![D, nb, 8, 128]⟩ : Shape).Transposes [0, 1, 3, 2] ⟨4, ![D, nb, 128, 8]⟩)
    (h1 : (⟨4, ![D, nb, 128, 8]⟩ : Shape).ShapeCasts ⟨3, ![D, m, 8]⟩) (h2 : (⟨3, ![D, m, 8]⟩ : Shape).Transposes [1, 0, 2] ⟨3, ![m, D, 8]⟩)
    (h3 : (⟨3, ![m, D, 8]⟩ : Shape).ShapeCasts S16384x8)
    (r : Fin D) (n : Fin nb) (i : Fin 128) (h : Fin 8) :
    shapeCast S16384x8 (transpose ⟨3, ![m, D, 8]⟩ [1, 0, 2] (shapeCast ⟨3, ![D, m, 8]⟩
      (transpose ⟨4, ![D, nb, 128, 8]⟩ [0, 1, 3, 2] o h0) h1) h2) h3 (ix2 (Fin.ofNat 16384 (rowOf D n.val i.val r.val)) h) =
      o (ix4 r n h i) := by
  have hl : 128 * n.val + i.val < m := by have := n.isLt; have := i.isLt; omega
  have hg := row_lt hm hnb r n i
  refine (shapeCast_apply _ h3 _ (ix3 (⟨128 * n.val + i.val, hl⟩ : Fin m) r h) ?_).trans ?_
  · rw [Shape.rowMajor_val_three, Shape.rowMajor_val_two]
    show ((128 * n.val + i.val) * D + r.val) * 8 + h.val = rowOf D n.val i.val r.val % 16384 * 8 + h.val
    rw [Nat.mod_eq_of_lt hg]
    unfold rowOf; ring
  refine (transpose_apply [1, 0, 2] _ h2 _ (ix3 r (⟨128 * n.val + i.val, hl⟩ : Fin m) h) fun b => ?_).trans ?_
  · match b with
    | ⟨0, _⟩ => rfl
    | ⟨1, _⟩ => rfl
    | ⟨2, _⟩ => rfl
  refine (shapeCast_apply _ h1 _ (ix4 r n i h) ?_).trans ?_
  · rw [Shape.rowMajor_val_three, Shape.rowMajor_val_four]
    show ((r.val * nb + n.val) * 128 + i.val) * 8 + h.val = (r.val * m + (128 * n.val + i.val)) * 8 + h.val
    rw [← hnb]; ring
  refine transpose_apply [0, 1, 3, 2] o h0 _ (ix4 r n h i) fun b => ?_
  match b with
  | ⟨0, _⟩ => rfl
  | ⟨1, _⟩ => rfl
  | ⟨2, _⟩ => rfl
  | ⟨3, _⟩ => rfl

section
variable (P : FVec Ideal S16384x3072 .f32)

theorem atP_of (g x : ℕ) (hg : g < 16384) (hx : x < 3072) (j : S16384x3072.Idx) (h0 : (j 0).val = g) (h1 : (j 1).val = x) : P j = atP P g x := by
  unfold atP
  refine congrArg P (funext fun a => Fin.ext ?_)
  match a with
  | ⟨0, _⟩ => exact (show (j 0).val = g % 16384 by omega)
  | ⟨1, _⟩ => exact (show (j 1).val = x % 3072 by omega)

/-- The scaled queries, by row and head. -/
theorem queries (g : ℕ) (hg : g < 16384) (h : Fin 8) (d : Fin 128) :
    val_main_v7 (F := Ideal) P (ix3 (Fin.ofNat 16384 g) h d) = atP P g (128 * h.val + d.val) * scale := by
  rw [val_main_v7_apply, val_main_v6_apply, val_main_v3_apply, val_main_v0_apply]
  have := h.isLt
  have := d.isLt
  refine congrArg₂ (· * ·) (atP_of P g _ hg (by omega) _ ?_ ?_) rfl
  · show ((g % 16384 * 8 + h.val) * 128 + d.val) / 1024 = g
    omega
  · show ((g % 16384 * 8 + h.val) * 128 + d.val) % 1024 = 128 * h.val + d.val
    omega

/-- The keys. -/
theorem keys (g : ℕ) (hg : g < 16384) (h : Fin 8) (d : Fin 128) :
    val_main_v4 (F := Ideal) P (ix3 (Fin.ofNat 16384 g) h d) = atP P g (1024 + 128 * h.val + d.val) := by
  rw [val_main_v4_apply, val_main_v1_apply]
  have := h.isLt
  have := d.isLt
  refine atP_of P g _ hg (by omega) _ ?_ ?_
  · show ((g % 16384 * 8 + h.val) * 128 + d.val) / 1024 = g
    omega
  · show 1024 + ((g % 16384 * 8 + h.val) * 128 + d.val) % 1024 = 1024 + 128 * h.val + d.val
    omega

/-- The values. -/
theorem values (g : ℕ) (hg : g < 16384) (h : Fin 8) (d : Fin 128) :
    val_main_v5 (F := Ideal) P (ix3 (Fin.ofNat 16384 g) h d) = atP P g (2048 + 128 * h.val + d.val) := by
  rw [val_main_v5_apply, val_main_v2_apply]
  have := h.isLt
  have := d.isLt
  refine atP_of P g _ hg (by omega) _ ?_ ?_
  · show ((g % 16384 * 8 + h.val) * 128 + d.val) / 1024 = g
    omega
  · show 2048 + ((g % 16384 * 8 + h.val) * 128 + d.val) % 1024 = 2048 + 128 * h.val + d.val
    omega
end

/-- An index of five positions is the five positions. -/
theorem ix5_eta {a b c d e : ℕ} (y : (⟨5, ![a, b, c, d, e]⟩ : Shape).Idx) : y = ix5 (y 0) (y 1) (y 2) (y 3) (y 4) := funext fun q => by
  match q with
  | ⟨0, _⟩ => rfl
  | ⟨1, _⟩ => rfl
  | ⟨2, _⟩ => rfl
  | ⟨3, _⟩ => rfl
  | ⟨4, _⟩ => rfl

theorem ix4_eta {a b c d : ℕ} (y : (⟨4, ![a, b, c, d]⟩ : Shape).Idx) : y = ix4 (y 0) (y 1) (y 2) (y 3) := funext fun q => by
  match q with
  | ⟨0, _⟩ => rfl
  | ⟨1, _⟩ => rfl
  | ⟨2, _⟩ => rfl
  | ⟨3, _⟩ => rfl

theorem ix3_eta {a b c : ℕ} (y : (⟨3, ![a, b, c]⟩ : Shape).Idx) : y = ix3 (y 0) (y 1) (y 2) := funext fun q => by
  match q with
  | ⟨0, _⟩ => rfl
  | ⟨1, _⟩ => rfl
  | ⟨2, _⟩ => rfl

theorem ix2_eta {a b : ℕ} (y : (⟨2, ![a, b]⟩ : Shape).Idx) : y = ix2 (y 0) (y 1) := funext fun q => by
  match q with
  | ⟨0, _⟩ => rfl
  | ⟨1, _⟩ => rfl

theorem neg_inf : Ideal.ofBits .f32 0xFF800000#32 = ⊥ := by simp [Ideal.ofBits, Ideal.ieee]

theorem zero_word : Ideal.ofBits .f32 0x00000000#32 = 0 := by simp [Ideal.ofBits, Ideal.ieee]

theorem select_bot (c : BitVec 1) (a : EReal) : Scalar.select c a (Ideal.ofBits .f32 0xFF800000#32) = if c = 1#1 then a else ⊥ := by
  rw [neg_inf]; rfl

theorem not_eq_one (x : BitVec 1) : ~~~x = 1#1 ↔ ¬ x = 1#1 := by revert x; decide

/-- The mask: at most 128 steps back, and in the first block no key before the first row. -/
theorem mask_iff {n i j : ℕ} (hi : i < 128) (hj : j < 256) (hn : n < 128) :
    IntOp.andi (IntOp.andi (IntOp.cmpi .sge (stepsW i j) 0#32) (IntOp.cmpi .sle (stepsW i j) 128#32))
      (~~~(IntOp.andi (IntOp.cmpi .eq (BitVec.ofNat 32 n) 0#32) (IntOp.cmpi .slt (BitVec.ofNat 32 j) 128#32))) = 1#1 ↔
    (i ≤ j ∧ j ≤ i + 128) ∧ (n = 0 → 128 ≤ j) := by
  have e1 := WordCmp.cmpi_eq_ofNat_eq_one_iff (w := 32) (a := n) (b := 0) (by omega) (by omega)
  have e2 := WordCmp.cmpi_slt_ofNat_eq_one_iff (w := 32) (a := j) (b := 128) (by omega) (by omega)
  rw [IntOp.andi_eq_one, IntOp.andi_eq_one, not_eq_one, IntOp.andi_eq_one, e1, e2]
  by_cases hc : j ≤ i + 128
  · rw [stepsW_eq hc hi]
    have e3 := WordCmp.cmpi_sge_ofNat_eq_one_iff (w := 32) (a := i + 128 - j) (b := 0) (by omega) (by omega)
    have e4 := WordCmp.cmpi_sle_ofNat_eq_one_iff (w := 32) (a := i + 128 - j) (b := 128) (by omega) (by omega)
    rw [e3, e4]
    omega
  · have e3 : ¬ IntOp.cmpi .sge (stepsW i j) 0#32 = 1#1 := by
      unfold IntOp.cmpi stepsW IntOp.subi IntOp.addi
      have ht : (BitVec.ofNat 32 i + 128#32 - BitVec.ofNat 32 j).toInt = (i : ℤ) + 128 - j := by
        rw [BitVec.toInt_eq_toNat_cond]
        simp only [BitVec.toNat_sub, BitVec.toNat_add, BitVec.toNat_ofNat]
        split_ifs <;> omega
      have h0 : (0#32 : BitVec 32).toInt = 0 := by decide
      simp only [BitVec.sle_eq_decide, h0, ht]
      rw [decide_eq_false (by omega)]
      decide
    constructor
    · intro hh; exact absurd hh.1.1 e3
    · intro hh; omega

end Cert.ReferenceIdeal.Attn
-- ==== Proof.RefD1.lean ====
/- The rows one after another: the reference's numbers of every row and head. -/
module

public import proofs.«01_k».proof.Proof.RefBlocks

@[expose] public section

noncomputable section

namespace Cert.ReferenceIdeal.Attn

open Cert.ReferenceIdeal Cert.ReferenceIdeal.Gen Cert.ReferenceIdeal.Read Cert.KernelIdeal.Attn Idealize.ShloMosaic

variable (P : FVec Ideal S16384x3072 .f32) (B : FVec Ideal S32x8 .f32)

theorem d1_mask (r : Fin 1) (n : Fin 128) (h : Fin 8) (i : Fin 128) (j : Fin 256) :
    val_main_call3_v1 (F := Ideal) (ix5 r n h i j) = 1#1 ↔ (i.val ≤ j.val ∧ j.val ≤ i.val + 128) ∧ (n.val = 0 → 128 ≤ j.val) :=
  (mask_iff i.isLt j.isLt (show n.val < 128 by omega))

theorem d1_q (r : Fin 1) (n : Fin 128) (i : Fin 128) (h : Fin 8) (x : Fin 128) :
    val_main_v10 (F := Ideal) P (ix5 r n i h x) = atP P (rowOf 1 n.val i.val r.val) (128 * h.val + x.val) * scale :=
  (blocks (m := 16384) rfl rfl _ _ _ _ r n i h x).trans (queries P _ (row_lt (m := 16384) rfl rfl r n i) h x)

theorem d1_k (r : Fin 1) (n : Fin 128) (i : Fin 128) (h : Fin 8) (x : Fin 128) :
    val_main_v13 (F := Ideal) P (ix5 r n i h x) = atP P (rowOf 1 n.val i.val r.val) (1024 + 128 * h.val + x.val) :=
  (blocks (m := 16384) rfl rfl _ _ _ _ r n i h x).trans (keys P _ (row_lt (m := 16384) rfl rfl r n i) h x)

theorem d1_v (r : Fin 1) (n : Fin 128) (i : Fin 128) (h : Fin 8) (x : Fin 128) :
    val_main_v19 (F := Ideal) P (ix5 r n i h x) = atP P (rowOf 1 n.val i.val r.val) (2048 + 128 * h.val + x.val) :=
  (blocks (m := 16384) rfl rfl _ _ _ _ r n i h x).trans (values P _ (row_lt (m := 16384) rfl rfl r n i) h x)

theorem d1_kw (r : Fin 1) (n : Fin 128) (i : Fin 128) (j : Fin 256) (h : Fin 8) (x : Fin 128) (hs : sees 1 (rowOf 1 n.val i.val r.val) j.val) :
    val_main_v16 (F := Ideal) P (ix5 r n j h x) = atP P (gkey 1 (rowOf 1 n.val i.val r.val) j.val) (1024 + 128 * h.val + x.val) :=
  window_row P 1024 (val_main_v13 (F := Ideal) P) (val_main_v16 (F := Ideal) P) (d1_k P)
    (fun r n j h x hj => window 1 128 _ _ _ rfl _ _ rfl _ rfl _ _ _ _ r n j h x hj) r n i j h x hs

theorem d1_vw (r : Fin 1) (n : Fin 128) (i : Fin 128) (j : Fin 256) (h : Fin 8) (x : Fin 128) (hs : sees 1 (rowOf 1 n.val i.val r.val) j.val) :
    val_main_v22 (F := Ideal) P (ix5 r n j h x) = atP P (gkey 1 (rowOf 1 n.val i.val r.val) j.val) (2048 + 128 * h.val + x.val) :=
  window_row P 2048 (val_main_v19 (F := Ideal) P) (val_main_v22 (F := Ideal) P) (d1_v P)
    (fun r n j h x hj => window 1 128 _ _ _ rfl _ _ rfl _ rfl _ _ _ _ r n j h x hj) r n i j h x hs

theorem d1_dot (r : Fin 1) (n : Fin 128) (h : Fin 8) (i : Fin 128) (j : Fin 256) : val_main_v23 (F := Ideal) P (ix5 r n h i j) =
    ∑ x : Fin 128, val_main_v10 (F := Ideal) P (ix5 r n i h x) * val_main_v16 (F := Ideal) P (ix5 r n j h x) :=
  (val_main_v23_apply P (ix5 r n h i j)).trans (Finset.sum_congr rfl fun x _ => congrArg₂ (· * ·)
    (congrArg _ (ix5_eta _)) (congrArg _ (ix5_eta _)))

theorem d1_bias (r : Fin 1) (n : Fin 128) (h : Fin 8) (i : Fin 128) (j : Fin 256) (hi : i.val ≤ j.val) (hj : j.val ≤ i.val + 128) :
    val_main_v85 (F := Ideal) B (ix5 r n h i j) = B (ix2 (Fin.ofNat 32 (Bucket.bucket (1 * (i.val + 128 - j.val)))) h) := by
  rw [val_main_v85_apply, val_main_v84_apply, val_main_v82_apply]
  refine (congrArg (val_main_v81 (F := Ideal) B) (ix3_eta _)).trans (weights B (val_main_v80 (F := Ideal)) i j h _ (Bucket.bucket_lt _) ?_)
  rw [val_main_v80_apply]
  exact (congrArg (val_main_v79 (F := Ideal)) (ix2_eta _)).trans ((v79_eq i j).trans (bucket_word hj hi i.isLt (by decide)))

theorem d1_score (r : Fin 1) (n : Fin 128) (h : Fin 8) (i : Fin 128) (j : Fin 256) :
    val_main_v87 (F := Ideal) P B (ix5 r n h i j) = gsc P B 1 h.val (rowOf 1 n.val i.val r.val) j :=
  score_row P B (val_main_v10 (F := Ideal) P) (val_main_v16 (F := Ideal) P) (val_main_v23 (F := Ideal) P) (val_main_v85 (F := Ideal) B)
    (val_main_call3_v1 (F := Ideal)) (val_main_v87 (F := Ideal) P B) (d1_q P) (d1_kw P) (d1_dot P) (d1_bias B) d1_mask
    (fun y => select_bot _ _) r n h i j

theorem d1_max (r : Fin 1) (n : Fin 128) (h : Fin 8) (i : Fin 128) : val_main_v88 (F := Ideal) P B (ix4 r n h i) =
    Finset.univ.fold max ⊥ (fun j : Fin 256 => val_main_v87 (F := Ideal) P B (ix5 r n h i j)) :=
  max_last 1 128 8 128 _ _ _ _ r n h i neg_inf

theorem d1_exp (r : Fin 1) (n : Fin 128) (h : Fin 8) (i : Fin 128) (j : Fin 256) : val_main_v92 (F := Ideal) P B (ix5 r n h i j) =
    Ideal.exp (val_main_v87 (F := Ideal) P B (ix5 r n h i j) - val_main_v88 (F := Ideal) P B (ix4 r n h i)) := by
  rw [val_main_v92_apply, val_main_v91_apply, val_main_v90_apply, val_main_v89_apply]
  exact congrArg (fun q => Ideal.exp (val_main_v87 (F := Ideal) P B (ix5 r n h i j) - val_main_v88 (F := Ideal) P B q)) (funext fun q => by
    match q with
    | ⟨0, _⟩ => exact Subsingleton.elim (α := Fin 1) _ _
    | ⟨1, _⟩ => rfl
    | ⟨2, _⟩ => rfl
    | ⟨3, _⟩ => rfl)

theorem d1_sum (r : Fin 1) (n : Fin 128) (h : Fin 8) (i : Fin 128) : val_main_v93 (F := Ideal) P B (ix4 r n h i) =
    0 + ∑ j : Fin 256, val_main_v92 (F := Ideal) P B (ix5 r n h i j) :=
  (val_main_v93_apply P B _).trans (congrArg₂ (· + ·) zero_word (Finset.sum_congr rfl fun j _ => congrArg _ (ix5_eta _)))

theorem d1_out (r : Fin 1) (n : Fin 128) (h : Fin 8) (x : Fin 128) (i : Fin 128) : val_main_v94 (F := Ideal) P B (ix5 r n h x i) =
    ∑ j : Fin 256, val_main_v22 (F := Ideal) P (ix5 r n j h x) * val_main_v92 (F := Ideal) P B (ix5 r n h i j) :=
  (val_main_v94_apply P B _).trans (Finset.sum_congr rfl fun j _ => congrArg₂ (· * ·)
    (congrArg _ (ix5_eta _)) (congrArg _ (ix5_eta _)))

/-- Largest score, sum and weighted values of a row and head, at the row's own place. -/
theorem d1_rows (r : Fin 1) (n : Fin 128) (h : Fin 8) (i : Fin 128) :
    val_main_v102 (F := Ideal) P B (ix2 (Fin.ofNat 16384 (rowOf 1 n.val i.val r.val)) h) = rmax (gsc P B 1 h.val (rowOf 1 n.val i.val r.val)) ∧
    val_main_v106 (F := Ideal) P B (ix2 (Fin.ofNat 16384 (rowOf 1 n.val i.val r.val)) h) = rsum (gsc P B 1 h.val (rowOf 1 n.val i.val r.val)) ∧
    ∀ x : Fin 128, val_main_v98 (F := Ideal) P B (ix3 (Fin.ofNat 16384 (rowOf 1 n.val i.val r.val)) h x) =
      rout (gsc P B 1 h.val (rowOf 1 n.val i.val r.val)) (gval P 1 h.val (rowOf 1 n.val i.val r.val) x.val) := by
  have hh := stats_row P B (val_main_v87 (F := Ideal) P B) (val_main_v92 (F := Ideal) P B) (val_main_v22 (F := Ideal) P) (val_main_v88 (F := Ideal) P B)
    (val_main_v93 (F := Ideal) P B) (val_main_v94 (F := Ideal) P B) (d1_score P B) (d1_vw P) (d1_max P B) (d1_exp P B) (d1_sum P B) (d1_out P B) r n h i
  exact ⟨(unblocks_stat (m := 16384) rfl rfl (val_main_v88 (F := Ideal) P B) _ _ _ _ r n i h).trans hh.1,
    (unblocks_stat (m := 16384) rfl rfl (val_main_v93 (F := Ideal) P B) _ _ _ _ r n i h).trans hh.2.1,
    fun x => (unblocks (m := 16384) rfl rfl (val_main_v94 (F := Ideal) P B) _ _ _ _ r n i h x).trans (hh.2.2 x)⟩

end Cert.ReferenceIdeal.Attn
-- ==== Proof.RefD4.lean ====
/- The rows four apart: the reference's numbers of every row and head. -/
module

public import proofs.«01_k».proof.Proof.RefBlocks

@[expose] public section

noncomputable section

namespace Cert.ReferenceIdeal.Attn

open Cert.ReferenceIdeal Cert.ReferenceIdeal.Gen Cert.ReferenceIdeal.Read Cert.KernelIdeal.Attn Idealize.ShloMosaic

variable (P : FVec Ideal S16384x3072 .f32) (B : FVec Ideal S32x8 .f32)

theorem d4_mask (r : Fin 4) (n : Fin 32) (h : Fin 8) (i : Fin 128) (j : Fin 256) :
    val_main_call7_v1 (F := Ideal) (ix5 r n h i j) = 1#1 ↔ (i.val ≤ j.val ∧ j.val ≤ i.val + 128) ∧ (n.val = 0 → 128 ≤ j.val) :=
  (mask_iff i.isLt j.isLt (show n.val < 128 by omega))

theorem d4_q (r : Fin 4) (n : Fin 32) (i : Fin 128) (h : Fin 8) (x : Fin 128) :
    val_main_v109 (F := Ideal) P (ix5 r n i h x) = atP P (rowOf 4 n.val i.val r.val) (128 * h.val + x.val) * scale :=
  (blocks (m := 4096) rfl rfl _ _ _ _ r n i h x).trans (queries P _ (row_lt (m := 4096) rfl rfl r n i) h x)

theorem d4_k (r : Fin 4) (n : Fin 32) (i : Fin 128) (h : Fin 8) (x : Fin 128) :
    val_main_v112 (F := Ideal) P (ix5 r n i h x) = atP P (rowOf 4 n.val i.val r.val) (1024 + 128 * h.val + x.val) :=
  (blocks (m := 4096) rfl rfl _ _ _ _ r n i h x).trans (keys P _ (row_lt (m := 4096) rfl rfl r n i) h x)

theorem d4_v (r : Fin 4) (n : Fin 32) (i : Fin 128) (h : Fin 8) (x : Fin 128) :
    val_main_v118 (F := Ideal) P (ix5 r n i h x) = atP P (rowOf 4 n.val i.val r.val) (2048 + 128 * h.val + x.val) :=
  (blocks (m := 4096) rfl rfl _ _ _ _ r n i h x).trans (values P _ (row_lt (m := 4096) rfl rfl r n i) h x)

theorem d4_kw (r : Fin 4) (n : Fin 32) (i : Fin 128) (j : Fin 256) (h : Fin 8) (x : Fin 128) (hs : sees 4 (rowOf 4 n.val i.val r.val) j.val) :
    val_main_v115 (F := Ideal) P (ix5 r n j h x) = atP P (gkey 4 (rowOf 4 n.val i.val r.val) j.val) (1024 + 128 * h.val + x.val) :=
  window_row P 1024 (val_main_v112 (F := Ideal) P) (val_main_v115 (F := Ideal) P) (d4_k P)
    (fun r n j h x hj => window 4 32 _ _ _ rfl _ _ rfl _ rfl _ _ _ _ r n j h x hj) r n i j h x hs

theorem d4_vw (r : Fin 4) (n : Fin 32) (i : Fin 128) (j : Fin 256) (h : Fin 8) (x : Fin 128) (hs : sees 4 (rowOf 4 n.val i.val r.val) j.val) :
    val_main_v121 (F := Ideal) P (ix5 r n j h x) = atP P (gkey 4 (rowOf 4 n.val i.val r.val) j.val) (2048 + 128 * h.val + x.val) :=
  window_row P 2048 (val_main_v118 (F := Ideal) P) (val_main_v121 (F := Ideal) P) (d4_v P)
    (fun r n j h x hj => window 4 32 _ _ _ rfl _ _ rfl _ rfl _ _ _ _ r n j h x hj) r n i j h x hs

theorem d4_dot (r : Fin 4) (n : Fin 32) (h : Fin 8) (i : Fin 128) (j : Fin 256) : val_main_v122 (F := Ideal) P (ix5 r n h i j) =
    ∑ x : Fin 128, val_main_v109 (F := Ideal) P (ix5 r n i h x) * val_main_v115 (F := Ideal) P (ix5 r n j h x) :=
  (val_main_v122_apply P (ix5 r n h i j)).trans (Finset.sum_congr rfl fun x _ => congrArg₂ (· * ·)
    (congrArg _ (ix5_eta _)) (congrArg _ (ix5_eta _)))

theorem d4_bias (r : Fin 4) (n : Fin 32) (h : Fin 8) (i : Fin 128) (j : Fin 256) (hi : i.val ≤ j.val) (hj : j.val ≤ i.val + 128) :
    val_main_v184 (F := Ideal) B (ix5 r n h i j) = B (ix2 (Fin.ofNat 32 (Bucket.bucket (4 * (i.val + 128 - j.val)))) h) := by
  rw [val_main_v184_apply, val_main_v183_apply, val_main_v181_apply]
  refine (congrArg (val_main_v180 (F := Ideal) B) (ix3_eta _)).trans (weights B (val_main_v179 (F := Ideal)) i j h _ (Bucket.bucket_lt _) ?_)
  rw [val_main_v179_apply]
  exact (congrArg (val_main_v178 (F := Ideal)) (ix2_eta _)).trans ((v178_eq i j).trans (bucket_word hj hi i.isLt (by decide)))

theorem d4_score (r : Fin 4) (n : Fin 32) (h : Fin 8) (i : Fin 128) (j : Fin 256) :
    val_main_v186 (F := Ideal) P B (ix5 r n h i j) = gsc P B 4 h.val (rowOf 4 n.val i.val r.val) j :=
  score_row P B (val_main_v109 (F := Ideal) P) (val_main_v115 (F := Ideal) P) (val_main_v122 (F := Ideal) P) (val_main_v184 (F := Ideal) B)
    (val_main_call7_v1 (F := Ideal)) (val_main_v186 (F := Ideal) P B) (d4_q P) (d4_kw P) (d4_dot P) (d4_bias B) d4_mask
    (fun y => select_bot _ _) r n h i j

theorem d4_max (r : Fin 4) (n : Fin 32) (h : Fin 8) (i : Fin 128) : val_main_v187 (F := Ideal) P B (ix4 r n h i) =
    Finset.univ.fold max ⊥ (fun j : Fin 256 => val_main_v186 (F := Ideal) P B (ix5 r n h i j)) :=
  max_last 4 32 8 128 _ _ _ _ r n h i neg_inf

theorem d4_exp (r : Fin 4) (n : Fin 32) (h : Fin 8) (i : Fin 128) (j : Fin 256) : val_main_v191 (F := Ideal) P B (ix5 r n h i j) =
    Ideal.exp (val_main_v186 (F := Ideal) P B (ix5 r n h i j) - val_main_v187 (F := Ideal) P B (ix4 r n h i)) := by
  rw [val_main_v191_apply, val_main_v190_apply, val_main_v189_apply, val_main_v188_apply]
  exact congrArg (fun q => Ideal.exp (val_main_v186 (F := Ideal) P B (ix5 r n h i j) - val_main_v187 (F := Ideal) P B q)) (ix4_eta _)

theorem d4_sum (r : Fin 4) (n : Fin 32) (h : Fin 8) (i : Fin 128) : val_main_v192 (F := Ideal) P B (ix4 r n h i) =
    0 + ∑ j : Fin 256, val_main_v191 (F := Ideal) P B (ix5 r n h i j) :=
  (val_main_v192_apply P B _).trans (congrArg₂ (· + ·) zero_word (Finset.sum_congr rfl fun j _ => congrArg _ (ix5_eta _)))

theorem d4_out (r : Fin 4) (n : Fin 32) (h : Fin 8) (x : Fin 128) (i : Fin 128) : val_main_v193 (F := Ideal) P B (ix5 r n h x i) =
    ∑ j : Fin 256, val_main_v121 (F := Ideal) P (ix5 r n j h x) * val_main_v191 (F := Ideal) P B (ix5 r n h i j) :=
  (val_main_v193_apply P B _).trans (Finset.sum_congr rfl fun j _ => congrArg₂ (· * ·)
    (congrArg _ (ix5_eta _)) (congrArg _ (ix5_eta _)))

/-- Largest score, sum and weighted values of a row and head, at the row's own place. -/
theorem d4_rows (r : Fin 4) (n : Fin 32) (h : Fin 8) (i : Fin 128) :
    val_main_v201 (F := Ideal) P B (ix2 (Fin.ofNat 16384 (rowOf 4 n.val i.val r.val)) h) = rmax (gsc P B 4 h.val (rowOf 4 n.val i.val r.val)) ∧
    val_main_v205 (F := Ideal) P B (ix2 (Fin.ofNat 16384 (rowOf 4 n.val i.val r.val)) h) = rsum (gsc P B 4 h.val (rowOf 4 n.val i.val r.val)) ∧
    ∀ x : Fin 128, val_main_v197 (F := Ideal) P B (ix3 (Fin.ofNat 16384 (rowOf 4 n.val i.val r.val)) h x) =
      rout (gsc P B 4 h.val (rowOf 4 n.val i.val r.val)) (gval P 4 h.val (rowOf 4 n.val i.val r.val) x.val) := by
  have hh := stats_row P B (val_main_v186 (F := Ideal) P B) (val_main_v191 (F := Ideal) P B) (val_main_v121 (F := Ideal) P) (val_main_v187 (F := Ideal) P B)
    (val_main_v192 (F := Ideal) P B) (val_main_v193 (F := Ideal) P B) (d4_score P B) (d4_vw P) (d4_max P B) (d4_exp P B) (d4_sum P B) (d4_out P B) r n h i
  exact ⟨(unblocks_stat (m := 4096) rfl rfl (val_main_v187 (F := Ideal) P B) _ _ _ _ r n i h).trans hh.1,
    (unblocks_stat (m := 4096) rfl rfl (val_main_v192 (F := Ideal) P B) _ _ _ _ r n i h).trans hh.2.1,
    fun x => (unblocks (m := 4096) rfl rfl (val_main_v193 (F := Ideal) P B) _ _ _ _ r n i h x).trans (hh.2.2 x)⟩

end Cert.ReferenceIdeal.Attn
-- ==== Proof.RefD16.lean ====
/- The rows sixteen apart: the reference's numbers of every row and head. -/
module

public import proofs.«01_k».proof.Proof.RefBlocks

@[expose] public section

noncomputable section

namespace Cert.ReferenceIdeal.Attn

open Cert.ReferenceIdeal Cert.ReferenceIdeal.Gen Cert.ReferenceIdeal.Read Cert.KernelIdeal.Attn Idealize.ShloMosaic

variable (P : FVec Ideal S16384x3072 .f32) (B : FVec Ideal S32x8 .f32)

theorem d16_mask (r : Fin 16) (n : Fin 8) (h : Fin 8) (i : Fin 128) (j : Fin 256) :
    val_main_call11_v1 (F := Ideal) (ix5 r n h i j) = 1#1 ↔ (i.val ≤ j.val ∧ j.val ≤ i.val + 128) ∧ (n.val = 0 → 128 ≤ j.val) :=
  (mask_iff i.isLt j.isLt (show n.val < 128 by omega))

theorem d16_q (r : Fin 16) (n : Fin 8) (i : Fin 128) (h : Fin 8) (x : Fin 128) :
    val_main_v208 (F := Ideal) P (ix5 r n i h x) = atP P (rowOf 16 n.val i.val r.val) (128 * h.val + x.val) * scale :=
  (blocks (m := 1024) rfl rfl _ _ _ _ r n i h x).trans (queries P _ (row_lt (m := 1024) rfl rfl r n i) h x)

theorem d16_k (r : Fin 16) (n : Fin 8) (i : Fin 128) (h : Fin 8) (x : Fin 128) :
    val_main_v211 (F := Ideal) P (ix5 r n i h x) = atP P (rowOf 16 n.val i.val r.val) (1024 + 128 * h.val + x.val) :=
  (blocks (m := 1024) rfl rfl _ _ _ _ r n i h x).trans (keys P _ (row_lt (m := 1024) rfl rfl r n i) h x)

theorem d16_v (r : Fin 16) (n : Fin 8) (i : Fin 128) (h : Fin 8) (x : Fin 128) :
    val_main_v217 (F := Ideal) P (ix5 r n i h x) = atP P (rowOf 16 n.val i.val r.val) (2048 + 128 * h.val + x.val) :=
  (blocks (m := 1024) rfl rfl _ _ _ _ r n i h x).trans (values P _ (row_lt (m := 1024) rfl rfl r n i) h x)

theorem d16_kw (r : Fin 16) (n : Fin 8) (i : Fin 128) (j : Fin 256) (h : Fin 8) (x : Fin 128) (hs : sees 16 (rowOf 16 n.val i.val r.val) j.val) :
    val_main_v214 (F := Ideal) P (ix5 r n j h x) = atP P (gkey 16 (rowOf 16 n.val i.val r.val) j.val) (1024 + 128 * h.val + x.val) :=
  window_row P 1024 (val_main_v211 (F := Ideal) P) (val_main_v214 (F := Ideal) P) (d16_k P)
    (fun r n j h x hj => window 16 8 _ _ _ rfl _ _ rfl _ rfl _ _ _ _ r n j h x hj) r n i j h x hs

theorem d16_vw (r : Fin 16) (n : Fin 8) (i : Fin 128) (j : Fin 256) (h : Fin 8) (x : Fin 128) (hs : sees 16 (rowOf 16 n.val i.val r.val) j.val) :
    val_main_v220 (F := Ideal) P (ix5 r n j h x) = atP P (gkey 16 (rowOf 16 n.val i.val r.val) j.val) (2048 + 128 * h.val + x.val) :=
  window_row P 2048 (val_main_v217 (F := Ideal) P) (val_main_v220 (F := Ideal) P) (d16_v P)
    (fun r n j h x hj => window 16 8 _ _ _ rfl _ _ rfl _ rfl _ _ _ _ r n j h x hj) r n i j h x hs

theorem d16_dot (r : Fin 16) (n : Fin 8) (h : Fin 8) (i : Fin 128) (j : Fin 256) : val_main_v221 (F := Ideal) P (ix5 r n h i j) =
    ∑ x : Fin 128, val_main_v208 (F := Ideal) P (ix5 r n i h x) * val_main_v214 (F := Ideal) P (ix5 r n j h x) :=
  (val_main_v221_apply P (ix5 r n h i j)).trans (Finset.sum_congr rfl fun x _ => congrArg₂ (· * ·)
    (congrArg _ (ix5_eta _)) (congrArg _ (ix5_eta _)))

theorem d16_bias (r : Fin 16) (n : Fin 8) (h : Fin 8) (i : Fin 128) (j : Fin 256) (hi : i.val ≤ j.val) (hj : j.val ≤ i.val + 128) :
    val_main_v283 (F := Ideal) B (ix5 r n h i j) = B (ix2 (Fin.ofNat 32 (Bucket.bucket (16 * (i.val + 128 - j.val)))) h) := by
  rw [val_main_v283_apply, val_main_v282_apply, val_main_v280_apply]
  refine (congrArg (val_main_v279 (F := Ideal) B) (ix3_eta _)).trans (weights B (val_main_v278 (F := Ideal)) i j h _ (Bucket.bucket_lt _) ?_)
  rw [val_main_v278_apply]
  exact (congrArg (val_main_v277 (F := Ideal)) (ix2_eta _)).trans ((v277_eq i j).trans (bucket_word hj hi i.isLt (by decide)))

theorem d16_score (r : Fin 16) (n : Fin 8) (h : Fin 8) (i : Fin 128) (j : Fin 256) :
    val_main_v285 (F := Ideal) P B (ix5 r n h i j) = gsc P B 16 h.val (rowOf 16 n.val i.val r.val) j :=
  score_row P B (val_main_v208 (F := Ideal) P) (val_main_v214 (F := Ideal) P) (val_main_v221 (F := Ideal) P) (val_main_v283 (F := Ideal) B)
    (val_main_call11_v1 (F := Ideal)) (val_main_v285 (F := Ideal) P B) (d16_q P) (d16_kw P) (d16_dot P) (d16_bias B) d16_mask
    (fun y => select_bot _ _) r n h i j

theorem d16_max (r : Fin 16) (n : Fin 8) (h : Fin 8) (i : Fin 128) : val_main_v286 (F := Ideal) P B (ix4 r n h i) =
    Finset.univ.fold max ⊥ (fun j : Fin 256 => val_main_v285 (F := Ideal) P B (ix5 r n h i j)) :=
  max_last 16 8 8 128 _ _ _ _ r n h i neg_inf

theorem d16_exp (r : Fin 16) (n : Fin 8) (h : Fin 8) (i : Fin 128) (j : Fin 256) : val_main_v290 (F := Ideal) P B (ix5 r n h i j) =
    Ideal.exp (val_main_v285 (F := Ideal) P B (ix5 r n h i j) - val_main_v286 (F := Ideal) P B (ix4 r n h i)) := by
  rw [val_main_v290_apply, val_main_v289_apply, val_main_v288_apply, val_main_v287_apply]
  exact congrArg (fun q => Ideal.exp (val_main_v285 (F := Ideal) P B (ix5 r n h i j) - val_main_v286 (F := Ideal) P B q)) (ix4_eta _)

theorem d16_sum (r : Fin 16) (n : Fin 8) (h : Fin 8) (i : Fin 128) : val_main_v291 (F := Ideal) P B (ix4 r n h i) =
    0 + ∑ j : Fin 256, val_main_v290 (F := Ideal) P B (ix5 r n h i j) :=
  (val_main_v291_apply P B _).trans (congrArg₂ (· + ·) zero_word (Finset.sum_congr rfl fun j _ => congrArg _ (ix5_eta _)))

theorem d16_out (r : Fin 16) (n : Fin 8) (h : Fin 8) (x : Fin 128) (i : Fin 128) : val_main_v292 (F := Ideal) P B (ix5 r n h x i) =
    ∑ j : Fin 256, val_main_v220 (F := Ideal) P (ix5 r n j h x) * val_main_v290 (F := Ideal) P B (ix5 r n h i j) :=
  (val_main_v292_apply P B _).trans (Finset.sum_congr rfl fun j _ => congrArg₂ (· * ·)
    (congrArg _ (ix5_eta _)) (congrArg _ (ix5_eta _)))

/-- Largest score, sum and weighted values of a row and head, at the row's own place. -/
theorem d16_rows (r : Fin 16) (n : Fin 8) (h : Fin 8) (i : Fin 128) :
    val_main_v300 (F := Ideal) P B (ix2 (Fin.ofNat 16384 (rowOf 16 n.val i.val r.val)) h) = rmax (gsc P B 16 h.val (rowOf 16 n.val i.val r.val)) ∧
    val_main_v304 (F := Ideal) P B (ix2 (Fin.ofNat 16384 (rowOf 16 n.val i.val r.val)) h) = rsum (gsc P B 16 h.val (rowOf 16 n.val i.val r.val)) ∧
    ∀ x : Fin 128, val_main_v296 (F := Ideal) P B (ix3 (Fin.ofNat 16384 (rowOf 16 n.val i.val r.val)) h x) =
      rout (gsc P B 16 h.val (rowOf 16 n.val i.val r.val)) (gval P 16 h.val (rowOf 16 n.val i.val r.val) x.val) := by
  have hh := stats_row P B (val_main_v285 (F := Ideal) P B) (val_main_v290 (F := Ideal) P B) (val_main_v220 (F := Ideal) P) (val_main_v286 (F := Ideal) P B)
    (val_main_v291 (F := Ideal) P B) (val_main_v292 (F := Ideal) P B) (d16_score P B) (d16_vw P) (d16_max P B) (d16_exp P B) (d16_sum P B) (d16_out P B) r n h i
  exact ⟨(unblocks_stat (m := 1024) rfl rfl (val_main_v286 (F := Ideal) P B) _ _ _ _ r n i h).trans hh.1,
    (unblocks_stat (m := 1024) rfl rfl (val_main_v291 (F := Ideal) P B) _ _ _ _ r n i h).trans hh.2.1,
    fun x => (unblocks (m := 1024) rfl rfl (val_main_v292 (F := Ideal) P B) _ _ _ _ r n i h x).trans (hh.2.2 x)⟩

end Cert.ReferenceIdeal.Attn
-- ==== Proof.RefOut.lean ====
/- The reference's result: the three dilations merged by their largest scores, the weights' sums and the weighted values. -/
module

public import proofs.«01_k».proof.Proof.RefD1
public import proofs.«01_k».proof.Proof.RefD4
public import proofs.«01_k».proof.Proof.RefD16

@[expose] public section

set_option maxRecDepth 16384

noncomputable section

namespace Cert.ReferenceIdeal.Attn

open Cert.ReferenceIdeal Cert.ReferenceIdeal.Gen Cert.ReferenceIdeal.Read Cert.KernelIdeal.Attn Idealize.ShloMosaic

/-- Every row is a query of a block. -/
theorem rowOf_self (D g : ℕ) : rowOf D (g / (128 * D)) (g % (128 * D) / D) (g % D) = g := by
  unfold rowOf
  have h1 := Nat.div_add_mod g (128 * D)
  have h2 := Nat.div_add_mod (g % (128 * D)) D
  rw [Nat.mod_mul_left_mod] at h2
  have h3 : D * (128 * (g / (128 * D)) + g % (128 * D) / D) = 128 * D * (g / (128 * D)) + D * (g % (128 * D) / D) := by ring
  omega

/-- Largest of three, as the reduction takes it. -/
theorem max_three (x : FVec Ideal S3x16384x8 .f32) (init : FVec Ideal S_ .f32) (h : S3x16384x8.ReducesTo [0] S16384x8) (hu : 0 < S_.numel)
    (g : Fin 16384) (k : Fin 8) (hi : init (Shape.Idx.first hu) = ⊥) :
    Host.reduce FloatOps.maximumf x init h hu (ix2 g k) = max (max (x (ix3 (0 : Fin 3) g k)) (x (ix3 (1 : Fin 3) g k))) (x (ix3 (2 : Fin 3) g k)) := by
  rw [Host.reduce_eq_fold, hi]
  have hd : (Finset.univ.filter fun y => h.drop y = ix2 g k) = Finset.univ.image (fun j : Fin 3 => (ix3 j g k : S3x16384x8.Idx)) := by
    ext y
    simp only [Finset.mem_filter, Finset.mem_univ, true_and, Finset.mem_image]
    have e0 : (h.drop y 0 : ℕ) = y 1 := h.drop_apply_val_of_eq y 0 1 (hb := of_decide_eq_true rfl) (hc := rfl)
    have e1 : (h.drop y 1 : ℕ) = y 2 := h.drop_apply_val_of_eq y 1 2 (hb := of_decide_eq_true rfl) (hc := rfl)
    constructor
    · intro e
      refine ⟨y 0, funext fun q => Fin.ext ?_⟩
      rw [e] at e0 e1
      match q with
      | ⟨0, _⟩ => rfl
      | ⟨1, _⟩ => exact e0
      | ⟨2, _⟩ => exact e1
    · rintro ⟨j, rfl⟩
      refine funext fun q => Fin.ext ?_
      match q with
      | ⟨0, _⟩ => exact e0
      | ⟨1, _⟩ => exact e1
  rw [hd, Finset.fold_image]
  · have hs : ∀ f : Fin 3 → EReal, Finset.univ.fold max ⊥ f = max (max (f 0) (f 1)) (f 2) := fun f => by
      simp [Fin.univ_succ, max_assoc]
    exact hs _
  · intro j _ j' _ e
    exact congrFun e 0

variable (P : FVec Ideal S16384x3072 .f32) (B : FVec Ideal S32x8 .f32)

theorem joined (f : Fin 3 → S1x16384x8.Idx → EReal)
    (hc : Shape.Concatenates ((List.ofFn fun n : Fin 3 => (⟨S1x16384x8, f n⟩ : (s : Shape) × (s.Idx → EReal))).map (·.1)) S3x16384x8 0)
    (n : Fin 3) (g : Fin 16384) (k : Fin 8) :
    concatenate S3x16384x8 0 (List.ofFn fun n : Fin 3 => (⟨S1x16384x8, f n⟩ : (s : Shape) × (s.Idx → EReal))) hc (ix3 n g k) = f n (ix3 (0 : Fin 1) g k) :=
  concatenate_ofFn_unit_apply (t := S3x16384x8) (s₁ := S1x16384x8) 0 f hc rfl rfl (ix3 n g k) n rfl (ix3 (0 : Fin 1) g k) fun b hb => by
    match b with
    | ⟨0, _⟩ => exact absurd rfl hb
    | ⟨1, _⟩ => rfl
    | ⟨2, _⟩ => rfl

theorem joined_three (x0 x1 x2 : S1x16384x8.Idx → EReal) (hc : Shape.Concatenates [S1x16384x8, S1x16384x8, S1x16384x8] S3x16384x8 0)
    (g : Fin 16384) (k : Fin 8) (y : S3x16384x8.Idx → EReal)
    (hy : y = concatenate S3x16384x8 0 [⟨S1x16384x8, x0⟩, ⟨S1x16384x8, x1⟩, ⟨S1x16384x8, x2⟩] hc) :
    y (ix3 (0 : Fin 3) g k) = x0 (ix3 (0 : Fin 1) g k) ∧ y (ix3 (1 : Fin 3) g k) = x1 (ix3 (0 : Fin 1) g k) ∧
      y (ix3 (2 : Fin 3) g k) = x2 (ix3 (0 : Fin 1) g k) := by
  subst hy
  exact ⟨joined ![x0, x1, x2] hc 0 g k, joined ![x0, x1, x2] hc 1 g k, joined ![x0, x1, x2] hc 2 g k⟩

theorem merged_max (g : Fin 16384) (k : Fin 8) : val_main_v309 (F := Ideal) P B (ix2 g k) =
    max (max (val_main_v102 (F := Ideal) P B (ix2 g k)) (val_main_v201 (F := Ideal) P B (ix2 g k))) (val_main_v300 (F := Ideal) P B (ix2 g k)) := by
  obtain ⟨h0, h1, h2⟩ := joined_three (val_main_v305 (F := Ideal) P B) (val_main_v306 (F := Ideal) P B) (val_main_v307 (F := Ideal) P B)
    concatenates_S1x16384x8_S1x16384x8_S1x16384x8_S3x16384x8_d0 g k (val_main_v308 (F := Ideal) P B) (by unfold val_main_v308; rfl)
  have hm : val_main_v309 (F := Ideal) P B (ix2 g k) = max (max (val_main_v308 (F := Ideal) P B (ix3 (0 : Fin 3) g k))
      (val_main_v308 (F := Ideal) P B (ix3 (1 : Fin 3) g k))) (val_main_v308 (F := Ideal) P B (ix3 (2 : Fin 3) g k)) := by
    unfold val_main_v309
    generalize val_main_v308 (F := Ideal) P B = x
    exact max_three x _ _ _ g k neg_inf
  have e305 : val_main_v305 (F := Ideal) P B (ix3 (0 : Fin 1) g k) = val_main_v102 (F := Ideal) P B (ix2 g k) := by
    rw [val_main_v305_apply]; exact congrArg (val_main_v102 (F := Ideal) P B) (ix2_eta (idx_main_v305 (ix3 (0 : Fin 1) g k)))
  have e306 : val_main_v306 (F := Ideal) P B (ix3 (0 : Fin 1) g k) = val_main_v201 (F := Ideal) P B (ix2 g k) := by
    rw [val_main_v306_apply]; exact congrArg (val_main_v201 (F := Ideal) P B) (ix2_eta (idx_main_v306 (ix3 (0 : Fin 1) g k)))
  have e307 : val_main_v307 (F := Ideal) P B (ix3 (0 : Fin 1) g k) = val_main_v300 (F := Ideal) P B (ix2 g k) := by
    rw [val_main_v307_apply]; exact congrArg (val_main_v300 (F := Ideal) P B) (ix2_eta (idx_main_v307 (ix3 (0 : Fin 1) g k)))
  rw [hm, h0, h1, h2, e305, e306, e307]

/-- The merge, its sums begun at zero. -/
theorem mix_zero (o0 o1 o2 m0 m1 m2 l0 l1 l2 : EReal) :
    Ideal.div (0 + o0 * Ideal.exp (m0 - max (max m0 m1) m2) + o1 * Ideal.exp (m1 - max (max m0 m1) m2) + o2 * Ideal.exp (m2 - max (max m0 m1) m2))
      (0 + l0 * Ideal.exp (m0 - max (max m0 m1) m2) + l1 * Ideal.exp (m1 - max (max m0 m1) m2) + l2 * Ideal.exp (m2 - max (max m0 m1) m2)) =
      mix o0 o1 o2 m0 m1 m2 l0 l1 l2 := by
  rw [zero_add, zero_add]; rfl

/-- The result before it is laid out in columns. -/
theorem merged (g : Fin 16384) (k : Fin 8) (d : Fin 128) : val_main_v338 (F := Ideal) P B (ix3 g k d) =
    mix (val_main_v98 (F := Ideal) P B (ix3 g k d)) (val_main_v197 (F := Ideal) P B (ix3 g k d)) (val_main_v296 (F := Ideal) P B (ix3 g k d))
      (val_main_v102 (F := Ideal) P B (ix2 g k)) (val_main_v201 (F := Ideal) P B (ix2 g k)) (val_main_v300 (F := Ideal) P B (ix2 g k))
      (val_main_v106 (F := Ideal) P B (ix2 g k)) (val_main_v205 (F := Ideal) P B (ix2 g k)) (val_main_v304 (F := Ideal) P B (ix2 g k)) := by
  have hmax := merged_max P B g k
  have e0 : val_main_v315 (F := Ideal) P B (ix3 g k d) = val_main_v313 (F := Ideal) P B (ix2 g k) := by
    rw [val_main_v315_apply, val_main_v314_apply]; exact congrArg _ (ix2_eta _)
  have e1 : val_main_v323 (F := Ideal) P B (ix3 g k d) = val_main_v321 (F := Ideal) P B (ix2 g k) := by
    rw [val_main_v323_apply, val_main_v322_apply]; exact congrArg _ (ix2_eta _)
  have e2 : val_main_v331 (F := Ideal) P B (ix3 g k d) = val_main_v329 (F := Ideal) P B (ix2 g k) := by
    rw [val_main_v331_apply, val_main_v330_apply]; exact congrArg _ (ix2_eta _)
  have e3 : val_main_v337 (F := Ideal) P B (ix3 g k d) = val_main_v335 (F := Ideal) P B (ix2 g k) := by
    rw [val_main_v337_apply, val_main_v336_apply]; exact congrArg _ (ix2_eta _)
  have z0 : val_main_v310 (F := Ideal) (ix3 g k d) = (0 : EReal) := zero_word
  have z1 : val_main_v311 (F := Ideal) (ix2 g k) = (0 : EReal) := zero_word
  rw [val_main_v338_apply, val_main_v333_apply, val_main_v332_apply, val_main_v325_apply, val_main_v324_apply, val_main_v317_apply, val_main_v316_apply,
    e0, e1, e2, e3, z0, val_main_v335_apply, val_main_v334_apply, val_main_v327_apply, val_main_v326_apply, val_main_v319_apply, val_main_v318_apply, z1,
    val_main_v313_apply, val_main_v321_apply, val_main_v329_apply, val_main_v312_apply, val_main_v320_apply, val_main_v328_apply, hmax]
  generalize val_main_v98 (F := Ideal) P B (ix3 g k d) = o0
  generalize val_main_v197 (F := Ideal) P B (ix3 g k d) = o1
  generalize val_main_v296 (F := Ideal) P B (ix3 g k d) = o2
  generalize val_main_v102 (F := Ideal) P B (ix2 g k) = m0
  generalize val_main_v201 (F := Ideal) P B (ix2 g k) = m1
  generalize val_main_v300 (F := Ideal) P B (ix2 g k) = m2
  generalize val_main_v106 (F := Ideal) P B (ix2 g k) = l0
  generalize val_main_v205 (F := Ideal) P B (ix2 g k) = l1
  generalize val_main_v304 (F := Ideal) P B (ix2 g k) = l2
  exact mix_zero o0 o1 o2 m0 m1 m2 l0 l1 l2

/-- An entry of the reference's result is the attention of its row, head and column. -/
theorem val_apply (y : S16384x1024.Idx) :
    val_main_v340 (F := Ideal) P B y = attn P B (y 0).val ((y 1).val / 128) ((y 1).val % 128) := by
  have h0 : (y 0).val < 16384 := (y 0).isLt
  have h1 : (y 1).val < 1024 := (y 1).isLt
  obtain ⟨g, hg⟩ : ∃ g, g = (y 0).val := ⟨_, rfl⟩
  have hk : (y 1).val / 128 < 8 := by omega
  have hd : (y 1).val % 128 < 128 := by omega
  have e : val_main_v340 (F := Ideal) P B y =
      val_main_v338 (F := Ideal) P B (ix3 (Fin.ofNat 16384 g) (⟨(y 1).val / 128, hk⟩ : Fin 8) (⟨(y 1).val % 128, hd⟩ : Fin 128)) := by
    have e1 : val_main_v340 (F := Ideal) P B y = val_main_v339 (F := Ideal) P B y := by
      rw [val_main_v340_apply]
      generalize val_main_v339 (F := Ideal) P B y = a
      rfl
    rw [e1, val_main_v339_apply]
    refine congrArg (val_main_v338 (F := Ideal) P B) (funext fun q => Fin.ext ?_)
    match q with
    | ⟨0, _⟩ => exact (show ((y 0).val * 1024 + (y 1).val) / 1024 = g % 16384 by omega)
    | ⟨1, _⟩ => exact (show ((y 0).val * 1024 + (y 1).val) / 128 % 8 = (y 1).val / 128 by omega)
    | ⟨2, _⟩ => exact (show ((y 0).val * 1024 + (y 1).val) % 128 = (y 1).val % 128 by omega)
  rw [e, merged, ← hg]
  have a0 := d1_rows P B ⟨g % 1, by omega⟩ ⟨g / (128 * 1), by omega⟩ ⟨(y 1).val / 128, hk⟩ ⟨g % (128 * 1) / 1, by omega⟩
  have a1 := d4_rows P B ⟨g % 4, by omega⟩ ⟨g / (128 * 4), by omega⟩ ⟨(y 1).val / 128, hk⟩ ⟨g % (128 * 4) / 4, by omega⟩
  have a2 := d16_rows P B ⟨g % 16, by omega⟩ ⟨g / (128 * 16), by omega⟩ ⟨(y 1).val / 128, hk⟩ ⟨g % (128 * 16) / 16, by omega⟩
  dsimp only at a0 a1 a2
  rw [rowOf_self] at a0 a1 a2
  rw [a0.1, a0.2.1, a0.2.2, a1.1, a1.2.1, a1.2.2, a2.1, a2.2.1, a2.2.2]
  rfl

end Cert.ReferenceIdeal.Attn
-- ==== Proof.Product.lean ====
/- A plain matrix product over the extended reals, read at an entry, and the index of a rank-two array from its coordinates. -/
module

public import Idealize.ShloMosaic.Lib.MatmulPlain
public import Idealize.ShloMosaic.Lib.Pointwise
public import Idealize.ShloMosaic.Lib.KernelVsHost

@[expose] public section

noncomputable section

namespace Cert.Dense

open Idealize.ShloMosaic

/-- A product that accumulates on zeros. -/
theorem product_apply {M K N : ℕ} {e : FTy} (d : DotDims ⟨2, ![M, K]⟩ ⟨2, ![K, N]⟩ ⟨2, ![M, N]⟩) (hd : d = DotDims.plain M K N) (prec : Option ContractPrecision)
    (lhs : FVec Ideal ⟨2, ![M, K]⟩ e) (rhs : FVec Ideal ⟨2, ![K, N]⟩ e) (r : Fin M) (c : Fin N) :
    matmul d prec lhs rhs (constant ⟨2, ![M, N]⟩ .f32 0x00000000#32) (ix2 r c) = ∑ k, lhs (ix2 r k) * rhs (ix2 k c) := by
  subst hd
  simp only [matmul]
  refine (Ideal.matmul_plain_apply prec lhs rhs _ r c).trans ?_
  rw [show constant (F := Ideal) ⟨2, ![M, N]⟩ .f32 0x00000000#32 (ValueIdx.ix2 r c) = 0 from Ideal.ofBits_zero_f32, zero_add]
  rfl

/-- An index of a rank-two array, from its coordinates. -/
theorem idx2 {M N : ℕ} (y : Shape.Idx ⟨2, ![M, N]⟩) (r : Fin M) (c : Fin N) (h0 : (y 0).val = r.val) (h1 : (y 1).val = c.val) : y = ix2 r c :=
  funext fun a => Fin.ext (by
    match a with
    | ⟨0, _⟩ => exact h0
    | ⟨1, _⟩ => exact h1)

theorem idx_ext {M N : ℕ} (y z : Shape.Idx ⟨2, ![M, N]⟩) (h0 : (y 0).val = (z 0).val) (h1 : (y 1).val = (z 1).val) : y = z :=
  (idx2 y _ _ h0 h1).trans (idx2 z _ _ rfl rfl).symm

end Cert.Dense

end
-- ==== Proof.Norm.lean ====
/- A row of 4096 features divided by its root mean square and weighted. -/
module

public import Idealize.ShloMosaic.Lib.Pointwise
public import Idealize.ShloMosaic.Lib.KernelVsHost

@[expose] public section

noncomputable section

namespace Cert.Dense

open Idealize.ShloMosaic

/-- The row `r` over its root mean square, weighted by `w`. -/
def rms (r w : Fin 4096 → EReal) (k : Fin 4096) : EReal :=
  r k * Ideal.rsqrt (Ideal.div (∑ j, r j * r j) (Ideal.ofBits .f32 0x45800000#32) + Ideal.ofBits .f32 0x358637BD#32) * w k

end Cert.Dense

end
-- ==== Proof.UpStage.lean ====
/- What the staging of the up and gate projections leaves in its scratch: sixteen rows from before the block (zeros, before the first
   block), then the block's rows, each divided by its root mean square and weighted; and the output's block, from those rows. -/
module

public import proofs.«01_k».proof.Proof.Product
public import proofs.«01_k».proof.Proof.Norm
public import proofs.«01_k».proof.Proof.Gen.Kernel2Ideal.Value
public import Idealize.ShloMosaic.Lib.Pipeline.ValueKit.Acc
public import Idealize.ShloMosaic.Lib.WholeRead

@[expose] public section

set_option maxRecDepth 16384

noncomputable section

namespace Cert.Kernel2Ideal.Up

open Cert.Kernel2Ideal Cert.Kernel2Ideal.Gen Cert.Dense Idealize.ShloMosaic Idealize.ShloMosaic.TcCoe Idealize.SL.Sem

/-- The groups of rows, last first. -/
def groups : List (Fin 64) :=
  [63, 62, 61, 60, 59, 58, 57, 56, 55, 54, 53, 52, 51, 50, 49, 48, 47, 46, 45, 44, 43, 42, 41, 40, 39, 38, 37, 36, 35, 34, 33, 32,
   31, 30, 29, 28, 27, 26, 25, 24, 23, 22, 21, 20, 19, 18, 17, 16, 15, 14, 13, 12, 11, 10, 9, 8, 7, 6, 5, 4, 3, 2, 1, 0]

/-- A group's rectangle in the scratch. -/
def rowsR (k : Fin 64) : Rect S1040x4096 :=
  Rect.unit (s := S1040x4096) ![16 * k.val + 16, 0] S16x4096.size (fun a => by
    match a with
    | ⟨0, _⟩ => exact (show 16 * k.val + 16 + 16 ≤ 1040 by omega)
    | ⟨1, _⟩ => exact (show 0 + 4096 ≤ 4096 by omega))

/-- A group's rectangle in the block. -/
def fromR (k : Fin 64) : Rect S1024x4096 :=
  Rect.unit (s := S1024x4096) ![16 * k.val, 0] S16x4096.size (fun a => by
    match a with
    | ⟨0, _⟩ => exact (show 16 * k.val + 16 ≤ 1024 by omega)
    | ⟨1, _⟩ => exact (show 0 + 4096 ≤ 4096 by omega))

def headR : Rect S1040x4096 := Rect.unit (s := S1040x4096) ![0, 0] S16x4096.size (by intro a; fin_cases a <;> simp)
def tailR : Rect S1040x4096 := Rect.unit (s := S1040x4096) ![16, 0] S1024x4096.size (by intro a; fin_cases a <;> simp)
def allS : Rect S1040x4096 := Rect.unit (s := S1040x4096) ![0, 0] S1040x4096.size (by intro a; fin_cases a <;> simp)
def allH : Rect S16x4096 := Rect.unit (s := S16x4096) ![0, 0] S16x4096.size (by intro a; fin_cases a <;> simp)
def allN : Rect S1x4096 := Rect.unit (s := S1x4096) ![0, 0] S1x4096.size (by intro a; fin_cases a <;> simp)
def allO : Rect S1024x256 := Rect.unit (s := S1024x256) ![0, 0] S1024x256.size (by intro a; fin_cases a <;> simp)
def allW : Rect S4096x256 := Rect.unit (s := S4096x256) ![0, 0] S4096x256.size (by intro a; fin_cases a <;> simp)
def allC : Rect S3x256 := Rect.unit (s := S3x256) ![0, 0] S3x256.size (by intro a; fin_cases a <;> simp)
def allB : Rect S1x256 := Rect.unit (s := S1x256) ![0, 0] S1x256.size (by intro a; fin_cases a <;> simp)

/-- A group's payload at an entry. -/
theorem pay_apply (w : Vec Ideal S1x4096 .f32) (v : Vec Ideal S16x4096 .f32) (r : Fin 16) (k : Fin 4096) :
    k0_pay4 w v (ix2 r k) = rms (fun j => v (ix2 r j)) (fun j => w (ix2 (0 : Fin 1) j)) k := by
  unfold rms
  pointwise [k0_pay4, k0_pay3]

/-- The payload of the rows from before the block, at an entry. -/
theorem head_apply (w : Vec Ideal S1x4096 .f32) (v : Vec Ideal S16x4096 .f32) (r : Fin 16) (k : Fin 4096) :
    k0_pay2 w v (ix2 r k) = rms (fun j => v (ix2 r j)) (fun j => w (ix2 (0 : Fin 1) j)) k := by
  unfold rms
  pointwise [k0_pay2]

theorem zero_apply (z : S16x4096.Idx) : k0_pay100 (F := Ideal) z = 0 := by
  obtain ⟨r, d, rfl⟩ : ∃ (r : Fin 16) (d : Fin 4096), z = ix2 r d := ⟨z 0, z 1, idx2 z _ _ rfl rfl⟩
  unfold k0_pay100
  rw [shapeCast_self]
  exact Ideal.ofBits_zero .bf16

/-- The scratch at a later block of rows: sixteen rows `x1` from before, then the block's `x0`. -/
def stagedC (x0 : Vec Ideal S1024x4096 .f32) (x1 : Vec Ideal S16x4096 .f32) (x2 : Vec Ideal S1x4096 .f32) : Vec Ideal S1040x4096 .bf16 := fun y =>
  if (y 0).val < 16 then rms (fun j => x1 (ix2 (Fin.ofNat 16 (y 0).val) j)) (fun j => x2 (ix2 (0 : Fin 1) j)) (y 1 : Fin 4096)
  else rms (fun j => x0 (ix2 (Fin.ofNat 1024 ((y 0).val - 16)) j)) (fun j => x2 (ix2 (0 : Fin 1) j)) (y 1 : Fin 4096)

/-- The scratch at the first block of rows: sixteen rows of zeros, then the block's. -/
def stagedA (x0 : Vec Ideal S1024x4096 .f32) (x2 : Vec Ideal S1x4096 .f32) : Vec Ideal S1040x4096 .bf16 := fun y =>
  if (y 0).val < 16 then 0
  else rms (fun j => x0 (ix2 (Fin.ofNat 1024 ((y 0).val - 16)) j)) (fun j => x2 (ix2 (0 : Fin 1) j)) (y 1 : Fin 4096)

/-- The output's block, from the scratch's rows, the weights' blocks, the convolution's weights and the bias. -/
def block (s : Vec Ideal S1040x4096 .bf16) (x3 x4 : Vec Ideal S4096x256 .bf16) (x5 : Vec Ideal S3x256 .f32) (x6 : Vec Ideal S1x256 .f32) : Vec Ideal S1024x256 .bf16 :=
  k0_pay1 (k0_pay101 (fun z => s (ix2 (⟨16 + (z 0).val, by have h : (z 0).val < 1024 := (z 0).isLt; omega⟩ : Fin 1040) (z 1 : Fin 4096))) x4) (k0_pay102 s x3 x5) (k0_pay103 x6)

section

variable (c : Dev nD) (i : grid0.Coords) (arg2 : Memref sig .tc .vmem S1024x4096 .f32) (harg2 : arg2.IsWhole) (arg3 : Memref sig .tc .vmem S16x4096 .f32) (harg3 : arg3.IsWhole)
  (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole)
  (arg7 : Memref sig .tc .vmem S3x256 .f32) (harg7 : arg7.IsWhole) (arg8 : Memref sig .tc .vmem S1x256 .f32) (harg8 : arg8.IsWhole) (arg9 : Memref sig .tc .vmem S1024x256 .bf16) (harg9 : arg9.IsWhole)
  (arg10 : Memref sig .tc .vmem S1040x4096 .bf16) (harg10 : arg10.IsWhole) (hc0 : cond0_0 i)
  (x0 : Vec Ideal S1024x4096 .f32) (x1 : Vec Ideal S16x4096 .f32) (x2 : Vec Ideal S1x4096 .f32) (x3 x4 : Vec Ideal S4096x256 .bf16) (x5 : Vec Ideal S3x256 .f32) (x6 : Vec Ideal S1x256 .f32)

/-- One group's store. -/
def groupV (k : Fin 64) : FVec Ideal S16x4096 .bf16 :=
  k0_pay4 (View.readAt (Elt Ideal) arg4.view allN.toLoadRect (harg4.unread x2)) (View.readAt (Elt Ideal) arg2.view (fromR k).toLoadRect (harg2.unread x0))

/-- The store of the rows from before the block. -/
def headV : FVec Ideal S16x4096 .bf16 :=
  k0_pay2 (View.readAt (Elt Ideal) arg4.view allN.toLoadRect (harg4.unread x2)) (View.readAt (Elt Ideal) arg3.view allH.toLoadRect (harg3.unread x1))

/-- The zeros in place of the rows before the first block. -/
def zeroV : FVec Ideal S16x4096 .bf16 := k0_pay100

def stores : List (View.Piece (Elt Ideal) S1040x4096 .bf16) :=
  (groups.map fun k => ⟨rowsR k, groupV arg2 harg2 arg4 harg4 x0 x2 k⟩) ++ [⟨headR, headV arg3 harg3 arg4 harg4 x1 x2⟩]

theorem groupV_eq (k : Fin 64) (z : S16x4096.Idx) : groupV arg2 harg2 arg4 harg4 x0 x2 k z = stagedC x0 x1 x2 ((rowsR k).emb z) := by
  obtain ⟨r, d, rfl⟩ : ∃ (r : Fin 16) (d : Fin 4096), z = ix2 r d := ⟨z 0, z 1, idx2 z _ _ rfl rfl⟩
  unfold groupV
  refine (pay_apply _ _ r d).trans ?_
  have e0 : ((rowsR k).emb (ix2 r d) 0).val = 16 * k.val + 16 + 1 * r.val := rfl
  have e1 : ((rowsR k).emb (ix2 r d) 1) = d := Fin.ext (show 0 + 1 * d.val = d.val by omega)
  unfold stagedC
  rw [if_neg (by rw [e0]; omega), e1]
  have h0 : ∀ j : Fin 4096, View.readAt (Elt Ideal) arg2.view (fromR k).toLoadRect (harg2.unread x0) (ix2 r j) = x0 (ix2 (Fin.ofNat 1024 (((rowsR k).emb (ix2 r d) 0).val - 16)) j) := fun j =>
    (harg2.readAt_unread x0 _ _).trans (congrArg x0 (idx2 _ _ _ (show 16 * k.val + 1 * r.val = (16 * k.val + 16 + 1 * r.val - 16) % 1024 by omega) (show 0 + 1 * j.val = j.val by omega)))
  have h1 : ∀ j : Fin 4096, View.readAt (Elt Ideal) arg4.view allN.toLoadRect (harg4.unread x2) (ix2 (0 : Fin 1) j) = x2 (ix2 (0 : Fin 1) j) := fun j =>
    (harg4.readAt_unread x2 _ _).trans (congrArg x2 (idx2 _ _ _ rfl (show 0 + 1 * j.val = j.val by omega)))
  exact congrArg₂ (fun a b => rms a b d) (funext h0) (funext h1)

theorem headV_eq (z : S16x4096.Idx) : headV arg3 harg3 arg4 harg4 x1 x2 z = stagedC x0 x1 x2 (headR.emb z) := by
  obtain ⟨r, d, rfl⟩ : ∃ (r : Fin 16) (d : Fin 4096), z = ix2 r d := ⟨z 0, z 1, idx2 z _ _ rfl rfl⟩
  unfold headV
  refine (head_apply _ _ r d).trans ?_
  have e0 : (headR.emb (ix2 r d) 0).val = 0 + 1 * r.val := rfl
  have e1 : (headR.emb (ix2 r d) 1) = d := Fin.ext (show 0 + 1 * d.val = d.val by omega)
  unfold stagedC
  rw [if_pos (by rw [e0]; omega), e1]
  have h0 : ∀ j : Fin 4096, View.readAt (Elt Ideal) arg3.view allH.toLoadRect (harg3.unread x1) (ix2 r j) = x1 (ix2 (Fin.ofNat 16 (headR.emb (ix2 r d) 0).val) j) := fun j =>
    (harg3.readAt_unread x1 _ _).trans (congrArg x1 (idx2 _ _ _ (show 0 + 1 * r.val = (0 + 1 * r.val) % 16 by omega) (show 0 + 1 * j.val = j.val by omega)))
  have h1 : ∀ j : Fin 4096, View.readAt (Elt Ideal) arg4.view allN.toLoadRect (harg4.unread x2) (ix2 (0 : Fin 1) j) = x2 (ix2 (0 : Fin 1) j) := fun j =>
    (harg4.readAt_unread x2 _ _).trans (congrArg x2 (idx2 _ _ _ rfl (show 0 + 1 * j.val = j.val by omega)))
  exact congrArg₂ (fun a b => rms a b d) (funext h0) (funext h1)

/-- Every store is of the staged rows. -/
theorem stores_val : ∀ p ∈ stores arg2 harg2 arg3 harg3 arg4 harg4 x0 x1 x2, ∀ z : p.1.shape.Idx, p.2 z = stagedC x0 x1 x2 (p.1.emb z) := by
  intro p hp z
  rcases List.mem_append.mp hp with h | h
  · obtain ⟨k, -, rfl⟩ := List.mem_map.mp h
    exact groupV_eq arg2 harg2 arg4 harg4 x0 x1 x2 k z
  · obtain rfl := List.mem_singleton.mp h
    exact headV_eq arg3 harg3 arg4 harg4 x0 x1 x2 z

/-- A list of stores of the staged rows under a store of zeros. -/
theorem headed (L : List (View.Piece (Elt Ideal) S1040x4096 .bf16)) (hL : ∀ p ∈ L, ∀ z : p.1.shape.Idx, p.2 z = stagedC x0 x1 x2 (p.1.emb z)) (y : S1040x4096.Idx)
    (hcov : ∃ p ∈ (⟨headR, zeroV⟩ :: L : List (View.Piece (Elt Ideal) S1040x4096 .bf16)), y ∈ p.1.set) : View.canon (⟨headR, zeroV⟩ :: L) y = stagedA x0 x2 y := by
  by_cases hy : y ∈ headR.set
  · obtain ⟨z, hz⟩ := headR.exists_idx_of_mem hy
    have hz' : headR.emb z = y := hz
    subst hz'
    refine (View.canon_cons_emb (Val := Elt Ideal) headR zeroV L z).trans ?_
    have hz : (z 0).val < 16 := (z 0).isLt
    have h0 : (headR.emb z 0).val < 16 := (show 0 + 1 * (z 0).val < 16 by omega)
    unfold stagedA
    rw [if_pos h0]
    exact zero_apply z
  · refine (View.canon_cons_of_not_mem (Val := Elt Ideal) (⟨headR, zeroV⟩ : View.Piece (Elt Ideal) S1040x4096 .bf16) L hy).trans ?_
    have hcov' : ∃ p ∈ L, y ∈ p.1.set :=
      hcov.elim fun p h => (List.mem_cons.mp h.1).elim (fun e => absurd ((congrArg (fun q : View.Piece (Elt Ideal) S1040x4096 .bf16 => y ∈ q.1.set) e).mp h.2) hy) (fun h1 => ⟨p, h1, h.2⟩)
    have h1 : (y 1).val < 4096 := (y 1).isLt
    have h0 : ¬(y 0).val < 16 := fun h => hy (by
      unfold headR
      rw [Rect.mem_set_unit]
      intro a
      match a with
      | ⟨0, _⟩ => exact ⟨Nat.zero_le _, (show (y 0).val < 0 + 16 by omega)⟩
      | ⟨1, _⟩ => exact ⟨Nat.zero_le _, lt_of_lt_of_eq h1 (Nat.zero_add (S16x4096.size 1)).symm⟩)
    refine (View.canon_apply_of_pieces (stagedC x0 x1 x2) _ hL y hcov').trans ?_
    unfold stagedA stagedC
    rw [if_neg h0, if_neg h0]

/-- The output's store, from what the stores `L` leave in the scratch. -/
def outV (L : List (View.Piece (Elt Ideal) S1040x4096 .bf16)) : FVec Ideal S1024x256 .bf16 :=
  k0_pay1 (k0_pay101 (arg10.view.readCov L tailR.toLoadRect) (View.readAt (Elt Ideal) arg6.view allW.toLoadRect (harg6.unread x4)))
    (k0_pay102 (arg10.view.readCov L allS.toLoadRect) (View.readAt (Elt Ideal) arg5.view allW.toLoadRect (harg5.unread x3))
      (View.readAt (Elt Ideal) arg7.view allC.toLoadRect (harg7.unread x5)))
    (k0_pay103 (View.readAt (Elt Ideal) arg8.view allB.toLoadRect (harg8.unread x6)))

theorem out_of (L : List (View.Piece (Elt Ideal) S1040x4096 .bf16)) (s : Vec Ideal S1040x4096 .bf16) (hs : View.canon L = s) :
    VO0_7.read (Elt Ideal) (VO0_7.writes (Elt Ideal) VO0_7.junk [⟨allO, outV arg5 harg5 arg6 harg6 arg7 harg7 arg8 harg8 arg10 x3 x4 x5 x6 L⟩]) = block s x3 x4 x5 x6 := by
  rw [View.read_writes_junk_eq_canon]
  unfold allO
  rw [View.canon_unit_zero (by funext a; fin_cases a <;> rfl)]
  unfold outV
  rw [View.readCov_eq_canon', View.readCov_eq_canon', hs]
  have e6 : View.readAt (Elt Ideal) arg6.view allW.toLoadRect (harg6.unread x4) = x4 := funext fun z => (harg6.readAt_unread x4 _ z).trans (congrArg x4 (idx_ext (M := 4096) (N := 256) _ z (show 0 + 1 * (z 0).val = (z 0).val by omega) (show 0 + 1 * (z 1).val = (z 1).val by omega)))
  have e5 : View.readAt (Elt Ideal) arg5.view allW.toLoadRect (harg5.unread x3) = x3 := funext fun z => (harg5.readAt_unread x3 _ z).trans (congrArg x3 (idx_ext (M := 4096) (N := 256) _ z (show 0 + 1 * (z 0).val = (z 0).val by omega) (show 0 + 1 * (z 1).val = (z 1).val by omega)))
  have e7 : View.readAt (Elt Ideal) arg7.view allC.toLoadRect (harg7.unread x5) = x5 := funext fun z => (harg7.readAt_unread x5 _ z).trans (congrArg x5 (idx_ext (M := 3) (N := 256) _ z (show 0 + 1 * (z 0).val = (z 0).val by omega) (show 0 + 1 * (z 1).val = (z 1).val by omega)))
  have e8 : View.readAt (Elt Ideal) arg8.view allB.toLoadRect (harg8.unread x6) = x6 := funext fun z => (harg8.readAt_unread x6 _ z).trans (congrArg x6 (idx_ext (M := 1) (N := 256) _ z (show 0 + 1 * (z 0).val = (z 0).val by omega) (show 0 + 1 * (z 1).val = (z 1).val by omega)))
  rw [e5, e6, e7, e8]
  unfold block
  refine congrArg₂ (fun u v => k0_pay1 u v (k0_pay103 x6)) (congrArg (fun t => k0_pay101 t x4) ?_) (congrArg (fun t => k0_pay102 t x3 x5) ?_)
  · exact funext fun z => congrArg s (idx_ext (M := 1040) (N := 4096) _ _ (show 16 + 1 * (z 0).val = 16 + (z 0).val by omega) (show 0 + 1 * (z 1).val = (z 1).val by omega))
  · exact funext fun z => congrArg s (idx_ext (M := 1040) (N := 4096) _ z (show 0 + 1 * (z 0).val = (z 0).val by omega) (show 0 + 1 * (z 1).val = (z 1).val by omega))

section

variable (hc1 : cond0_1 i)

theorem stores_eq_A : (kernelRun0_A c i arg2 harg2 arg3 harg3 arg4 harg4 arg5 harg5 arg6 harg6 arg7 harg7 arg8 harg8 arg9 harg9 arg10 harg10 hc0 hc1 x0 x1 x2 x3 x4 x5 x6).2.1 = ⟨headR, zeroV⟩ :: stores arg2 harg2 arg3 harg3 arg4 harg4 x0 x1 x2 := by
  sl_kernel_rfl

theorem canon_A : View.canon (kernelRun0_A c i arg2 harg2 arg3 harg3 arg4 harg4 arg5 harg5 arg6 harg6 arg7 harg7 arg8 harg8 arg9 harg9 arg10 harg10 hc0 hc1 x0 x1 x2 x3 x4 x5 x6).2.1 = stagedA x0 x2 := by
  funext y
  have hcov := scover0_A_0 c i arg2 harg2 arg3 harg3 arg4 harg4 arg5 harg5 arg6 harg6 arg7 harg7 arg8 harg8 arg9 harg9 arg10 harg10 hc0 hc1 x0 x1 x2 x3 x4 x5 x6 y
  rw [stores_eq_A] at hcov ⊢
  exact headed x0 x1 x2 _ (stores_val arg2 harg2 arg3 harg3 arg4 harg4 x0 x1 x2) y hcov

/-- The scratch after the first point of the first block of rows. -/
theorem sout_A : sout0_A_0 c i arg2 harg2 arg3 harg3 arg4 harg4 arg5 harg5 arg6 harg6 arg7 harg7 arg8 harg8 arg9 harg9 arg10 harg10 hc0 hc1 x0 x1 x2 x3 x4 x5 x6 = stagedA x0 x2 :=
  (View.read_writes_junk_eq_canon _ _).trans (canon_A c i arg2 harg2 arg3 harg3 arg4 harg4 arg5 harg5 arg6 harg6 arg7 harg7 arg8 harg8 arg9 harg9 arg10 harg10 hc0 x0 x1 x2 x3 x4 x5 x6 hc1)

theorem outRaw_A : out0_A_7 c i arg2 harg2 arg3 harg3 arg4 harg4 arg5 harg5 arg6 harg6 arg7 harg7 arg8 harg8 arg9 harg9 arg10 harg10 hc0 hc1 x0 x1 x2 x3 x4 x5 x6
    = VO0_7.read (Elt Ideal) (VO0_7.writes (Elt Ideal) VO0_7.junk
        [⟨allO, outV arg5 harg5 arg6 harg6 arg7 harg7 arg8 harg8 arg10 x3 x4 x5 x6 (kernelRun0_A c i arg2 harg2 arg3 harg3 arg4 harg4 arg5 harg5 arg6 harg6 arg7 harg7 arg8 harg8 arg9 harg9 arg10 harg10 hc0 hc1 x0 x1 x2 x3 x4 x5 x6).2.1⟩]) := by
  sl_kernel_rfl

/-- The output's block there, from the staged rows. -/
theorem out_A : out0_A_7 c i arg2 harg2 arg3 harg3 arg4 harg4 arg5 harg5 arg6 harg6 arg7 harg7 arg8 harg8 arg9 harg9 arg10 harg10 hc0 hc1 x0 x1 x2 x3 x4 x5 x6 = block (stagedA x0 x2) x3 x4 x5 x6 :=
  (outRaw_A c i arg2 harg2 arg3 harg3 arg4 harg4 arg5 harg5 arg6 harg6 arg7 harg7 arg8 harg8 arg9 harg9 arg10 harg10 hc0 x0 x1 x2 x3 x4 x5 x6 hc1).trans (out_of arg5 harg5 arg6 harg6 arg7 harg7 arg8 harg8 arg10 x3 x4 x5 x6 _ _ (canon_A c i arg2 harg2 arg3 harg3 arg4 harg4 arg5 harg5 arg6 harg6 arg7 harg7 arg8 harg8 arg9 harg9 arg10 harg10 hc0 x0 x1 x2 x3 x4 x5 x6 hc1))

end

section

variable (hc1 : ¬cond0_1 i)

theorem stores_eq_C : (kernelRun0_C c i arg2 harg2 arg3 harg3 arg4 harg4 arg5 harg5 arg6 harg6 arg7 harg7 arg8 harg8 arg9 harg9 arg10 harg10 hc0 hc1 x0 x1 x2 x3 x4 x5 x6).2.1 = stores arg2 harg2 arg3 harg3 arg4 harg4 x0 x1 x2 := by
  sl_kernel_rfl

theorem canon_C : View.canon (kernelRun0_C c i arg2 harg2 arg3 harg3 arg4 harg4 arg5 harg5 arg6 harg6 arg7 harg7 arg8 harg8 arg9 harg9 arg10 harg10 hc0 hc1 x0 x1 x2 x3 x4 x5 x6).2.1 = stagedC x0 x1 x2 := by
  funext y
  have hcov := scover0_C_0 c i arg2 harg2 arg3 harg3 arg4 harg4 arg5 harg5 arg6 harg6 arg7 harg7 arg8 harg8 arg9 harg9 arg10 harg10 hc0 hc1 x0 x1 x2 x3 x4 x5 x6 y
  rw [stores_eq_C] at hcov ⊢
  exact View.canon_apply_of_pieces (stagedC x0 x1 x2) _ (stores_val arg2 harg2 arg3 harg3 arg4 harg4 x0 x1 x2) y hcov

/-- The scratch after the first point of a later block of rows. -/
theorem sout_C : sout0_C_0 c i arg2 harg2 arg3 harg3 arg4 harg4 arg5 harg5 arg6 harg6 arg7 harg7 arg8 harg8 arg9 harg9 arg10 harg10 hc0 hc1 x0 x1 x2 x3 x4 x5 x6 = stagedC x0 x1 x2 :=
  (View.read_writes_junk_eq_canon _ _).trans (canon_C c i arg2 harg2 arg3 harg3 arg4 harg4 arg5 harg5 arg6 harg6 arg7 harg7 arg8 harg8 arg9 harg9 arg10 harg10 hc0 x0 x1 x2 x3 x4 x5 x6 hc1)

theorem outRaw_C : out0_C_7 c i arg2 harg2 arg3 harg3 arg4 harg4 arg5 harg5 arg6 harg6 arg7 harg7 arg8 harg8 arg9 harg9 arg10 harg10 hc0 hc1 x0 x1 x2 x3 x4 x5 x6
    = VO0_7.read (Elt Ideal) (VO0_7.writes (Elt Ideal) VO0_7.junk
        [⟨allO, outV arg5 harg5 arg6 harg6 arg7 harg7 arg8 harg8 arg10 x3 x4 x5 x6 (kernelRun0_C c i arg2 harg2 arg3 harg3 arg4 harg4 arg5 harg5 arg6 harg6 arg7 harg7 arg8 harg8 arg9 harg9 arg10 harg10 hc0 hc1 x0 x1 x2 x3 x4 x5 x6).2.1⟩]) := by
  sl_kernel_rfl

/-- The output's block there, from the staged rows. -/
theorem out_C : out0_C_7 c i arg2 harg2 arg3 harg3 arg4 harg4 arg5 harg5 arg6 harg6 arg7 harg7 arg8 harg8 arg9 harg9 arg10 harg10 hc0 hc1 x0 x1 x2 x3 x4 x5 x6 = block (stagedC x0 x1 x2) x3 x4 x5 x6 :=
  (outRaw_C c i arg2 harg2 arg3 harg3 arg4 harg4 arg5 harg5 arg6 harg6 arg7 harg7 arg8 harg8 arg9 harg9 arg10 harg10 hc0 x0 x1 x2 x3 x4 x5 x6 hc1).trans (out_of arg5 harg5 arg6 harg6 arg7 harg7 arg8 harg8 arg10 x3 x4 x5 x6 _ _ (canon_C c i arg2 harg2 arg3 harg3 arg4 harg4 arg5 harg5 arg6 harg6 arg7 harg7 arg8 harg8 arg9 harg9 arg10 harg10 hc0 x0 x1 x2 x3 x4 x5 x6 hc1))

end

/-- The output's block at a later point of a block of rows, from the scratch. -/
theorem out_B (xs0 : Vec Ideal S1040x4096 .bf16) (hn0 : ¬cond0_0 i) (hn1 : ¬cond0_1 i) :
    out0_B_7 c i arg2 harg2 arg3 harg3 arg4 harg4 arg5 harg5 arg6 harg6 arg7 harg7 arg8 harg8 arg9 harg9 arg10 harg10 hn0 hn1 x0 x1 x2 x3 x4 x5 x6 xs0 = block xs0 x3 x4 x5 x6 := by
  frame_out
  unfold block
  refine congrArg (fun t => k0_pay1 (k0_pay101 t x4) (k0_pay102 xs0 x3 x5) (k0_pay103 x6)) (funext fun z => ?_)
  exact congrArg xs0 (idx_ext (M := 1040) (N := 4096) _ _ (show 16 + 1 * (z 0).val = 16 + (z 0).val by omega) (show 0 + 1 * (z 1).val = (z 1).val by omega))

end

end Cert.Kernel2Ideal.Up

end
-- ==== Proof.Silu.lean ====
/- The two spellings of the sigmoid-weighted unit agree over the extended reals. -/
module

public import Idealize.ShloMosaic.Lib.Pointwise
public import Idealize.ShloMosaic.Lib.KernelVsHost
public import Idealize.ShloMosaic.Lib.IdealHost

@[expose] public section

noncomputable section

namespace Cert.Dense

open Idealize.ShloMosaic

/-- The unit, by the hyperbolic tangent. -/
def silu (x : EReal) : EReal :=
  x * (Ideal.ofBits .f32 0x3F000000#32 + Ideal.ofBits .f32 0x3F000000#32 * Ideal.tanh (Ideal.ofBits .f32 0x3F000000#32 * x))

theorem half : Ideal.ofBits .f32 0x3F000000#32 = ((1 / 2 : ℝ) : EReal) := by
  simp [Ideal.ofBits, Ideal.ieee]
  rw [← EReal.coe_mul]
  norm_num

/-- Half of one plus the tangent of half is the logistic function. -/
theorem half_tanh (r : ℝ) : 1 / 2 + 1 / 2 * Real.tanh (1 / 2 * r) = (1 + Real.exp (-r))⁻¹ := by
  rw [Real.tanh_eq_sinh_div_cosh, Real.sinh_eq, Real.cosh_eq]
  have e : Real.exp (-r) = Real.exp (-(1 / 2 * r)) / Real.exp (1 / 2 * r) := by
    rw [← Real.exp_sub]; congr 1; ring
  have p := Real.exp_pos (1 / 2 * r)
  have q := Real.exp_pos (-(1 / 2 * r))
  rw [e]
  field_simp
  ring

/-- The unit is the argument times the logistic function of it. -/
theorem silu_eq (x : EReal) : silu x = x * Ideal.div (Ideal.ofBits .f32 0x3F800000#32) (Ideal.ofBits .f32 0x3F800000#32 + Ideal.exp (-x)) := by
  unfold silu
  refine congrArg (x * ·) ?_
  rw [Ideal.ofBits_one_f32, half]
  refine Eq.trans ?_ (show Ideal.logistic x = _ from rfl)
  induction x with
  | bot =>
    rw [EReal.coe_mul_bot_of_pos (by norm_num), Ideal.tanh_bot, Ideal.logistic_bot, show (-1 : EReal) = ((-1 : ℝ) : EReal) by norm_num, ← EReal.coe_mul, ← EReal.coe_add]
    norm_num
  | top =>
    rw [EReal.coe_mul_top_of_pos (by norm_num), Ideal.tanh_top, Ideal.logistic_top, show (1 : EReal) = ((1 : ℝ) : EReal) by norm_num, ← EReal.coe_mul, ← EReal.coe_add]
    norm_num
  | coe r =>
    rw [← EReal.coe_mul, Ideal.tanh_coe, ← EReal.coe_mul, ← EReal.coe_add, Ideal.logistic_coe, half_tanh]

end Cert.Dense

end
-- ==== Proof.Up.lean ====
/- The up and gate projections: the array the kernel leaves, entry by entry. -/
module

public import proofs.«01_k».proof.Proof.UpStage
public import proofs.«01_k».proof.Proof.Silu

@[expose] public section

set_option maxRecDepth 16384

noncomputable section

namespace Cert.Kernel2Ideal.Up

open Cert.Kernel2Ideal Cert.Kernel2Ideal.Gen Cert.Kernel2Ideal.Value Cert.Dense Idealize.ShloMosaic Idealize.ShloMosaic.TcCoe Idealize.SL.Sem

/-- The gate's projection at place `p` of its rows with two rows of zeros in front. -/
def gateAt (x : Vec Ideal S16384x4096 .f32) (g : Vec Ideal S4096 .f32) (wg : Vec Ideal S4096x11008 .f32) (p : ℕ) (d : Fin 11008) : EReal :=
  if p < 2 then 0 else ∑ k : Fin 4096, rms (fun j => x (ix2 (Fin.ofNat 16384 (p - 2)) j)) (fun j => g (ix1 j)) k * wg (ix2 k d)

/-- The gate after the convolution over three rows and its bias. -/
def convAt (x : Vec Ideal S16384x4096 .f32) (g : Vec Ideal S4096 .f32) (wg : Vec Ideal S4096x11008 .f32) (f : Vec Ideal S3x11008 .f32) (b : Vec Ideal S11008 .f32) (p : ℕ) (d : Fin 11008) : EReal :=
  f (ix2 (0 : Fin 3) d) * gateAt x g wg p d + f (ix2 (1 : Fin 3) d) * gateAt x g wg (p + 1) d + f (ix2 (2 : Fin 3) d) * gateAt x g wg (p + 2) d + b (ix1 d)

/-- The result: the activated gate times the up projection. -/
def up (x : Vec Ideal S16384x4096 .f32) (g : Vec Ideal S4096 .f32) (wg wu : Vec Ideal S4096x11008 .f32) (f : Vec Ideal S3x11008 .f32) (b : Vec Ideal S11008 .f32) : Vec Ideal S16384x11008 .bf16 := fun i =>
  silu (convAt x g wg f b (i 0).val (i 1 : Fin 11008)) * ∑ k : Fin 4096, rms (fun j => x (ix2 (i 0 : Fin 16384) j)) (fun j => g (ix1 j)) k * wu (ix2 k (i 1 : Fin 11008))

/-- The convolution of a block's projected rows. -/
theorem conv_apply (p : FVec Ideal S1040x256 .f32) (f : Vec Ideal S3x256 .f32) (u : Fin 1024) (d : Fin 256) :
    addf (addf (mulf (broadcastTo S1024x256 (extractStridedSlice S1x256 ![0, 0] f slices_S3x256_o0_0_S1x256) broadcasts_S1x256_S1024x256)
          (extractStridedSlice S1024x256 ![16, 0] (dynamicRotate 0 2#32 none p rotates_S1040x256_d0) slices_S1040x256_o16_0_S1024x256))
        (mulf (broadcastTo S1024x256 (extractStridedSlice S1x256 ![1, 0] f slices_S3x256_o1_0_S1x256) broadcasts_S1x256_S1024x256)
          (extractStridedSlice S1024x256 ![16, 0] (dynamicRotate 0 1#32 none p rotates_S1040x256_d0) slices_S1040x256_o16_0_S1024x256)))
      (mulf (broadcastTo S1024x256 (extractStridedSlice S1x256 ![2, 0] f slices_S3x256_o2_0_S1x256) broadcasts_S1x256_S1024x256)
        (extractStridedSlice S1024x256 ![16, 0] p slices_S1040x256_o16_0_S1024x256)) (ix2 u d)
    = f (ix2 (0 : Fin 3) d) * p (ix2 (⟨14 + u.val, by omega⟩ : Fin 1040) d) + f (ix2 (1 : Fin 3) d) * p (ix2 (⟨15 + u.val, by omega⟩ : Fin 1040) d)
      + f (ix2 (2 : Fin 3) d) * p (ix2 (⟨16 + u.val, by omega⟩ : Fin 1040) d) := by
  have h2 : ∀ h, (⟨(16 + u.val + 1040 - 2) % 1040, h⟩ : Fin 1040) = ⟨14 + u.val, by omega⟩ := fun h => Fin.ext (show (16 + u.val + 1040 - 2) % 1040 = 14 + u.val by omega)
  have h1 : ∀ h, (⟨(16 + u.val + 1040 - 1) % 1040, h⟩ : Fin 1040) = ⟨15 + u.val, by omega⟩ := fun h => Fin.ext (show (16 + u.val + 1040 - 1) % 1040 = 15 + u.val by omega)
  pointwise
  rw [h2, h1]

/-- The activation and the product, entry by entry. -/
theorem pay1_apply (v : FVec Ideal S1024x256 .f32) (a : FVec Ideal S1024x256 .f32) (b : FVec Ideal S1x256 .f32) (u : Fin 1024) (d : Fin 256) :
    k0_pay1 v a b (ix2 u d) = silu (a (ix2 u d) + b (ix2 (0 : Fin 1) d)) * v (ix2 u d) := by
  unfold silu
  pointwise [k0_pay1]

/-- The output's block at an entry. -/
theorem block_apply (s : Vec Ideal S1040x4096 .bf16) (x3 x4 : Vec Ideal S4096x256 .bf16) (x5 : Vec Ideal S3x256 .f32) (x6 : Vec Ideal S1x256 .f32) (u : Fin 1024) (d : Fin 256) :
    block s x3 x4 x5 x6 (ix2 u d)
    = silu (x5 (ix2 (0 : Fin 3) d) * (∑ k, s (ix2 (⟨14 + u.val, by omega⟩ : Fin 1040) k) * x3 (ix2 k d)) + x5 (ix2 (1 : Fin 3) d) * (∑ k, s (ix2 (⟨15 + u.val, by omega⟩ : Fin 1040) k) * x3 (ix2 k d))
        + x5 (ix2 (2 : Fin 3) d) * (∑ k, s (ix2 (⟨16 + u.val, by omega⟩ : Fin 1040) k) * x3 (ix2 k d)) + x6 (ix2 (0 : Fin 1) d))
      * ∑ k : Fin 4096, s (ix2 (⟨16 + u.val, by omega⟩ : Fin 1040) k) * x4 (ix2 k d) := by
  unfold block
  rw [pay1_apply]
  have hp : ∀ r : Fin 1040, matmul (F := Ideal) dot_S1040x4096_S4096x256_S1040x256_1_0_0_1_n_n none s x3 (constant S1040x256 .f32 0x00000000#32) (ix2 r d) = ∑ k, s (ix2 r k) * x3 (ix2 k d) := fun r =>
    product_apply (M := 1040) (K := 4096) (N := 256) (e := .bf16) dot_S1040x4096_S4096x256_S1040x256_1_0_0_1_n_n rfl none s x3 r d
  refine congrArg₂ (· * ·) (congrArg silu (congrArg₂ (· + ·) ?_ ?_)) ?_
  · unfold k0_pay102
    rw [shapeCast_self]
    refine (conv_apply _ x5 u d).trans ?_
    rw [hp, hp, hp]
  · unfold k0_pay103
    rw [shapeCast_self]
  · unfold k0_pay101
    rw [shapeCast_self]
    exact product_apply (M := 1024) (K := 4096) (N := 256) (e := .bf16) dot_S1024x4096_S4096x256_S1024x256_1_0_0_1_n_n rfl none _ x4 u d

variable (m : (ℓ : Loc nD τ sig) → Buf (Elt Ideal) ℓ) (c : Dev nD)

def argX : Vec Ideal S16384x4096 .f32 := m ((c : Thread nD τ).loc main_arg0)
def argG : Vec Ideal S4096 .f32 := m ((c : Thread nD τ).loc main_arg1)
def argWg : Vec Ideal S4096x11008 .f32 := m ((c : Thread nD τ).loc main_arg2)
def argWu : Vec Ideal S4096x11008 .f32 := m ((c : Thread nD τ).loc main_arg3)
def argF : Vec Ideal S3x11008 .f32 := m ((c : Thread nD τ).loc main_arg4)
def argB : Vec Ideal S11008 .f32 := m ((c : Thread nD τ).loc main_arg5)

/-- The gate's weights, in the products' format. -/
theorem V_v0 : (V m c main_v0 : S4096x11008.Idx → EReal) = argWg m c := by
  show StableHlo.after hostOps0 _ (Proc.devRef .tc main_v0) = _
  after_results
  rfl

/-- The up projection's weights, in the products' format. -/
theorem V_v1 : (V m c main_v1 : S4096x11008.Idx → EReal) = argWu m c := by
  show StableHlo.after hostOps0 _ (Proc.devRef .tc main_v1) = _
  after_results
  rfl

/-- The norm's weights, as one row. -/
theorem V_v2 : (V m c main_v2 : S1x4096.Idx → EReal) = shapeCast S1x4096 (argG m c) shapeCasts_S4096_S1x4096 := by
  show StableHlo.after hostOps0 _ (Proc.devRef .tc main_v2) = _
  after_results
  rfl

/-- The bias, as one row. -/
theorem V_v3 : (V m c main_v3 : S1x11008.Idx → EReal) = shapeCast S1x11008 (argB m c) shapeCasts_S11008_S1x11008 := by
  show StableHlo.after hostOps0 _ (Proc.devRef .tc main_v3) = _
  after_results
  rfl

theorem row_apply (g : S4096.Idx → EReal) (k : Fin 4096) : shapeCast S1x4096 g shapeCasts_S4096_S1x4096 (ix2 (0 : Fin 1) k) = g (ix1 k) := by
  pointwise

theorem bias_apply (g : S11008.Idx → EReal) (k : Fin 11008) : shapeCast S1x11008 g shapeCasts_S11008_S1x11008 (ix2 (0 : Fin 1) k) = g (ix1 k) := by
  pointwise

theorem index_facts : ∀ t : Fin cfg0.N,
    (win0_0.index t = ![t.val / 43, 0] ∧ win0_1.index t = ![64 * (t.val / 43) - 1, 0] ∧ win0_2.index t = ![0, 0]) ∧ win0_3.index t = ![0, t.val % 43] ∧ win0_4.index t = ![0, t.val % 43]
      ∧ win0_5.index t = ![0, t.val % 43] ∧ win0_6.index t = ![0, t.val % 43] ∧ win0_7.index t = ![t.val / 43, t.val % 43] := by
  decide +kernel

theorem tN (t : Fin cfg0.N) : t.val < 688 := lt_of_lt_of_eq t.isLt N_0

/-- A block's normalised rows, sixteen from before it first (zeros before the first row). -/
def rows (n : ℕ) : Vec Ideal S1040x4096 .bf16 := fun y =>
  if 1024 * (n / 43) + (y 0).val < 16 then 0
  else rms (fun j => argX m c (ix2 (Fin.ofNat 16384 (1024 * (n / 43) + (y 0).val - 16)) j)) (fun j => argG m c (ix1 j)) (y 1 : Fin 4096)

theorem blk0 (t : Fin cfg0.N) (r : Fin 1024) (j : Fin 4096) (q : Fin 16384) (hq : q.val = 1024 * (t.val / 43) + r.val) : iblk m c 0 t (ix2 r j) = argX m c (ix2 q j) := by
  obtain ⟨⟨e0, -, -⟩, -⟩ := index_facts t
  show V m c main_arg0 (((cfg0.win 0).blk t).view.emb (ix2 r j)) = _
  rw [V_main_arg0]
  have h0 : (((cfg0.win 0).blk t).view.emb (ix2 r j) 0).val = win0_0.index t (0 : Fin 2) * 1024 + 1 * r.val := rfl
  have h1 : (((cfg0.win 0).blk t).view.emb (ix2 r j) 1).val = win0_0.index t (1 : Fin 2) * 4096 + 1 * j.val := rfl
  rw [e0] at h0 h1
  refine congrArg (argX m c) (idx2 _ _ _ (h0.trans ?_) (h1.trans (show 0 * 4096 + 1 * j.val = j.val by omega)))
  show t.val / 43 * 1024 + 1 * r.val = q.val
  omega

theorem blk1 (t : Fin cfg0.N) (r : Fin 16) (j : Fin 4096) (q : Fin 16384) (hq : q.val = 16 * (64 * (t.val / 43) - 1) + r.val) : iblk m c 1 t (ix2 r j) = argX m c (ix2 q j) := by
  obtain ⟨⟨-, e1, -⟩, -⟩ := index_facts t
  show V m c main_arg0 (((cfg0.win 1).blk t).view.emb (ix2 r j)) = _
  rw [V_main_arg0]
  have h0 : (((cfg0.win 1).blk t).view.emb (ix2 r j) 0).val = win0_1.index t (0 : Fin 2) * 16 + 1 * r.val := rfl
  have h1 : (((cfg0.win 1).blk t).view.emb (ix2 r j) 1).val = win0_1.index t (1 : Fin 2) * 4096 + 1 * j.val := rfl
  rw [e1] at h0 h1
  refine congrArg (argX m c) (idx2 _ _ _ (h0.trans ?_) (h1.trans (show 0 * 4096 + 1 * j.val = j.val by omega)))
  show (64 * (t.val / 43) - 1) * 16 + 1 * r.val = q.val
  omega

theorem blk2 (t : Fin cfg0.N) (j : Fin 4096) : iblk m c 2 t (ix2 (0 : Fin 1) j) = argG m c (ix1 j) := by
  obtain ⟨⟨-, -, e2⟩, -⟩ := index_facts t
  show V m c main_v2 (((cfg0.win 2).blk t).view.emb (ix2 (0 : Fin 1) j)) = _
  rw [V_v2]
  have h0 : (((cfg0.win 2).blk t).view.emb (ix2 (0 : Fin 1) j) 0).val = win0_2.index t (0 : Fin 2) * 1 + 1 * 0 := rfl
  have h1 : (((cfg0.win 2).blk t).view.emb (ix2 (0 : Fin 1) j) 1).val = win0_2.index t (1 : Fin 2) * 4096 + 1 * j.val := rfl
  rw [e2] at h0 h1
  refine (congrArg (shapeCast S1x4096 (argG m c) shapeCasts_S4096_S1x4096) (idx2 _ (0 : Fin 1) j (h0.trans rfl) (h1.trans (show 0 * 4096 + 1 * j.val = j.val by omega)))).trans (row_apply _ j)

theorem blk3 (t : Fin cfg0.N) (k : Fin 4096) (d : Fin 256) (D : Fin 11008) (hD : D.val = t.val % 43 * 256 + 1 * d.val) : iblk m c 3 t (ix2 k d) = argWg m c (ix2 k D) := by
  obtain ⟨-, e, -⟩ := index_facts t
  show V m c main_v0 (((cfg0.win 3).blk t).view.emb (ix2 k d)) = _
  rw [V_v0]
  have h0 : (((cfg0.win 3).blk t).view.emb (ix2 k d) 0).val = win0_3.index t (0 : Fin 2) * 4096 + 1 * k.val := rfl
  have h1 : (((cfg0.win 3).blk t).view.emb (ix2 k d) 1).val = win0_3.index t (1 : Fin 2) * 256 + 1 * d.val := rfl
  rw [e] at h0 h1
  exact congrArg (argWg m c) (idx2 _ _ _ (h0.trans (show 0 * 4096 + 1 * k.val = k.val by omega)) (h1.trans hD.symm))

theorem blk4 (t : Fin cfg0.N) (k : Fin 4096) (d : Fin 256) (D : Fin 11008) (hD : D.val = t.val % 43 * 256 + 1 * d.val) : iblk m c 4 t (ix2 k d) = argWu m c (ix2 k D) := by
  obtain ⟨-, -, e, -⟩ := index_facts t
  show V m c main_v1 (((cfg0.win 4).blk t).view.emb (ix2 k d)) = _
  rw [V_v1]
  have h0 : (((cfg0.win 4).blk t).view.emb (ix2 k d) 0).val = win0_4.index t (0 : Fin 2) * 4096 + 1 * k.val := rfl
  have h1 : (((cfg0.win 4).blk t).view.emb (ix2 k d) 1).val = win0_4.index t (1 : Fin 2) * 256 + 1 * d.val := rfl
  rw [e] at h0 h1
  exact congrArg (argWu m c) (idx2 _ _ _ (h0.trans (show 0 * 4096 + 1 * k.val = k.val by omega)) (h1.trans hD.symm))

theorem blk5 (t : Fin cfg0.N) (k : Fin 3) (d : Fin 256) (D : Fin 11008) (hD : D.val = t.val % 43 * 256 + 1 * d.val) : iblk m c 5 t (ix2 k d) = argF m c (ix2 k D) := by
  obtain ⟨-, -, -, e, -⟩ := index_facts t
  show V m c main_arg4 (((cfg0.win 5).blk t).view.emb (ix2 k d)) = _
  rw [V_main_arg4]
  have h0 : (((cfg0.win 5).blk t).view.emb (ix2 k d) 0).val = win0_5.index t (0 : Fin 2) * 3 + 1 * k.val := rfl
  have h1 : (((cfg0.win 5).blk t).view.emb (ix2 k d) 1).val = win0_5.index t (1 : Fin 2) * 256 + 1 * d.val := rfl
  rw [e] at h0 h1
  exact congrArg (argF m c) (idx2 _ _ _ (h0.trans (show 0 * 3 + 1 * k.val = k.val by omega)) (h1.trans hD.symm))

theorem blk6 (t : Fin cfg0.N) (d : Fin 256) (D : Fin 11008) (hD : D.val = t.val % 43 * 256 + 1 * d.val) : iblk m c 6 t (ix2 (0 : Fin 1) d) = argB m c (ix1 D) := by
  obtain ⟨-, -, -, -, e, -⟩ := index_facts t
  show V m c main_v3 (((cfg0.win 6).blk t).view.emb (ix2 (0 : Fin 1) d)) = _
  rw [V_v3]
  have h0 : (((cfg0.win 6).blk t).view.emb (ix2 (0 : Fin 1) d) 0).val = win0_6.index t (0 : Fin 2) * 1 + 1 * 0 := rfl
  have h1 : (((cfg0.win 6).blk t).view.emb (ix2 (0 : Fin 1) d) 1).val = win0_6.index t (1 : Fin 2) * 256 + 1 * d.val := rfl
  rw [e] at h0 h1
  exact (congrArg (shapeCast S1x11008 (argB m c) shapeCasts_S11008_S1x11008) (idx2 _ (0 : Fin 1) D (h0.trans rfl) (h1.trans hD.symm))).trans (bias_apply _ D)

theorem staged_A (t : Fin cfg0.N) (h : t.val % 688 = 0) : stagedA (iblk m c 0 t) (iblk m c 2 t) = rows m c t.val := by
  have ht := tN t
  have h0 : t.val = 0 := by omega
  funext y
  have hy : (y 0).val < 1040 := (y 0).isLt
  unfold stagedA rows
  by_cases hr : (y 0).val < 16
  · rw [if_pos hr, if_pos (by rw [h0]; omega)]
  · rw [if_neg hr, if_neg (by rw [h0]; omega)]
    refine congrArg₂ (fun a b => rms a b (y 1 : Fin 4096)) (funext fun j => blk0 m c t _ j _ ?_) (funext fun j => blk2 m c t j)
    show (1024 * (t.val / 43) + (y 0).val - 16) % 16384 = 1024 * (t.val / 43) + ((y 0).val - 16) % 1024
    omega

theorem staged_C (t : Fin cfg0.N) (h : ¬t.val % 688 = 0) (h' : t.val % 43 = 0) : stagedC (iblk m c 0 t) (iblk m c 1 t) (iblk m c 2 t) = rows m c t.val := by
  have ht := tN t
  have h0 : 1 ≤ t.val / 43 := by omega
  funext y
  have hy : (y 0).val < 1040 := (y 0).isLt
  unfold stagedC rows
  rw [if_neg (show ¬1024 * (t.val / 43) + (y 0).val < 16 by omega)]
  by_cases hr : (y 0).val < 16
  · rw [if_pos hr]
    refine congrArg₂ (fun a b => rms a b (y 1 : Fin 4096)) (funext fun j => blk1 m c t _ j _ ?_) (funext fun j => blk2 m c t j)
    show (1024 * (t.val / 43) + (y 0).val - 16) % 16384 = 16 * (64 * (t.val / 43) - 1) + (y 0).val % 16
    omega
  · rw [if_neg hr]
    refine congrArg₂ (fun a b => rms a b (y 1 : Fin 4096)) (funext fun j => blk0 m c t _ j _ ?_) (funext fun j => blk2 m c t j)
    show (1024 * (t.val / 43) + (y 0).val - 16) % 16384 = 1024 * (t.val / 43) + ((y 0).val - 16) % 1024
    omega

/-- The output's block at a point whose rows are in the scratch. -/
def blockAt (t : Fin cfg0.N) : Vec Ideal S1024x256 .bf16 := block (rows m c t.val) (iblk m c 3 t) (iblk m c 4 t) (iblk m c 5 t) (iblk m c 6 t)

/-- The first point of a block of rows: the scratch and the output's block. -/
theorem first (t : Fin cfg0.N) (h0 : t.val % 43 = 0) : outsAt0 m c t.val t.isLt = (blockAt m c t, rows m c t.val) := by
  unfold blockAt
  by_cases h1 : t.val % 688 = 0
  · rw [outsAt0_A m c t h0 h1, ← staged_A m c t h1]
    rw [out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) ((hcond0_1 t).mpr h1),
      sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) ((hcond0_1 t).mpr h1)]
  · rw [outsAt0_C m c t h0 h1, ← staged_C m c t h1 h0]
    rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) (fun h => h1 ((hcond0_1 t).mp h)),
      sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) (fun h => h1 ((hcond0_1 t).mp h))]

/-- A later point keeps the scratch. -/
theorem later (t : Fin cfg0.N) (h : ¬t.val % 43 = 0) :
    (outsAt0 m c t.val t.isLt).2 = (outsAt0 m c (t.val - 1) (Nat.lt_of_le_of_lt (Nat.sub_le _ _) t.isLt)).2 := by
  rw [outsAt0_B m c t h (by omega)]
  generalize (outsAt0 m c (t.val - 1) (Nat.lt_of_le_of_lt (Nat.sub_le _ _) t.isLt)).2 = p
  unfold sout0_B_0
  rfl

/-- Every point of a block of rows finds its normalised rows in the scratch. -/
theorem scratch (n : ℕ) : ∀ hn : n < cfg0.N, (outsAt0 m c n hn).2 = rows m c n := by
  induction n with
  | zero => exact fun hn => congrArg Prod.snd (first m c ⟨0, hn⟩ (Nat.zero_mod _))
  | succ n ih =>
    intro hn
    by_cases h : (n + 1) % 43 = 0
    · exact congrArg Prod.snd (first m c ⟨n + 1, hn⟩ h)
    · refine (later m c ⟨n + 1, hn⟩ h).trans ((ih (Nat.lt_of_succ_lt hn)).trans ?_)
      unfold rows
      rw [show (n + 1) / 43 = n / 43 by omega]

/-- What a point leaves in the output's block. -/
theorem out_eq (t : Fin cfg0.N) : (outsAt0 m c t.val t.isLt).1 = blockAt m c t := by
  by_cases h : t.val % 43 = 0
  · exact congrArg Prod.fst (first m c t h)
  · have hs : (outsAt0 m c (t.val - 1) (Nat.lt_of_le_of_lt (Nat.sub_le _ _) t.isLt)).2 = rows m c t.val := by
      rw [scratch]
      unfold rows
      rw [show (t.val - 1) / 43 = t.val / 43 by omega]
    have h1 : ¬t.val % 688 = 0 := by omega
    rw [outsAt0_B m c t h h1]
    rw [hs]
    rw [out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (rows m c t.val) (fun q => h ((hcond0_0 t).mp q)) (fun q => h1 ((hcond0_1 t).mp q))]
    rfl

theorem rows_zero (n : ℕ) (r : Fin 1040) (k : Fin 4096) (h : 1024 * (n / 43) + r.val < 16) : rows m c n (ix2 r k) = 0 := if_pos h

theorem rows_row (n : ℕ) (r : Fin 1040) (k : Fin 4096) (q : ℕ) (h : 1024 * (n / 43) + r.val = q + 16) :
    rows m c n (ix2 r k) = rms (fun j => argX m c (ix2 (Fin.ofNat 16384 q) j)) (fun j => argG m c (ix1 j)) k :=
  (if_neg (show ¬1024 * (n / 43) + r.val < 16 by omega)).trans
    (congrArg (fun q => rms (fun j => argX m c (ix2 (Fin.ofNat 16384 q) j)) (fun j => argG m c (ix1 j)) k) (show 1024 * (n / 43) + r.val - 16 = q by omega))

/-- The gate's projection of a block's rows. -/
theorem gate_eq (t : Fin cfg0.N) (r : Fin 1040) (P : ℕ) (hP : 1024 * (t.val / 43) + r.val = P + 14) (d : Fin 256) (D : Fin 11008) (hD : D.val = t.val % 43 * 256 + 1 * d.val) :
    ∑ k, rows m c t.val (ix2 r k) * iblk m c 3 t (ix2 k d) = gateAt (argX m c) (argG m c) (argWg m c) P D := by
  unfold gateAt
  by_cases h : P < 2
  · rw [if_pos h]
    exact Finset.sum_eq_zero fun k _ => by rw [rows_zero m c t.val r k (by omega), zero_mul]
  · rw [if_neg h]
    exact Finset.sum_congr rfl fun k _ => congrArg₂ (· * ·) (rows_row m c t.val r k (P - 2) (by omega)) (blk3 m c t k d D hD)

theorem up_eq (t : Fin cfg0.N) (u : Fin 1024) (R : Fin 16384) (hR : R.val = t.val / 43 * 1024 + 1 * u.val) (d : Fin 256) (D : Fin 11008) (hD : D.val = t.val % 43 * 256 + 1 * d.val) :
    ∑ k : Fin 4096, rows m c t.val (ix2 (⟨16 + u.val, by omega⟩ : Fin 1040) k) * iblk m c 4 t (ix2 k d)
    = ∑ k : Fin 4096, rms (fun j => argX m c (ix2 R j)) (fun j => argG m c (ix1 j)) k * argWu m c (ix2 k D) := by
  have ht := tN t
  refine Finset.sum_congr rfl fun k _ => congrArg₂ (· * ·) ?_ (blk4 m c t k d D hD)
  refine (rows_row m c t.val _ k R.val (show 1024 * (t.val / 43) + (16 + u.val) = R.val + 16 by omega)).trans ?_
  refine congrArg (fun q : Fin 16384 => rms (fun j => argX m c (ix2 q j)) (fun j => argG m c (ix1 j)) k) (Fin.ext ?_)
  exact Nat.mod_eq_of_lt R.isLt

theorem blockAt_apply (t : Fin cfg0.N) (u : Fin 1024) (d : Fin 256) :
    blockAt m c t (ix2 u d) = up (argX m c) (argG m c) (argWg m c) (argWu m c) (argF m c) (argB m c) (((cfg0.win 7).blk t).view.emb (ix2 u d)) := by
  obtain ⟨-, -, -, -, -, e7⟩ := index_facts t
  have h0 : (((cfg0.win 7).blk t).view.emb (ix2 u d) 0).val = win0_7.index t (0 : Fin 2) * 1024 + 1 * u.val := rfl
  have h1 : (((cfg0.win 7).blk t).view.emb (ix2 u d) 1).val = win0_7.index t (1 : Fin 2) * 256 + 1 * d.val := rfl
  rw [e7] at h0 h1
  have k0 : (((cfg0.win 7).blk t).view.emb (ix2 u d) 0).val = t.val / 43 * 1024 + 1 * u.val := h0
  have k1 : (((cfg0.win 7).blk t).view.emb (ix2 u d) 1).val = t.val % 43 * 256 + 1 * d.val := h1
  unfold blockAt
  rw [block_apply]
  unfold up convAt
  rw [gate_eq m c t _ (((cfg0.win 7).blk t).view.emb (ix2 u d) 0).val (by rw [k0]; show 1024 * (t.val / 43) + (14 + u.val) = _; omega) d _ k1,
    gate_eq m c t _ ((((cfg0.win 7).blk t).view.emb (ix2 u d) 0).val + 1) (by rw [k0]; show 1024 * (t.val / 43) + (15 + u.val) = _; omega) d _ k1,
    gate_eq m c t _ ((((cfg0.win 7).blk t).view.emb (ix2 u d) 0).val + 2) (by rw [k0]; show 1024 * (t.val / 43) + (16 + u.val) = _; omega) d _ k1,
    blk5 m c t 0 d _ k1, blk5 m c t 1 d _ k1, blk5 m c t 2 d _ k1, blk6 m c t d _ k1, up_eq m c t u _ k0 d _ k1]

/-- What a point writes back is its block of the result. -/
theorem flushed_eq (t : Fin cfg0.N) : (dats m 0 c).flushed 7 t = ((cfg0.win 7).blk t).view.read (Elt Ideal) (up (argX m c) (argG m c) (argWg m c) (argWu m c) (argF m c) (argB m c)) := by
  rw [flushed7, out_eq]
  funext y
  obtain ⟨u, d, rfl⟩ : ∃ (u : Fin 1024) (d : Fin 256), y = ix2 u d := ⟨y 0, y 1, idx2 y _ _ rfl rfl⟩
  exact blockAt_apply m c t u d

/-- The result after the run. -/
theorem final : (dats m 0 c).arrAt 7 cfg0.N = up (argX m c) (argG m c) (argWg m c) (argWu m c) (argF m c) (argB m c) :=
  (dats m 0 c).arrAt_eq_of_cover 7 _ (fun t _ => flushed_eq m c t) (fun i => (covered_iff7 i).2 (by
    have h0 : (i 0).val < 16384 := (i 0).isLt
    have h1 : (i 1).val < 11008 := (i 1).isLt
    omega))

end Cert.Kernel2Ideal.Up

end
-- ==== Proof.RefUp.lean ====
/- The reference of the up and gate projections, entry by entry. -/
module

public import proofs.«01_k».proof.Proof.Up
public import proofs.«01_k».proof.Proof.Gen.Reference2Ideal.Read

@[expose] public section

set_option maxRecDepth 16384

noncomputable section

namespace Cert.Reference2Ideal.Up

open Cert.Reference2Ideal Cert.Reference2Ideal.Gen Cert.Reference2Ideal.Read Cert.Dense Idealize.ShloMosaic
open Cert.Kernel2Ideal.Up (gateAt convAt up)

variable (x : FVec Ideal S16384x4096 .f32) (g : FVec Ideal S4096 .f32) (wg wu : FVec Ideal S4096x11008 .f32) (f : FVec Ideal S3x11008 .f32) (b : FVec Ideal S11008 .f32)

/-- The normalised rows. -/
theorem norm_eq (r : Fin 16384) (k : Fin 4096) :
    val_main_v12 (F := Ideal) x g (ix2 r k) = rms (fun j => x (ix2 r j)) (fun j => g (ix1 j)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  unfold rms
  refine congrArg₂ (· * ·) (congrArg (fun s => x (ix2 r k) * Ideal.rsqrt (Ideal.div s (Ideal.ofBits .f32 0x45800000#32) + Ideal.ofBits .f32 0x358637BD#32)) ?_)
    (congrArg g (funext fun a => Fin.ext (by match a with | ⟨0, _⟩ => rfl)))
  refine Eq.trans (congrArg₂ (· + ·) (show val_main_cst (F := Ideal) (Shape.Idx.first h_S_) = 0 from by unfold val_main_cst; exact Ideal.ofBits_zero_f32) (Finset.sum_congr rfl fun j _ => ?_)) (zero_add _)
  rw [val_main_v0_apply]
  exact congrArg (fun q => x q * x q) (idx_ext _ _ rfl rfl)

/-- A projection of the normalised rows. -/
theorem proj_eq (i : S16384x11008.Idx) :
    val_main_v13 (F := Ideal) x g wg i = ∑ k : Fin 4096, rms (fun j => x (ix2 (i 0 : Fin 16384) j)) (fun j => g (ix1 j)) k * wg (ix2 k (i 1 : Fin 11008)) := by
  rw [val_main_v13_apply]
  refine Finset.sum_congr rfl fun k _ => congrArg₂ (· * ·) ?_ ?_
  · exact (congrArg (val_main_v12 (F := Ideal) x g) (idx_ext (M := 16384) (N := 4096) (lidx_main_v13 i k) (ix2 (i 0 : Fin 16384) k) rfl rfl)).trans (norm_eq x g _ k)
  · exact congrArg wg (idx_ext (M := 4096) (N := 11008) (ridx_main_v13 i k) (ix2 k (i 1 : Fin 11008)) rfl rfl)

theorem proj2_eq (i : S16384x11008.Idx) :
    val_main_v39 (F := Ideal) x g wu i = ∑ k : Fin 4096, rms (fun j => x (ix2 (i 0 : Fin 16384) j)) (fun j => g (ix1 j)) k * wu (ix2 k (i 1 : Fin 11008)) := by
  rw [val_main_v39_apply]
  refine Finset.sum_congr rfl fun k _ => congrArg₂ (· * ·) ?_ ?_
  · exact (congrArg (val_main_v12 (F := Ideal) x g) (idx_ext (M := 16384) (N := 4096) (lidx_main_v39 i k) (ix2 (i 0 : Fin 16384) k) rfl rfl)).trans (norm_eq x g _ k)
  · exact congrArg wu (idx_ext (M := 4096) (N := 11008) (ridx_main_v39 i k) (ix2 k (i 1 : Fin 11008)) rfl rfl)

theorem pad_zero (i : S_.Idx) : val_main_call0_v0 (F := Ideal) i = 0 := by
  rw [val_main_call0_v0_apply, val_main_c_apply]
  show ((((0#32 : BitVec 32).toInt : ℝ) : EReal)) = 0
  simp

/-- The gate's projection with two rows of zeros in front. -/
theorem padded_eq (p : Fin 16386) (d : Fin 11008) : val_main_v14 (F := Ideal) x g wg (ix2 p d) = gateAt x g wg p.val d := by
  unfold val_main_v14 gateAt
  by_cases h : p.val < 2
  · rw [if_pos h]
    refine (pad_apply_of_not_inside ![2, 0] ![0, 0] ![0, 0] (val_main_v13 (F := Ideal) x g wg) (val_main_call0_v0 (F := Ideal)) pads_S16384x11008_S16386x11008_200_000 h_S_ (ix2 p d) (0 : Fin 2) ?_).trans (pad_zero _)
    exact fun q => absurd (show 2 ≤ p.val from q.1) (by omega)
  · rw [if_neg h]
    have hq : p.val - 2 < 16384 := by omega
    refine (pad_apply_of_inside ![2, 0] ![0, 0] ![0, 0] (val_main_v13 (F := Ideal) x g wg) (val_main_call0_v0 (F := Ideal)) pads_S16384x11008_S16386x11008_200_000 h_S_ (ix2 p d) (ix2 (⟨p.val - 2, hq⟩ : Fin 16384) d) ?_).trans ?_
    · intro a
      match a with
      | ⟨0, _⟩ => exact (show p.val = 2 + (p.val - 2) * (0 + 1) by omega)
      | ⟨1, _⟩ => exact (show d.val = 0 + d.val * (0 + 1) by omega)
    · refine (proj_eq x g wg _).trans (Finset.sum_congr rfl fun k _ => congrArg₂ (· * ·) ?_ rfl)
      exact congrArg (fun q : Fin 16384 => rms (fun j => x (ix2 q j)) (fun j => g (ix1 j)) k) (Fin.ext (show p.val - 2 = (p.val - 2) % 16384 from (Nat.mod_eq_of_lt hq).symm))

/-- The convolution over three rows and the bias. -/
theorem conv_eq (i : S16384x11008.Idx) : val_main_v37 (F := Ideal) x g wg f b i = convAt x g wg f b (i 0).val (i 1 : Fin 11008) := by
  have hi : (i 0).val < 16384 := (i 0).isLt
  rw [val_main_v37_apply, val_main_v34_apply, val_main_v27_apply, val_main_v20_apply, val_main_v26_apply, val_main_v33_apply, val_main_v15_apply, val_main_v21_apply, val_main_v28_apply,
    val_main_v19_apply, val_main_v18_apply, val_main_v17_apply, val_main_v16_apply, val_main_v25_apply, val_main_v24_apply, val_main_v23_apply, val_main_v22_apply,
    val_main_v32_apply, val_main_v31_apply, val_main_v30_apply, val_main_v29_apply, val_main_v36_apply, val_main_v35_apply]
  unfold convAt
  have g0 : val_main_v14 (F := Ideal) x g wg (idx_main_v15 i) = gateAt x g wg (i 0).val (i 1 : Fin 11008) :=
    (congrArg (val_main_v14 (F := Ideal) x g wg) (idx2 (idx_main_v15 i) (⟨(i 0).val, by omega⟩ : Fin 16386) (i 1 : Fin 11008) rfl rfl)).trans (padded_eq x g wg _ _)
  have g1 : val_main_v14 (F := Ideal) x g wg (idx_main_v21 i) = gateAt x g wg ((i 0).val + 1) (i 1 : Fin 11008) :=
    (congrArg (val_main_v14 (F := Ideal) x g wg) (idx2 (idx_main_v21 i) (⟨(i 0).val + 1, by omega⟩ : Fin 16386) (i 1 : Fin 11008) (Nat.add_comm 1 _) rfl)).trans (padded_eq x g wg _ _)
  have g2 : val_main_v14 (F := Ideal) x g wg (idx_main_v28 i) = gateAt x g wg ((i 0).val + 2) (i 1 : Fin 11008) :=
    (congrArg (val_main_v14 (F := Ideal) x g wg) (idx2 (idx_main_v28 i) (⟨(i 0).val + 2, by omega⟩ : Fin 16386) (i 1 : Fin 11008) (Nat.add_comm 2 _) rfl)).trans (padded_eq x g wg _ _)
  rw [g0, g1, g2]
  refine congrArg₂ (· + ·) (congrArg₂ (· + ·) (congrArg₂ (· + ·) ((mul_comm _ _).trans (congrArg (· * _) ?_)) ((mul_comm _ _).trans (congrArg (· * _) ?_))) ((mul_comm _ _).trans (congrArg (· * _) ?_))) ?_
  · exact congrArg f (idx_ext (M := 3) (N := 11008) _ (ix2 (0 : Fin 3) (i 1 : Fin 11008)) rfl (show (i 1).val % 11008 = (i 1).val from Nat.mod_eq_of_lt (i 1).isLt))
  · exact congrArg f (idx_ext (M := 3) (N := 11008) _ (ix2 (1 : Fin 3) (i 1 : Fin 11008)) rfl (show (i 1).val % 11008 = (i 1).val from Nat.mod_eq_of_lt (i 1).isLt))
  · exact congrArg f (idx_ext (M := 3) (N := 11008) _ (ix2 (2 : Fin 3) (i 1 : Fin 11008)) rfl (show (i 1).val % 11008 = (i 1).val from Nat.mod_eq_of_lt (i 1).isLt))
  · exact congrArg b (funext fun a => Fin.ext (by match a with | ⟨0, _⟩ => rfl))

/-- The reference has the same entries. -/
theorem result_eq : val_main_v41 (F := Ideal) x g wg wu f b = up x g wg wu f b := by
  funext i
  rw [val_main_v41_apply, val_main_v40_apply, val_main_v38_apply, val_main_call1_v5_apply, val_main_call1_v4_apply, val_main_call1_cst_0_apply, val_main_call1_v3_apply, val_main_call1_v2_apply,
    val_main_call1_cst_apply, val_main_call1_v1_apply, val_main_call1_v0_apply, conv_eq, proj2_eq]
  unfold up
  rw [silu_eq]
  rfl

end Cert.Reference2Ideal.Up

end
-- ==== Proof.Down.lean ====
/- The down product of the feed-forward part: the array the kernel leaves, entry by entry. -/
module

public import proofs.«01_k».proof.Proof.Product
public import proofs.«01_k».proof.Proof.Gen.Kernel3Ideal.Value
public import Idealize.ShloMosaic.Lib.Pipeline.ValueKit.Acc

@[expose] public section

set_option maxRecDepth 16384

noncomputable section

namespace Cert.Kernel3Ideal.Down

open Cert.Kernel3Ideal Cert.Kernel3Ideal.Gen Cert.Kernel3Ideal.Value Cert.Dense Idealize.ShloMosaic Idealize.ShloMosaic.TcCoe Idealize.SL.Sem

/-- The residual plus the product of the activations with the weights. -/
def down (x : Vec Ideal S16384x4096 .f32) (a : Vec Ideal S16384x11008 .bf16) (w : Vec Ideal S11008x4096 .f32) : Vec Ideal S16384x4096 .f32 := fun i =>
  x i + ∑ k : Fin 11008, a (ix2 (i 0 : Fin 16384) k) * w (ix2 k (i 1 : Fin 4096))

variable (m : (ℓ : Loc nD τ sig) → Buf (Elt Ideal) ℓ) (c : Dev nD)

/-- What a point leaves in the output's block. -/
theorem out_eq (t : Fin cfg0.N) : outsAt0 m c t = k0_pay2 (k0_pay1 (iblk m c 0 t)) (iblk m c 1 t) (iblk m c 2 t) := by
  unfold outsAt0 out0_A_3 kernelRun0_A
  frame_out

def argX : Vec Ideal S16384x4096 .f32 := m ((c : Thread nD τ).loc main_arg0)
def argA : Vec Ideal S16384x11008 .bf16 := m ((c : Thread nD τ).loc main_arg1)
def argW : Vec Ideal S11008x4096 .f32 := m ((c : Thread nD τ).loc main_arg2)

/-- The weights as the call takes them are the weights: the cast changes no value. -/
theorem V_v0 : (V m c main_v0 : S11008x4096.Idx → EReal) = argW m c := by
  show StableHlo.after hostOps0 _ (Proc.devRef .tc main_v0) = _
  after_results
  rfl

theorem index_facts : ∀ t : Fin cfg0.N,
    win0_0.index t = ![t.val / 8, t.val % 8] ∧ win0_1.index t = ![t.val / 8, 0] ∧ win0_2.index t = ![0, t.val % 8] ∧ win0_3.index t = ![t.val / 8, t.val % 8]
    ∧ win0_3.flush t = true := by
  decide +kernel

/-- The payload at an entry. -/
theorem pay_apply (x : Vec Ideal S512x512 .f32) (a : Vec Ideal S512x11008 .bf16) (w : Vec Ideal S11008x512 .bf16) (u d : Fin 512) :
    k0_pay2 (k0_pay1 x) a w (ix2 u d) = x (ix2 u d) + ∑ k : Fin 11008, a (ix2 u k) * w (ix2 k d) := by
  have h := product_apply (M := 512) (K := 11008) (N := 512) (e := .bf16) dot_S512x11008_S11008x512_S512x512_1_0_0_1_n_n rfl none a w u d
  rw [← h]
  unfold k0_pay2 k0_pay1
  simp only [shapeCast_self]
  rfl

theorem block (t : Fin cfg0.N) (u d : Fin 512) :
    k0_pay2 (k0_pay1 (iblk m c 0 t)) (iblk m c 1 t) (iblk m c 2 t) (ix2 u d) = down (argX m c) (argA m c) (argW m c) (((cfg0.win 3).blk t).view.emb (ix2 u d)) := by
  obtain ⟨e0, e1, e2, e3, -⟩ := index_facts t
  have h30 : (((cfg0.win 3).blk t).view.emb (ix2 u d) 0).val = win0_3.index t (0 : Fin 2) * 512 + 1 * u.val := rfl
  have h31 : (((cfg0.win 3).blk t).view.emb (ix2 u d) 1).val = win0_3.index t (1 : Fin 2) * 512 + 1 * d.val := rfl
  rw [e3] at h30 h31
  refine (pay_apply _ _ _ u d).trans ?_
  unfold down
  refine congrArg₂ (· + ·) ?_ (Finset.sum_congr rfl fun k _ => congrArg₂ (· * ·) ?_ ?_)
  · show V m c main_arg0 (((cfg0.win 0).blk t).view.emb (ix2 u d)) = _
    rw [V_main_arg0]
    refine congrArg (argX m c) (funext fun a => Fin.ext ?_)
    have h0 : (((cfg0.win 0).blk t).view.emb (ix2 u d) 0).val = win0_0.index t (0 : Fin 2) * 512 + 1 * u.val := rfl
    have h1 : (((cfg0.win 0).blk t).view.emb (ix2 u d) 1).val = win0_0.index t (1 : Fin 2) * 512 + 1 * d.val := rfl
    rw [e0] at h0 h1
    match a with
    | ⟨0, _⟩ => exact h0.trans h30.symm
    | ⟨1, _⟩ => exact h1.trans h31.symm
  · show V m c main_arg1 (((cfg0.win 1).blk t).view.emb (ix2 u k)) = _
    rw [V_main_arg1]
    have h0 : (((cfg0.win 1).blk t).view.emb (ix2 u k) 0).val = win0_1.index t (0 : Fin 2) * 512 + 1 * u.val := rfl
    have h1 : (((cfg0.win 1).blk t).view.emb (ix2 u k) 1).val = win0_1.index t (1 : Fin 2) * 11008 + 1 * k.val := rfl
    rw [e1] at h0 h1
    exact congrArg (argA m c) (idx2 _ _ _ (h0.trans h30.symm) (h1.trans (show 0 * 11008 + 1 * k.val = k.val by omega)))
  · show V m c main_v0 (((cfg0.win 2).blk t).view.emb (ix2 k d)) = _
    rw [V_v0]
    have h0 : (((cfg0.win 2).blk t).view.emb (ix2 k d) 0).val = win0_2.index t (0 : Fin 2) * 11008 + 1 * k.val := rfl
    have h1 : (((cfg0.win 2).blk t).view.emb (ix2 k d) 1).val = win0_2.index t (1 : Fin 2) * 512 + 1 * d.val := rfl
    rw [e2] at h0 h1
    exact congrArg (argW m c) (idx2 _ _ _ (h0.trans (show 0 * 11008 + 1 * k.val = k.val by omega)) (h1.trans h31.symm))

/-- What a point writes back is its block of the result. -/
theorem flushed_eq (t : Fin cfg0.N) : (dats m 0 c).flushed 3 t = ((cfg0.win 3).blk t).view.read (Elt Ideal) (down (argX m c) (argA m c) (argW m c)) := by
  rw [flushed3, out_eq]
  funext y
  obtain ⟨u, d, rfl⟩ : ∃ (u d : Fin 512), y = ix2 u d := ⟨y 0, y 1, idx2 y _ _ rfl rfl⟩
  exact block m c t u d

theorem mem_blk (t : Fin cfg0.N) (i : S16384x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

theorem covered (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  let t : Fin cfg0.N := ⟨8 * ((i 0).val / 512) + (i 1).val / 512, lt_of_lt_of_eq (by omega) N_0.symm⟩
  have ht : t.val = 8 * ((i 0).val / 512) + (i 1).val / 512 := rfl
  obtain ⟨-, -, -, e3, hf⟩ := index_facts t
  refine ⟨t, hf, ?_⟩
  rw [mem_blk, e3]
  intro a
  match a with
  | ⟨0, _⟩ => show t.val / 8 * 512 ≤ (i 0).val ∧ (i 0).val < t.val / 8 * 512 + 512; omega
  | ⟨1, _⟩ => show t.val % 8 * 512 ≤ (i 1).val ∧ (i 1).val < t.val % 8 * 512 + 512; omega

/-- The result after the run. -/
theorem final : (dats m 0 c).arrAt 3 cfg0.N = down (argX m c) (argA m c) (argW m c) :=
  (dats m 0 c).arrAt_eq_of_cover 3 _ (fun t _ => flushed_eq m c t) covered

end Cert.Kernel3Ideal.Down

end
-- ==== Proof.RefDown.lean ====
/- The reference of the down projection, entry by entry. -/
module

public import proofs.«01_k».proof.Proof.Down
public import proofs.«01_k».proof.Proof.Gen.Reference3Ideal.Read

@[expose] public section

set_option maxRecDepth 16384

noncomputable section

namespace Cert.Reference3Ideal.Down

open Cert.Reference3Ideal Cert.Reference3Ideal.Gen Cert.Reference3Ideal.Read Cert.Dense Idealize.ShloMosaic

/-- The reference is the residual plus the product. -/
theorem result_eq (x : FVec Ideal S16384x4096 .f32) (a : FVec Ideal S16384x11008 .bf16) (w : FVec Ideal S11008x4096 .f32) :
    val_main_v2 (F := Ideal) x a w = Cert.Kernel3Ideal.Down.down x a w := by
  funext i
  rw [val_main_v2_apply, val_main_v1_apply]
  refine congrArg (fun s => x i + s) (Finset.sum_congr rfl fun k _ => congrArg₂ (· * ·) ?_ ?_)
  · exact congrArg a (idx_ext _ _ rfl rfl)
  · exact congrArg w (idx_ext _ _ rfl rfl)

end Cert.Reference3Ideal.Down

end
-- ==== Proof.InStage.lean ====
/- What the staging of the input projection leaves in its scratch: the block's rows, sixteen at a time, each divided by its root mean
   square and weighted. -/
module

public import proofs.«01_k».proof.Proof.Product
public import proofs.«01_k».proof.Proof.Norm
public import proofs.«01_k».proof.Proof.Gen.Kernel4Ideal.Value
public import Idealize.ShloMosaic.Lib.Pipeline.ValueKit.Acc
public import Idealize.ShloMosaic.Lib.WholeRead

@[expose] public section

set_option maxRecDepth 16384

noncomputable section

namespace Cert.Kernel4Ideal.InProj

open Cert.Kernel4Ideal Cert.Kernel4Ideal.Gen Cert.Dense Idealize.ShloMosaic Idealize.ShloMosaic.TcCoe Idealize.SL.Sem

section

variable (c : Dev nD) (i : grid0.Coords) (arg2 : Memref sig .tc .vmem S1024x4096 .f32) (harg2 : arg2.IsWhole) (arg3 : Memref sig .tc .vmem S1x4096 .f32) (harg3 : arg3.IsWhole)
  (arg4 : Memref sig .tc .vmem S4096x512 .bf16) (harg4 : arg4.IsWhole) (arg5 : Memref sig .tc .vmem S1024x512 .f32) (harg5 : arg5.IsWhole) (arg6 : Memref sig .tc .vmem S1024x4096 .bf16) (harg6 : arg6.IsWhole)
  (hc0 : cond0_0 i) (x0 : Vec Ideal S1024x4096 .f32) (x1 : Vec Ideal S1x4096 .f32) (x2 : Vec Ideal S4096x512 .bf16)

/-- The groups of rows, last first. -/
def groups : List (Fin 64) :=
  [63, 62, 61, 60, 59, 58, 57, 56, 55, 54, 53, 52, 51, 50, 49, 48, 47, 46, 45, 44, 43, 42, 41, 40, 39, 38, 37, 36, 35, 34, 33, 32,
   31, 30, 29, 28, 27, 26, 25, 24, 23, 22, 21, 20, 19, 18, 17, 16, 15, 14, 13, 12, 11, 10, 9, 8, 7, 6, 5, 4, 3, 2, 1, 0]

/-- The rectangle of a group. -/
def rowsR (k : Fin 64) : Rect S1024x4096 :=
  Rect.unit (s := S1024x4096) ![16 * k.val, 0] S16x4096.size (fun a => by
    match a with
    | ⟨0, _⟩ => exact (show 16 * k.val + 16 ≤ 1024 by omega)
    | ⟨1, _⟩ => exact (show 0 + 4096 ≤ 4096 by omega))

def allN : Rect S1x4096 := Rect.unit (s := S1x4096) ![0, 0] S1x4096.size (by intro a; fin_cases a <;> simp)

/-- One group's store. -/
def groupV (k : Fin 64) : FVec Ideal S16x4096 .bf16 :=
  k0_pay4 (View.readAt (Elt Ideal) arg3.view allN.toLoadRect (harg3.unread x1)) (View.readAt (Elt Ideal) arg2.view (rowsR k).toLoadRect (harg2.unread x0))

def stores : List (View.Piece (Elt Ideal) S1024x4096 .bf16) := groups.map fun k => ⟨rowsR k, groupV arg2 harg2 arg3 harg3 x0 x1 k⟩

theorem stores_eq : (kernelRun0_A c i arg2 harg2 arg3 harg3 arg4 harg4 arg5 harg5 arg6 harg6 hc0 x0 x1 x2).2.1 = stores arg2 harg2 arg3 harg3 x0 x1 := by
  sl_kernel_rfl

/-- One group's payload at an entry. -/
theorem pay_apply (w : Vec Ideal S1x4096 .f32) (v : Vec Ideal S16x4096 .f32) (r : Fin 16) (k : Fin 4096) :
    k0_pay4 w v (ix2 r k) = rms (fun j => v (ix2 r j)) (fun j => w (ix2 (0 : Fin 1) j)) k := by
  unfold rms
  pointwise [k0_pay4, k0_pay3]

/-- The staged block. -/
def staged (x0 : Vec Ideal S1024x4096 .f32) (x1 : Vec Ideal S1x4096 .f32) : Vec Ideal S1024x4096 .bf16 := fun y =>
  rms (fun j => x0 (ix2 (y 0 : Fin 1024) j)) (fun j => x1 (ix2 (0 : Fin 1) j)) (y 1 : Fin 4096)

theorem groupV_eq (k : Fin 64) (z : S16x4096.Idx) : groupV arg2 harg2 arg3 harg3 x0 x1 k z = staged x0 x1 ((rowsR k).emb z) := by
  obtain ⟨r, d, rfl⟩ : ∃ (r : Fin 16) (d : Fin 4096), z = ix2 r d := ⟨z 0, z 1, idx2 z _ _ rfl rfl⟩
  unfold groupV
  refine (pay_apply _ _ r d).trans ?_
  have e0 : ((rowsR k).emb (ix2 r d) 0).val = 16 * k.val + 1 * r.val := rfl
  have e1 : ((rowsR k).emb (ix2 r d) 1) = d := Fin.ext (show 0 + 1 * d.val = d.val by omega)
  unfold staged
  rw [e1]
  have h0 : ∀ j : Fin 4096, View.readAt (Elt Ideal) arg2.view (rowsR k).toLoadRect (harg2.unread x0) (ix2 r j) = x0 (ix2 ((rowsR k).emb (ix2 r d) 0 : Fin 1024) j) := fun j =>
    (harg2.readAt_unread x0 _ _).trans (congrArg x0 (idx2 _ _ _ rfl (show 0 + 1 * j.val = j.val by omega)))
  have h1 : ∀ j : Fin 4096, View.readAt (Elt Ideal) arg3.view allN.toLoadRect (harg3.unread x1) (ix2 (0 : Fin 1) j) = x1 (ix2 (0 : Fin 1) j) := fun j =>
    (harg3.readAt_unread x1 _ _).trans (congrArg x1 (idx2 _ _ _ rfl (show 0 + 1 * j.val = j.val by omega)))
  exact congrArg₂ (fun a b => rms a b d) (funext h0) (funext h1)

theorem sout_A : sout0_A_0 c i arg2 harg2 arg3 harg3 arg4 harg4 arg5 harg5 arg6 harg6 hc0 x0 x1 x2 = staged x0 x1 := by
  have hs : sout0_A_0 c i arg2 harg2 arg3 harg3 arg4 harg4 arg5 harg5 arg6 harg6 hc0 x0 x1 x2 = View.canon (kernelRun0_A c i arg2 harg2 arg3 harg3 arg4 harg4 arg5 harg5 arg6 harg6 hc0 x0 x1 x2).2.1 :=
    View.read_writes_junk_eq_canon _ _
  rw [hs]
  funext y
  refine View.canon_apply_of_pieces (staged x0 x1) _ ?_ y (scover0_A_0 c i arg2 harg2 arg3 harg3 arg4 harg4 arg5 harg5 arg6 harg6 hc0 x0 x1 x2 y)
  rw [stores_eq]
  intro p hp z
  obtain ⟨k, -, rfl⟩ := List.mem_map.mp hp
  exact groupV_eq arg2 harg2 arg3 harg3 x0 x1 k z

def allO : Rect S1024x512 := Rect.unit (s := S1024x512) ![0, 0] S1024x512.size (by intro a; fin_cases a <;> simp)
def allH : Rect S1024x4096 := Rect.unit (s := S1024x4096) ![0, 0] S1024x4096.size (by intro a; fin_cases a <;> simp)
def allW : Rect S4096x512 := Rect.unit (s := S4096x512) ![0, 0] S4096x512.size (by intro a; fin_cases a <;> simp)

theorem outRaw_A : out0_A_3 c i arg2 harg2 arg3 harg3 arg4 harg4 arg5 harg5 arg6 harg6 hc0 x0 x1 x2
    = VO0_3.read (Elt Ideal) (VO0_3.writes (Elt Ideal) VO0_3.junk
        [⟨allO, k0_pay2 (arg6.view.readCov (kernelRun0_A c i arg2 harg2 arg3 harg3 arg4 harg4 arg5 harg5 arg6 harg6 hc0 x0 x1 x2).2.1 allH.toLoadRect)
          (View.readAt (Elt Ideal) arg4.view allW.toLoadRect (harg4.unread x2))⟩]) := by
  sl_kernel_rfl

/-- The first point of a block of rows: its product is of the rows it stages. -/
theorem out_A : out0_A_3 c i arg2 harg2 arg3 harg3 arg4 harg4 arg5 harg5 arg6 harg6 hc0 x0 x1 x2 = k0_pay2 (staged x0 x1) x2 := by
  rw [outRaw_A, View.read_writes_junk_eq_canon]
  unfold allO
  rw [View.canon_unit_zero (by funext a; fin_cases a <;> rfl), View.readCov_eq_canon']
  refine congrArg₂ k0_pay2 ?_ (funext fun z => (harg4.readAt_unread x2 _ z).trans (congrArg x2 (idx_ext (M := 4096) (N := 512) _ z
    (show 0 + 1 * (z 0).val = (z 0).val by omega) (show 0 + 1 * (z 1).val = (z 1).val by omega))))
  rw [← sout_A c i arg2 harg2 arg3 harg3 arg4 harg4 arg5 harg5 arg6 harg6 hc0 x0 x1 x2]
  unfold sout0_A_0
  rw [View.read_writes_junk_eq_canon]
  exact funext fun z => congrArg _ (idx_ext (M := 1024) (N := 4096) _ z (show 0 + 1 * (z 0).val = (z 0).val by omega) (show 0 + 1 * (z 1).val = (z 1).val by omega))

end

end Cert.Kernel4Ideal.InProj

end
-- ==== Proof.InProj.lean ====
/- The input projection: the array the kernel leaves, entry by entry. -/
module

public import proofs.«01_k».proof.Proof.InStage

@[expose] public section

set_option maxRecDepth 16384

noncomputable section

namespace Cert.Kernel4Ideal.InProj

open Cert.Kernel4Ideal Cert.Kernel4Ideal.Gen Cert.Kernel4Ideal.Value Cert.Dense Idealize.ShloMosaic Idealize.ShloMosaic.TcCoe Idealize.SL.Sem

/-- The product of the normalised rows with the weights. -/
def inProj (x : Vec Ideal S16384x4096 .f32) (g : Vec Ideal S4096 .f32) (w : Vec Ideal S4096x14848 .bf16) : Vec Ideal S16384x14848 .f32 := fun i =>
  ∑ k : Fin 4096, rms (fun j => x (ix2 (i 0 : Fin 16384) j)) (fun j => g (ix1 j)) k * w (ix2 k (i 1 : Fin 14848))

variable (m : (ℓ : Loc nD τ sig) → Buf (Elt Ideal) ℓ) (c : Dev nD)

def argX : Vec Ideal S16384x4096 .f32 := m ((c : Thread nD τ).loc main_arg0)
def argG : Vec Ideal S4096 .f32 := m ((c : Thread nD τ).loc main_arg1)
def argW : Vec Ideal S4096x14848 .bf16 := m ((c : Thread nD τ).loc main_arg2)

/-- The norm's weights, as one row. -/
theorem V_v0 : (V m c main_v0 : S1x4096.Idx → EReal) = shapeCast S1x4096 (argG m c) shapeCasts_S4096_S1x4096 := by
  show StableHlo.after hostOps0 _ (Proc.devRef .tc main_v0) = _
  after_results
  rfl

theorem row_apply (g : S4096.Idx → EReal) (k : Fin 4096) : shapeCast S1x4096 g shapeCasts_S4096_S1x4096 (ix2 (0 : Fin 1) k) = g (ix1 k) := by
  pointwise

theorem index_facts : ∀ t : Fin cfg0.N,
    win0_0.index t = ![t.val / 29, 0] ∧ win0_1.index t = ![0, 0] ∧ win0_2.index t = ![0, t.val % 29] ∧ win0_3.index t = ![t.val / 29, t.val % 29] := by
  decide +kernel

theorem tN (t : Fin cfg0.N) : t.val < 464 := lt_of_lt_of_eq t.isLt N_0

/-- The normalised rows of a block of rows. -/
def rows (n : ℕ) : Vec Ideal S1024x4096 .bf16 := fun y =>
  rms (fun j => argX m c (ix2 (Fin.ofNat 16384 (1024 * (n / 29) + (y 0).val)) j)) (fun j => argG m c (ix1 j)) (y 1 : Fin 4096)

theorem staged_eq (t : Fin cfg0.N) : staged (iblk m c 0 t) (iblk m c 1 t) = rows m c t.val := by
  obtain ⟨e0, e1, -⟩ := index_facts t
  have ht := tN t
  funext y
  unfold staged rows
  refine congrArg₂ (fun a b => rms a b (y 1 : Fin 4096)) (funext fun j => ?_) (funext fun j => ?_)
  · show V m c main_arg0 (((cfg0.win 0).blk t).view.emb (ix2 (y 0 : Fin 1024) j)) = _
    rw [V_main_arg0]
    have h0 : (((cfg0.win 0).blk t).view.emb (ix2 (y 0 : Fin 1024) j) 0).val = win0_0.index t (0 : Fin 2) * 1024 + 1 * (y 0).val := rfl
    have h1 : (((cfg0.win 0).blk t).view.emb (ix2 (y 0 : Fin 1024) j) 1).val = win0_0.index t (1 : Fin 2) * 4096 + 1 * j.val := rfl
    rw [e0] at h0 h1
    have hy : (y 0).val < 1024 := (y 0).isLt
    refine congrArg (argX m c) (idx2 _ _ _ (h0.trans ?_) (h1.trans (show 0 * 4096 + 1 * j.val = j.val by omega)))
    show t.val / 29 * 1024 + 1 * (y 0).val = (1024 * (t.val / 29) + (y 0).val) % 16384
    omega
  · show V m c main_v0 (((cfg0.win 1).blk t).view.emb (ix2 (0 : Fin 1) j)) = _
    rw [V_v0]
    have h0 : (((cfg0.win 1).blk t).view.emb (ix2 (0 : Fin 1) j) 0).val = win0_1.index t (0 : Fin 2) * 1 + 1 * 0 := rfl
    have h1 : (((cfg0.win 1).blk t).view.emb (ix2 (0 : Fin 1) j) 1).val = win0_1.index t (1 : Fin 2) * 4096 + 1 * j.val := rfl
    rw [e1] at h0 h1
    refine (congrArg (shapeCast S1x4096 (argG m c) shapeCasts_S4096_S1x4096) (idx2 _ (0 : Fin 1) j (h0.trans rfl) (h1.trans (show 0 * 4096 + 1 * j.val = j.val by omega)))).trans (row_apply _ j)

/-- The first point of a block of rows: the scratch and the output's block. -/
theorem first (t : Fin cfg0.N) (h : t.val % 29 = 0) :
    outsAt0 m c t.val t.isLt = (k0_pay2 (rows m c t.val) (iblk m c 2 t), rows m c t.val) := by
  rw [outsAt0_A m c t h, ← staged_eq m c t]
  rw [out_A c (grid0.coords t) (ms0_0 t) (hs0_0 t) (ms0_1 t) (hs0_1 t) (ms0_2 t) (hs0_2 t) (ms0_3 t) (hs0_3 t) scM0_0 (Memref.isWhole_whole _) ((hcond0_0 t).mpr h) (iblk m c 0 t) (iblk m c 1 t) (iblk m c 2 t),
    sout_A c (grid0.coords t) (ms0_0 t) (hs0_0 t) (ms0_1 t) (hs0_1 t) (ms0_2 t) (hs0_2 t) (ms0_3 t) (hs0_3 t) scM0_0 (Memref.isWhole_whole _) ((hcond0_0 t).mpr h) (iblk m c 0 t) (iblk m c 1 t) (iblk m c 2 t)]

/-- A later point keeps the scratch. -/
theorem later (t : Fin cfg0.N) (h : ¬t.val % 29 = 0) :
    (outsAt0 m c t.val t.isLt).2 = (outsAt0 m c (t.val - 1) (Nat.lt_of_le_of_lt (Nat.sub_le _ _) t.isLt)).2 := by
  rw [outsAt0_B m c t h]
  generalize (outsAt0 m c (t.val - 1) (Nat.lt_of_le_of_lt (Nat.sub_le _ _) t.isLt)).2 = p
  unfold sout0_B_0
  rfl

/-- Every point of a block of rows finds its normalised rows in the scratch. -/
theorem scratch (n : ℕ) : ∀ hn : n < cfg0.N, (outsAt0 m c n hn).2 = rows m c n := by
  induction n with
  | zero => exact fun hn => congrArg Prod.snd (first m c ⟨0, hn⟩ (Nat.zero_mod _))
  | succ n ih =>
    intro hn
    by_cases h : (n + 1) % 29 = 0
    · exact congrArg Prod.snd (first m c ⟨n + 1, hn⟩ h)
    · refine (later m c ⟨n + 1, hn⟩ h).trans ((ih (Nat.lt_of_succ_lt hn)).trans ?_)
      unfold rows
      rw [show (n + 1) / 29 = n / 29 by omega]

/-- What a point leaves in the output's block. -/
theorem out_eq (t : Fin cfg0.N) : (outsAt0 m c t.val t.isLt).1 = k0_pay2 (rows m c t.val) (iblk m c 2 t) := by
  by_cases h : t.val % 29 = 0
  · exact congrArg Prod.fst (first m c t h)
  · have hs : (outsAt0 m c (t.val - 1) (Nat.lt_of_le_of_lt (Nat.sub_le _ _) t.isLt)).2 = rows m c t.val := by
      rw [scratch]
      unfold rows
      rw [show (t.val - 1) / 29 = t.val / 29 by omega]
    rw [outsAt0_B m c t h]
    rw [hs]
    frame_out
    exact congrArg (fun r => k0_pay2 r (iblk m c 2 t)) (Memref.IsWhole.read_unread (Memref.isWhole_whole cc0_scratch0) (rows m c t.val))

theorem block (t : Fin cfg0.N) (u : Fin 1024) (d : Fin 512) :
    k0_pay2 (rows m c t.val) (iblk m c 2 t) (ix2 u d) = inProj (argX m c) (argG m c) (argW m c) (((cfg0.win 3).blk t).view.emb (ix2 u d)) := by
  obtain ⟨-, -, e2, e3⟩ := index_facts t
  have ht := tN t
  have h30 : (((cfg0.win 3).blk t).view.emb (ix2 u d) 0).val = win0_3.index t (0 : Fin 2) * 1024 + 1 * u.val := rfl
  have h31 : (((cfg0.win 3).blk t).view.emb (ix2 u d) 1).val = win0_3.index t (1 : Fin 2) * 512 + 1 * d.val := rfl
  rw [e3] at h30 h31
  refine (product_apply (M := 1024) (K := 4096) (N := 512) (e := .bf16) dot_S1024x4096_S4096x512_S1024x512_1_0_0_1_n_n rfl none (rows m c t.val) (iblk m c 2 t) u d).trans ?_
  unfold inProj
  refine Finset.sum_congr rfl fun k _ => congrArg₂ (· * ·) ?_ ?_
  · unfold rows
    refine congrArg (fun r : Fin 16384 => rms (fun j => argX m c (ix2 r j)) (fun j => argG m c (ix1 j)) k) (Fin.ext ?_)
    refine Eq.trans ?_ h30.symm
    show (1024 * (t.val / 29) + u.val) % 16384 = t.val / 29 * 1024 + 1 * u.val
    omega
  · show V m c main_arg2 (((cfg0.win 2).blk t).view.emb (ix2 k d)) = _
    rw [V_main_arg2]
    have h0 : (((cfg0.win 2).blk t).view.emb (ix2 k d) 0).val = win0_2.index t (0 : Fin 2) * 4096 + 1 * k.val := rfl
    have h1 : (((cfg0.win 2).blk t).view.emb (ix2 k d) 1).val = win0_2.index t (1 : Fin 2) * 512 + 1 * d.val := rfl
    rw [e2] at h0 h1
    exact congrArg (argW m c) (idx2 _ _ _ (h0.trans (show 0 * 4096 + 1 * k.val = k.val by omega)) (h1.trans h31.symm))

/-- What a point writes back is its block of the result. -/
theorem flushed_eq (t : Fin cfg0.N) : (dats m 0 c).flushed 3 t = ((cfg0.win 3).blk t).view.read (Elt Ideal) (inProj (argX m c) (argG m c) (argW m c)) := by
  rw [flushed3, out_eq]
  funext y
  obtain ⟨u, d, rfl⟩ : ∃ (u : Fin 1024) (d : Fin 512), y = ix2 u d := ⟨y 0, y 1, idx2 y _ _ rfl rfl⟩
  exact block m c t u d

/-- The result after the run. -/
theorem final : (dats m 0 c).arrAt 3 cfg0.N = inProj (argX m c) (argG m c) (argW m c) :=
  (dats m 0 c).arrAt_eq_of_cover 3 _ (fun t _ => flushed_eq m c t) (fun i => (covered_iff3 i).2 (by
    have h0 : (i 0).val < 16384 := (i 0).isLt
    have h1 : (i 1).val < 14848 := (i 1).isLt
    omega))

end Cert.Kernel4Ideal.InProj

end
-- ==== Proof.RefInProj.lean ====
/- The reference of the input projection, entry by entry. -/
module

public import proofs.«01_k».proof.Proof.InProj
public import proofs.«01_k».proof.Proof.Gen.Reference4Ideal.Read

@[expose] public section

set_option maxRecDepth 16384

noncomputable section

namespace Cert.Reference4Ideal.InProj

open Cert.Reference4Ideal Cert.Reference4Ideal.Gen Cert.Reference4Ideal.Read Cert.Dense Idealize.ShloMosaic

/-- The normalised rows. -/
theorem norm_eq (x : FVec Ideal S16384x4096 .f32) (g : FVec Ideal S4096 .f32) (r : Fin 16384) (k : Fin 4096) :
    val_main_v12 (F := Ideal) x g (ix2 r k) = rms (fun j => x (ix2 r j)) (fun j => g (ix1 j)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  unfold rms
  refine congrArg₂ (· * ·) (congrArg (fun s => x (ix2 r k) * Ideal.rsqrt (Ideal.div s (Ideal.ofBits .f32 0x45800000#32) + Ideal.ofBits .f32 0x358637BD#32)) ?_)
    (congrArg g (funext fun a => Fin.ext (by match a with | ⟨0, _⟩ => rfl)))
  refine Eq.trans (congrArg₂ (· + ·) (show val_main_cst (F := Ideal) (Shape.Idx.first h_S_) = 0 from by unfold val_main_cst; exact Ideal.ofBits_zero_f32) (Finset.sum_congr rfl fun j _ => ?_)) (zero_add _)
  rw [val_main_v0_apply]
  exact congrArg (fun q => x q * x q) (idx_ext _ _ rfl rfl)

/-- The reference is the product of the normalised rows with the weights. -/
theorem result_eq (x : FVec Ideal S16384x4096 .f32) (g : FVec Ideal S4096 .f32) (w : FVec Ideal S4096x14848 .bf16) :
    val_main_v14 (F := Ideal) x g w = Cert.Kernel4Ideal.InProj.inProj x g w := by
  funext i
  rw [val_main_v14_apply]
  unfold Cert.Kernel4Ideal.InProj.inProj
  refine Finset.sum_congr rfl fun k _ => congrArg₂ (· * ·) ?_ ?_
  · exact (congrArg (val_main_v12 (F := Ideal) x g) (idx_ext (M := 16384) (N := 4096) (lidx_main_v14 i k) (ix2 (i 0 : Fin 16384) k) rfl rfl)).trans (norm_eq x g _ k)
  · rw [val_main_v13_apply]
    exact congrArg w (idx_ext _ _ rfl rfl)

end Cert.Reference4Ideal.InProj

end
-- ==== Proof.OutProj.lean ====
/- The output projection: the array the kernel leaves, entry by entry. -/
module

public import proofs.«01_k».proof.Proof.Product
public import proofs.«01_k».proof.Proof.Gen.Kernel5Ideal.Value
public import Idealize.ShloMosaic.Lib.Pipeline.ValueKit.Acc

@[expose] public section

set_option maxRecDepth 16384

noncomputable section

namespace Cert.Kernel5Ideal.OutProj

open Cert.Kernel5Ideal Cert.Kernel5Ideal.Gen Cert.Kernel5Ideal.Value Cert.Dense Idealize.ShloMosaic Idealize.ShloMosaic.TcCoe Idealize.SL.Sem

/-- The residual plus the three mixers' products, each with its rows of the weights. -/
def outProj (x : Vec Ideal S16384x4096 .f32) (a : Vec Ideal S16384x1536 .bf16) (b : Vec Ideal S16384x1024 .bf16) (d : Vec Ideal S16384x1536 .bf16)
    (w : Vec Ideal S4096x4096 .f32) : Vec Ideal S16384x4096 .f32 := fun i =>
  x i + ((∑ k : Fin 1536, a (ix2 (i 0 : Fin 16384) k) * w (ix2 (⟨k.val, by omega⟩ : Fin 4096) (i 1 : Fin 4096))
      + ∑ k : Fin 1024, b (ix2 (i 0 : Fin 16384) k) * w (ix2 (⟨1536 + k.val, by omega⟩ : Fin 4096) (i 1 : Fin 4096)))
    + ∑ k : Fin 1536, d (ix2 (i 0 : Fin 16384) k) * w (ix2 (⟨2560 + k.val, by omega⟩ : Fin 4096) (i 1 : Fin 4096)))

variable (m : (ℓ : Loc nD τ sig) → Buf (Elt Ideal) ℓ) (c : Dev nD)

def argX : Vec Ideal S16384x4096 .f32 := m ((c : Thread nD τ).loc main_arg0)
def argA : Vec Ideal S16384x1536 .bf16 := m ((c : Thread nD τ).loc main_arg1)
def argB : Vec Ideal S16384x1024 .bf16 := m ((c : Thread nD τ).loc main_arg2)
def argD : Vec Ideal S16384x1536 .bf16 := m ((c : Thread nD τ).loc main_arg3)
def argW : Vec Ideal S4096x4096 .f32 := m ((c : Thread nD τ).loc main_arg4)

/-- The first mixer's rows of the weights. -/
theorem V_v1 : (V m c main_v1 : S1536x4096.Idx → EReal) = fun y : S1536x4096.Idx =>
    argW m c (ix2 (⟨0 + (y 0).val, lt_of_lt_of_le (Nat.add_lt_add_left (show (y 0).val < 1536 from (y 0).isLt) 0) (by decide)⟩ : Fin 4096) (y 1 : Fin 4096)) := by
  show StableHlo.after hostOps0 _ (Proc.devRef .tc main_v1) = _
  after_results
  funext y
  exact congrArg (argW m c) (idx2 _ _ _ rfl (Nat.zero_add _))

/-- The second mixer's rows of the weights. -/
theorem V_v2 : (V m c main_v2 : S1024x4096.Idx → EReal) = fun y : S1024x4096.Idx =>
    argW m c (ix2 (⟨1536 + (y 0).val, lt_of_lt_of_le (Nat.add_lt_add_left (show (y 0).val < 1024 from (y 0).isLt) 1536) (by decide)⟩ : Fin 4096) (y 1 : Fin 4096)) := by
  show StableHlo.after hostOps0 _ (Proc.devRef .tc main_v2) = _
  after_results
  funext y
  exact congrArg (argW m c) (idx2 _ _ _ rfl (Nat.zero_add _))

/-- The third mixer's rows of the weights. -/
theorem V_v3 : (V m c main_v3 : S1536x4096.Idx → EReal) = fun y : S1536x4096.Idx =>
    argW m c (ix2 (⟨2560 + (y 0).val, lt_of_lt_of_le (Nat.add_lt_add_left (show (y 0).val < 1536 from (y 0).isLt) 2560) (by decide)⟩ : Fin 4096) (y 1 : Fin 4096)) := by
  show StableHlo.after hostOps0 _ (Proc.devRef .tc main_v3) = _
  after_results
  funext y
  exact congrArg (argW m c) (idx2 _ _ _ rfl (Nat.zero_add _))

theorem index_facts : ∀ t : Fin cfg0.N,
    win0_0.index t = ![t.val / 8, t.val % 8] ∧ win0_1.index t = ![t.val / 8, 0] ∧ win0_2.index t = ![t.val / 8, 0] ∧ win0_3.index t = ![t.val / 8, 0]
    ∧ win0_4.index t = ![0, t.val % 8] ∧ win0_5.index t = ![0, t.val % 8] ∧ win0_6.index t = ![0, t.val % 8] ∧ win0_7.index t = ![t.val / 8, t.val % 8]
    ∧ win0_7.flush t = true := by
  decide +kernel

/-- What a point leaves in the output's block. -/
theorem out_eq (x0 : Vec Ideal S1024x512 .f32) (x1 : Vec Ideal S1024x1536 .bf16) (x2 : Vec Ideal S1024x1024 .bf16) (x3 : Vec Ideal S1024x1536 .bf16)
    (x4 : Vec Ideal S1536x512 .bf16) (x5 : Vec Ideal S1024x512 .bf16) (x6 : Vec Ideal S1536x512 .bf16) :
    out0_7 x0 x1 x2 x3 x4 x5 x6 = k0_pay1 x1 x4 x2 x5 x3 x6 x0 := by
  unfold out0_7
  frame_out

/-- The payload at an entry. -/
theorem pay_apply (x0 : Vec Ideal S1024x512 .f32) (x1 : Vec Ideal S1024x1536 .bf16) (x2 : Vec Ideal S1024x1024 .bf16) (x3 : Vec Ideal S1024x1536 .bf16)
    (x4 : Vec Ideal S1536x512 .bf16) (x5 : Vec Ideal S1024x512 .bf16) (x6 : Vec Ideal S1536x512 .bf16) (u : Fin 1024) (d : Fin 512) :
    k0_pay1 x1 x4 x2 x5 x3 x6 x0 (ix2 u d) = x0 (ix2 u d) + ((∑ k : Fin 1536, x1 (ix2 u k) * x4 (ix2 k d) + ∑ k : Fin 1024, x2 (ix2 u k) * x5 (ix2 k d))
      + ∑ k : Fin 1536, x3 (ix2 u k) * x6 (ix2 k d)) := by
  have h1 := product_apply (M := 1024) (K := 1536) (N := 512) (e := .bf16) dot_S1024x1536_S1536x512_S1024x512_1_0_0_1_n_n rfl none x1 x4 u d
  have h2 := product_apply (M := 1024) (K := 1024) (N := 512) (e := .bf16) dot_S1024x1024_S1024x512_S1024x512_1_0_0_1_n_n rfl none x2 x5 u d
  have h3 := product_apply (M := 1024) (K := 1536) (N := 512) (e := .bf16) dot_S1024x1536_S1536x512_S1024x512_1_0_0_1_n_n rfl none x3 x6 u d
  rw [← h1, ← h2, ← h3]
  unfold k0_pay1
  simp only [shapeCast_self]
  rfl

theorem block (t : Fin cfg0.N) (u : Fin 1024) (d : Fin 512) :
    k0_pay1 (iblk m c 1 t) (iblk m c 4 t) (iblk m c 2 t) (iblk m c 5 t) (iblk m c 3 t) (iblk m c 6 t) (iblk m c 0 t) (ix2 u d)
      = outProj (argX m c) (argA m c) (argB m c) (argD m c) (argW m c) (((cfg0.win 7).blk t).view.emb (ix2 u d)) := by
  obtain ⟨e0, e1, e2, e3, e4, e5, e6, e7, -⟩ := index_facts t
  have h70 : (((cfg0.win 7).blk t).view.emb (ix2 u d) 0).val = win0_7.index t (0 : Fin 2) * 1024 + 1 * u.val := rfl
  have h71 : (((cfg0.win 7).blk t).view.emb (ix2 u d) 1).val = win0_7.index t (1 : Fin 2) * 512 + 1 * d.val := rfl
  rw [e7] at h70 h71
  refine (pay_apply _ _ _ _ _ _ _ u d).trans ?_
  unfold outProj
  refine congrArg₂ (· + ·) ?_ (congrArg₂ (· + ·) (congrArg₂ (· + ·) (Finset.sum_congr rfl fun k _ => congrArg₂ (· * ·) ?_ ?_) (Finset.sum_congr rfl fun k _ => congrArg₂ (· * ·) ?_ ?_))
    (Finset.sum_congr rfl fun k _ => congrArg₂ (· * ·) ?_ ?_))
  · show V m c main_arg0 (((cfg0.win 0).blk t).view.emb (ix2 u d)) = _
    rw [V_main_arg0]
    have h0 : (((cfg0.win 0).blk t).view.emb (ix2 u d) 0).val = win0_0.index t (0 : Fin 2) * 1024 + 1 * u.val := rfl
    have h1 : (((cfg0.win 0).blk t).view.emb (ix2 u d) 1).val = win0_0.index t (1 : Fin 2) * 512 + 1 * d.val := rfl
    rw [e0] at h0 h1
    exact congrArg (argX m c) (idx_ext _ _ (h0.trans h70.symm) (h1.trans h71.symm))
  · show V m c main_arg1 (((cfg0.win 1).blk t).view.emb (ix2 u k)) = _
    rw [V_main_arg1]
    have h0 : (((cfg0.win 1).blk t).view.emb (ix2 u k) 0).val = win0_1.index t (0 : Fin 2) * 1024 + 1 * u.val := rfl
    have h1 : (((cfg0.win 1).blk t).view.emb (ix2 u k) 1).val = win0_1.index t (1 : Fin 2) * 1536 + 1 * k.val := rfl
    rw [e1] at h0 h1
    exact congrArg (argA m c) (idx2 _ _ _ (h0.trans h70.symm) (h1.trans (show 0 * 1536 + 1 * k.val = k.val by omega)))
  · show V m c main_v1 (((cfg0.win 4).blk t).view.emb (ix2 k d)) = _
    have h0 : (((cfg0.win 4).blk t).view.emb (ix2 k d) 0).val = win0_4.index t (0 : Fin 2) * 1536 + 1 * k.val := rfl
    have h1 : (((cfg0.win 4).blk t).view.emb (ix2 k d) 1).val = win0_4.index t (1 : Fin 2) * 512 + 1 * d.val := rfl
    rw [e4] at h0 h1
    rw [idx2 (((cfg0.win 4).blk t).view.emb (ix2 k d)) k (((cfg0.win 7).blk t).view.emb (ix2 u d) 1 : Fin 4096) (h0.trans (show 0 * 1536 + 1 * k.val = k.val by omega)) (h1.trans h71.symm)]
    rw [V_v1]
    exact congrArg (argW m c) (idx_ext _ _ (Nat.zero_add _) rfl)
  · show V m c main_arg2 (((cfg0.win 2).blk t).view.emb (ix2 u k)) = _
    rw [V_main_arg2]
    have h0 : (((cfg0.win 2).blk t).view.emb (ix2 u k) 0).val = win0_2.index t (0 : Fin 2) * 1024 + 1 * u.val := rfl
    have h1 : (((cfg0.win 2).blk t).view.emb (ix2 u k) 1).val = win0_2.index t (1 : Fin 2) * 1024 + 1 * k.val := rfl
    rw [e2] at h0 h1
    exact congrArg (argB m c) (idx2 _ _ _ (h0.trans h70.symm) (h1.trans (show 0 * 1024 + 1 * k.val = k.val by omega)))
  · show V m c main_v2 (((cfg0.win 5).blk t).view.emb (ix2 k d)) = _
    have h0 : (((cfg0.win 5).blk t).view.emb (ix2 k d) 0).val = win0_5.index t (0 : Fin 2) * 1024 + 1 * k.val := rfl
    have h1 : (((cfg0.win 5).blk t).view.emb (ix2 k d) 1).val = win0_5.index t (1 : Fin 2) * 512 + 1 * d.val := rfl
    rw [e5] at h0 h1
    rw [idx2 (((cfg0.win 5).blk t).view.emb (ix2 k d)) k (((cfg0.win 7).blk t).view.emb (ix2 u d) 1 : Fin 4096) (h0.trans (show 0 * 1024 + 1 * k.val = k.val by omega)) (h1.trans h71.symm)]
    rw [V_v2]
    rfl
  · show V m c main_arg3 (((cfg0.win 3).blk t).view.emb (ix2 u k)) = _
    rw [V_main_arg3]
    have h0 : (((cfg0.win 3).blk t).view.emb (ix2 u k) 0).val = win0_3.index t (0 : Fin 2) * 1024 + 1 * u.val := rfl
    have h1 : (((cfg0.win 3).blk t).view.emb (ix2 u k) 1).val = win0_3.index t (1 : Fin 2) * 1536 + 1 * k.val := rfl
    rw [e3] at h0 h1
    exact congrArg (argD m c) (idx2 _ _ _ (h0.trans h70.symm) (h1.trans (show 0 * 1536 + 1 * k.val = k.val by omega)))
  · show V m c main_v3 (((cfg0.win 6).blk t).view.emb (ix2 k d)) = _
    have h0 : (((cfg0.win 6).blk t).view.emb (ix2 k d) 0).val = win0_6.index t (0 : Fin 2) * 1536 + 1 * k.val := rfl
    have h1 : (((cfg0.win 6).blk t).view.emb (ix2 k d) 1).val = win0_6.index t (1 : Fin 2) * 512 + 1 * d.val := rfl
    rw [e6] at h0 h1
    rw [idx2 (((cfg0.win 6).blk t).view.emb (ix2 k d)) k (((cfg0.win 7).blk t).view.emb (ix2 u d) 1 : Fin 4096) (h0.trans (show 0 * 1536 + 1 * k.val = k.val by omega)) (h1.trans h71.symm)]
    rw [V_v3]
    rfl

/-- What a point writes back is its block of the result. -/
theorem flushed_eq (t : Fin cfg0.N) :
    (dats m 0 c).flushed 7 t = ((cfg0.win 7).blk t).view.read (Elt Ideal) (outProj (argX m c) (argA m c) (argB m c) (argD m c) (argW m c)) := by
  rw [flushed7, out_eq]
  funext y
  obtain ⟨u, d, rfl⟩ : ∃ (u : Fin 1024) (d : Fin 512), y = ix2 u d := ⟨y 0, y 1, idx2 y _ _ rfl rfl⟩
  exact block m c t u d

theorem mem_blk (t : Fin cfg0.N) (i : S16384x4096.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v4).slice (win0_7.rect t)).set ↔ _
  rw [View.set_slice_whole, Rect.mem_set_unit]
  exact Iff.rfl

theorem covered (i : S16384x4096.Idx) : ∃ t : Fin cfg0.N, (cfg0.win 7).flush t = true ∧ i ∈ ((cfg0.win 7).blk t).view.set := by
  have hi0 : (i 0).val < 16384 := (i 0).isLt
  have hi1 : (i 1).val < 4096 := (i 1).isLt
  let t : Fin cfg0.N := ⟨8 * ((i 0).val / 1024) + (i 1).val / 512, lt_of_lt_of_eq (by omega) N_0.symm⟩
  have ht : t.val = 8 * ((i 0).val / 1024) + (i 1).val / 512 := rfl
  obtain ⟨-, -, -, -, -, -, -, e7, hf⟩ := index_facts t
  refine ⟨t, hf, ?_⟩
  rw [mem_blk, e7]
  intro a
  match a with
  | ⟨0, _⟩ => show t.val / 8 * 1024 ≤ (i 0).val ∧ (i 0).val < t.val / 8 * 1024 + 1024; omega
  | ⟨1, _⟩ => show t.val % 8 * 512 ≤ (i 1).val ∧ (i 1).val < t.val % 8 * 512 + 512; omega

/-- The result after the run. -/
theorem final : (dats m 0 c).arrAt 7 cfg0.N = outProj (argX m c) (argA m c) (argB m c) (argD m c) (argW m c) :=
  (dats m 0 c).arrAt_eq_of_cover 7 _ (fun t _ => flushed_eq m c t) covered

end Cert.Kernel5Ideal.OutProj

end
-- ==== Proof.RefOutProj.lean ====
/- The reference of the output projection, entry by entry. -/
module

public import proofs.«01_k».proof.Proof.OutProj
public import proofs.«01_k».proof.Proof.Gen.Reference5Ideal.Read
public import Idealize.ShloMosaic.Lib.Pointwise

@[expose] public section

set_option maxRecDepth 16384

noncomputable section

namespace Cert.Reference5Ideal.OutProj

open Cert.Reference5Ideal Cert.Reference5Ideal.Gen Cert.Reference5Ideal.Read Cert.Dense Idealize.ShloMosaic

/-- A sum over the columns, mixer by mixer. -/
theorem sum_parts (f : Fin 4096 → EReal) :
    ∑ k, f k = (∑ k : Fin 1536, f ⟨k.val, by omega⟩ + ∑ k : Fin 1024, f ⟨1536 + k.val, by omega⟩) + ∑ k : Fin 1536, f ⟨2560 + k.val, by omega⟩ := by
  refine (Fin.sum_univ_add (a := 2560) (b := 1536) (f : Fin (2560 + 1536) → EReal)).trans (congrArg₂ (· + ·) ?_ rfl)
  exact Fin.sum_univ_add (a := 1536) (b := 1024) fun k : Fin (1536 + 1024) => f ⟨k.val, by omega⟩

variable (a : FVec Ideal S16384x1536 .bf16) (b : FVec Ideal S16384x1024 .bf16) (d : FVec Ideal S16384x1536 .bf16)

/-- The first mixer's columns. -/
theorem cat_first (r : Fin 16384) (k : Fin 1536) : val_main_v0 (F := Ideal) a b d (ix2 r (⟨k.val, by omega⟩ : Fin 4096)) = a (ix2 r k) := by
  have hk := k.isLt
  pointwise [val_main_v0]

/-- The second mixer's columns. -/
theorem cat_second (r : Fin 16384) (k : Fin 1024) : val_main_v0 (F := Ideal) a b d (ix2 r (⟨1536 + k.val, by omega⟩ : Fin 4096)) = b (ix2 r k) := by
  have hk := k.isLt
  pointwise [val_main_v0]

/-- The third mixer's columns. -/
theorem cat_third (r : Fin 16384) (k : Fin 1536) : val_main_v0 (F := Ideal) a b d (ix2 r (⟨2560 + k.val, by omega⟩ : Fin 4096)) = d (ix2 r k) := by
  have hk := k.isLt
  pointwise [val_main_v0]
  rw [dif_neg (by omega), dif_neg (by omega)]
  exact congrArg d (idx_ext (M := 16384) (N := 1536) _ _ rfl (show 2560 + k.val - 1536 - 1024 = k.val by omega))

/-- The reference is the residual plus the three products. -/
theorem result_eq (x : FVec Ideal S16384x4096 .f32) (w : FVec Ideal S4096x4096 .f32) :
    val_main_v3 (F := Ideal) x a b d w = Cert.Kernel5Ideal.OutProj.outProj x a b d w := by
  funext i
  rw [val_main_v3_apply, val_main_v2_apply]
  have hl : ∀ k : Fin 4096, val_main_v1 (F := Ideal) a b d (lidx_main_v2 i k) * w (ridx_main_v2 i k)
      = val_main_v0 (F := Ideal) a b d (ix2 (i 0 : Fin 16384) k) * w (ix2 k (i 1 : Fin 4096)) := fun k => by
    rw [val_main_v1_apply]
    exact congrArg₂ (· * ·) (congrArg (val_main_v0 (F := Ideal) a b d) (idx_ext (M := 16384) (N := 4096) (lidx_main_v2 i k) (ix2 (i 0 : Fin 16384) k) rfl rfl))
      (congrArg w (idx_ext (M := 4096) (N := 4096) (ridx_main_v2 i k) (ix2 k (i 1 : Fin 4096)) rfl rfl))
  rw [Finset.sum_congr rfl fun k _ => hl k, sum_parts]
  unfold Cert.Kernel5Ideal.OutProj.outProj
  refine congrArg (fun s => x i + s) (congrArg₂ (· + ·) (congrArg₂ (· + ·) (Finset.sum_congr rfl fun k _ => ?_) (Finset.sum_congr rfl fun k _ => ?_)) (Finset.sum_congr rfl fun k _ => ?_))
  · exact congrArg (· * _) (cat_first a b d _ k)
  · exact congrArg (· * _) (cat_second a b d _ k)
  · exact congrArg (· * _) (cat_third a b d _ k)

end Cert.Reference5Ideal.OutProj

end
-- ==== Proof.Final.lean ====
/- The norm after the last layer: the array the kernel leaves, entry by entry. -/
module

public import proofs.«01_k».proof.Proof.Norm
public import proofs.«01_k».proof.Proof.Product
public import proofs.«01_k».proof.Proof.Gen.Kernel6Ideal.Value
public import Idealize.ShloMosaic.Lib.Pipeline.ValueKit.Acc

@[expose] public section

set_option maxRecDepth 16384

noncomputable section

namespace Cert.Kernel6Ideal.Final

open Cert.Kernel6Ideal Cert.Kernel6Ideal.Gen Cert.Kernel6Ideal.Value Cert.Dense Idealize.ShloMosaic Idealize.ShloMosaic.TcCoe Idealize.SL.Sem

/-- Each row over its root mean square, weighted. -/
def normed (x : Vec Ideal S16384x4096 .f32) (g : Vec Ideal S4096 .f32) : Vec Ideal S16384x4096 .f32 := fun i =>
  rms (fun j => x (ix2 (i 0 : Fin 16384) j)) (fun j => g (ix1 j)) (i 1 : Fin 4096)

variable (m : (ℓ : Loc nD τ sig) → Buf (Elt Ideal) ℓ) (c : Dev nD)

def argX : Vec Ideal S16384x4096 .f32 := m ((c : Thread nD τ).loc main_arg0)
def argG : Vec Ideal S4096 .f32 := m ((c : Thread nD τ).loc main_arg1)

/-- The norm's weights, as one row. -/
theorem V_v0 : (V m c main_v0 : S1x4096.Idx → EReal) = shapeCast S1x4096 (argG m c) shapeCasts_S4096_S1x4096 := by
  show StableHlo.after hostOps0 _ (Proc.devRef .tc main_v0) = _
  after_results
  rfl

theorem row_apply (g : S4096.Idx → EReal) (k : Fin 4096) : shapeCast S1x4096 g shapeCasts_S4096_S1x4096 (ix2 (0 : Fin 1) k) = g (ix1 k) := by
  pointwise

theorem index_facts : ∀ t : Fin cfg0.N,
    win0_0.index t = ![t.val, 0] ∧ win0_1.index t = ![0, 0] ∧ win0_2.index t = ![t.val, 0] ∧ win0_2.flush t = true := by
  decide +kernel

/-- What a point leaves in the output's block. -/
theorem out_eq (x0 : Vec Ideal S512x4096 .f32) (x1 : Vec Ideal S1x4096 .f32) : out0_2 x0 x1 = k0_pay1 x0 x1 := by
  unfold out0_2
  frame_out

/-- The payload at an entry. -/
theorem pay_apply (v : Vec Ideal S512x4096 .f32) (w : Vec Ideal S1x4096 .f32) (r : Fin 512) (k : Fin 4096) :
    k0_pay1 v w (ix2 r k) = rms (fun j => v (ix2 r j)) (fun j => w (ix2 (0 : Fin 1) j)) k := by
  unfold rms
  pointwise [k0_pay1]

theorem block (t : Fin cfg0.N) (u : Fin 512) (d : Fin 4096) :
    k0_pay1 (iblk m c 0 t) (iblk m c 1 t) (ix2 u d) = normed (argX m c) (argG m c) (((cfg0.win 2).blk t).view.emb (ix2 u d)) := by
  obtain ⟨e0, e1, e2, -⟩ := index_facts t
  have h20 : (((cfg0.win 2).blk t).view.emb (ix2 u d) 0).val = win0_2.index t (0 : Fin 2) * 512 + 1 * u.val := rfl
  have h21 : (((cfg0.win 2).blk t).view.emb (ix2 u d) 1).val = win0_2.index t (1 : Fin 2) * 4096 + 1 * d.val := rfl
  rw [e2] at h20 h21
  have hd : (((cfg0.win 2).blk t).view.emb (ix2 u d) 1 : Fin 4096) = d := Fin.ext (h21.trans (show 0 * 4096 + 1 * d.val = d.val by omega))
  refine (pay_apply _ _ u d).trans ?_
  unfold normed
  rw [hd]
  refine congrArg₂ (fun a b => rms a b d) (funext fun j => ?_) (funext fun j => ?_)
  · show V m c main_arg0 (((cfg0.win 0).blk t).view.emb (ix2 u j)) = _
    rw [V_main_arg0]
    have h0 : (((cfg0.win 0).blk t).view.emb (ix2 u j) 0).val = win0_0.index t (0 : Fin 2) * 512 + 1 * u.val := rfl
    have h1 : (((cfg0.win 0).blk t).view.emb (ix2 u j) 1).val = win0_0.index t (1 : Fin 2) * 4096 + 1 * j.val := rfl
    rw [e0] at h0 h1
    exact congrArg (argX m c) (idx2 _ _ _ (h0.trans h20.symm) (h1.trans (show 0 * 4096 + 1 * j.val = j.val by omega)))
  · show V m c main_v0 (((cfg0.win 1).blk t).view.emb (ix2 (0 : Fin 1) j)) = _
    rw [V_v0]
    have h0 : (((cfg0.win 1).blk t).view.emb (ix2 (0 : Fin 1) j) 0).val = win0_1.index t (0 : Fin 2) * 1 + 1 * 0 := rfl
    have h1 : (((cfg0.win 1).blk t).view.emb (ix2 (0 : Fin 1) j) 1).val = win0_1.index t (1 : Fin 2) * 4096 + 1 * j.val := rfl
    rw [e1] at h0 h1
    exact (congrArg (shapeCast S1x4096 (argG m c) shapeCasts_S4096_S1x4096) (idx2 _ (0 : Fin 1) j (h0.trans rfl) (h1.trans (show 0 * 4096 + 1 * j.val = j.val by omega)))).trans (row_apply _ j)

/-- What a point writes back is its block of the result. -/
theorem flushed_eq (t : Fin cfg0.N) : (dats m 0 c).flushed 2 t = ((cfg0.win 2).blk t).view.read (Elt Ideal) (normed (argX m c) (argG m c)) := by
  rw [flushed2, out_eq]
  funext y
  obtain ⟨u, d, rfl⟩ : ∃ (u : Fin 512) (d : Fin 4096), y = ix2 u d := ⟨y 0, y 1, idx2 y _ _ rfl rfl⟩
  exact block m c t u d

theorem mem_blk (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

theorem covered (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  let t : Fin cfg0.N := ⟨(i 0).val / 512, lt_of_lt_of_eq (by omega) N_0.symm⟩
  have ht : t.val = (i 0).val / 512 := rfl
  obtain ⟨-, -, e2, hf⟩ := index_facts t
  refine ⟨t, hf, ?_⟩
  rw [mem_blk, e2]
  intro a
  match a with
  | ⟨0, _⟩ => show t.val * 512 ≤ (i 0).val ∧ (i 0).val < t.val * 512 + 512; omega
  | ⟨1, _⟩ => show 0 * 4096 ≤ (i 1).val ∧ (i 1).val < 0 * 4096 + 4096; omega

/-- The result after the run. -/
theorem final : (dats m 0 c).arrAt 2 cfg0.N = normed (argX m c) (argG m c) :=
  (dats m 0 c).arrAt_eq_of_cover 2 _ (fun t _ => flushed_eq m c t) covered

end Cert.Kernel6Ideal.Final

end
-- ==== Proof.RefFinal.lean ====
/- The reference of the norm after the last layer, entry by entry. -/
module

public import proofs.«01_k».proof.Proof.Final
public import proofs.«01_k».proof.Proof.Gen.Reference6Ideal.Read

@[expose] public section

set_option maxRecDepth 16384

noncomputable section

namespace Cert.Reference6Ideal.Final

open Cert.Reference6Ideal Cert.Reference6Ideal.Gen Cert.Reference6Ideal.Read Cert.Dense Idealize.ShloMosaic

/-- The normalised rows. -/
theorem norm_eq (x : FVec Ideal S16384x4096 .f32) (g : FVec Ideal S4096 .f32) (r : Fin 16384) (k : Fin 4096) :
    val_main_v12 (F := Ideal) x g (ix2 r k) = rms (fun j => x (ix2 r j)) (fun j => g (ix1 j)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  unfold rms
  refine congrArg₂ (· * ·) (congrArg (fun s => x (ix2 r k) * Ideal.rsqrt (Ideal.div s (Ideal.ofBits .f32 0x45800000#32) + Ideal.ofBits .f32 0x358637BD#32)) ?_)
    (congrArg g (funext fun a => Fin.ext (by match a with | ⟨0, _⟩ => rfl)))
  refine Eq.trans (congrArg₂ (· + ·) (show val_main_cst (F := Ideal) (Shape.Idx.first h_S_) = 0 from by unfold val_main_cst; exact Ideal.ofBits_zero_f32) (Finset.sum_congr rfl fun j _ => ?_)) (zero_add _)
  rw [val_main_v0_apply]
  exact congrArg (fun q => x q * x q) (idx_ext _ _ rfl rfl)

/-- The reference is the kernel's array. -/
theorem result_eq (x : FVec Ideal S16384x4096 .f32) (g : FVec Ideal S4096 .f32) :
    val_main_v12 (F := Ideal) x g = Cert.Kernel6Ideal.Final.normed x g := by
  funext i
  obtain ⟨r, k, rfl⟩ : ∃ (r : Fin 16384) (k : Fin 4096), i = ix2 r k := ⟨i 0, i 1, idx2 i _ _ rfl rfl⟩
  exact norm_eq x g r k

end Cert.Reference6Ideal.Final

end
-- ==== Proof.Joined.lean ====
/- The down product and the norm after it, in one program: the whole run, with the contents of the result stated. -/
module

public import proofs.«01_k».proof.Proof.Gen.Kernel7Ideal.Frame

@[expose] public section

set_option maxRecDepth 16384

noncomputable section

namespace Cert.Kernel7Ideal.Joined

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution ends, the result holds what the second call writes back, and the arguments are as launched. -/
theorem run : θ_run defs (onTc (τ := τ) (main (F := F))) ⟨m, fun _ => 0, ρ⟩ (fun r => ∀ c : Dev nD,
      r.2.mem ((c.tc : Thread nD τ).loc main_v3) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v3 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Kernel7Ideal.Joined

end
-- ==== Proof.First.lean ====
/- The down product and the norm after it, in one program: what the first call leaves for the second. -/
module

public import proofs.«01_k».proof.Proof.Down
public import proofs.«01_k».proof.Proof.Gen.Kernel7Ideal.Frame
public import Idealize.ShloMosaic.Lib.Pipeline.ValueKit.Acc

@[expose] public section

set_option maxRecDepth 16384

noncomputable section

namespace Cert.Kernel7Ideal.First

open Cert.Kernel7Ideal Cert.Kernel7Ideal.Gen Cert.Dense Idealize.ShloMosaic Idealize.ShloMosaic.TcCoe Idealize.SL.Sem

open Cert.Kernel3Ideal.Down (down)

variable (m : (ℓ : Loc nD τ sig) → Buf (Elt Ideal) ℓ) (ρ : Dev nD → PrngReg) (c : Dev nD)

/-- What a point leaves in the output's block. -/
theorem out_eq (t : Fin cfg0.N) : outsAt0 (V1 m ρ) c t = k0_pay2 (k0_pay1 (iblk0 (V1 m ρ) c 0 t)) (iblk0 (V1 m ρ) c 1 t) (iblk0 (V1 m ρ) c 2 t) := by
  unfold outsAt0 out0_A_3 kernelRun0_A
  frame_out

def argX : Vec Ideal S16384x4096 .f32 := m ((c : Thread nD τ).loc main_arg0)
def argA : Vec Ideal S16384x11008 .bf16 := m ((c : Thread nD τ).loc main_arg1)
def argW : Vec Ideal S11008x4096 .f32 := m ((c : Thread nD τ).loc main_arg2)

/-- The weights as the call takes them are the weights: the cast changes no value. -/
theorem entry_v0 : (V1 m ρ c main_v0 : S11008x4096.Idx → EReal) = argW m c := by
  show StableHlo.after hostOps0 _ (Proc.devRef .tc main_v0) = _
  after_results
  rfl

theorem entry_arg0 : V1 m ρ c main_arg0 = m ((c : Thread nD τ).loc main_arg0) := W1_args m ρ c main_arg0 (by decide)
theorem entry_arg1 : V1 m ρ c main_arg1 = m ((c : Thread nD τ).loc main_arg1) := W1_args m ρ c main_arg1 (by decide)

theorem index_facts : ∀ t : Fin cfg0.N,
    win0_0.index t = ![t.val / 8, t.val % 8] ∧ win0_1.index t = ![t.val / 8, 0] ∧ win0_2.index t = ![0, t.val % 8] ∧ win0_3.index t = ![t.val / 8, t.val % 8]
    ∧ win0_3.flush t = true := by
  decide +kernel

/-- The payload at an entry. -/
theorem pay_apply (x : Vec Ideal S512x512 .f32) (a : Vec Ideal S512x11008 .bf16) (w : Vec Ideal S11008x512 .bf16) (u d : Fin 512) :
    k0_pay2 (k0_pay1 x) a w (ix2 u d) = x (ix2 u d) + ∑ k : Fin 11008, a (ix2 u k) * w (ix2 k d) := by
  have h := product_apply (M := 512) (K := 11008) (N := 512) (e := .bf16) dot_S512x11008_S11008x512_S512x512_1_0_0_1_n_n rfl none a w u d
  rw [← h]
  unfold k0_pay2 k0_pay1
  simp only [shapeCast_self]
  rfl

theorem block (t : Fin cfg0.N) (u d : Fin 512) :
    k0_pay2 (k0_pay1 (iblk0 (V1 m ρ) c 0 t)) (iblk0 (V1 m ρ) c 1 t) (iblk0 (V1 m ρ) c 2 t) (ix2 u d) = down (argX m c) (argA m c) (argW m c) (((cfg0.win 3).blk t).view.emb (ix2 u d)) := by
  obtain ⟨e0, e1, e2, e3, -⟩ := index_facts t
  have h30 : (((cfg0.win 3).blk t).view.emb (ix2 u d) 0).val = win0_3.index t (0 : Fin 2) * 512 + 1 * u.val := rfl
  have h31 : (((cfg0.win 3).blk t).view.emb (ix2 u d) 1).val = win0_3.index t (1 : Fin 2) * 512 + 1 * d.val := rfl
  rw [e3] at h30 h31
  refine (pay_apply _ _ _ u d).trans ?_
  unfold down
  refine congrArg₂ (· + ·) ?_ (Finset.sum_congr rfl fun k _ => congrArg₂ (· * ·) ?_ ?_)
  · show V1 m ρ c main_arg0 (((cfg0.win 0).blk t).view.emb (ix2 u d)) = _
    rw [entry_arg0]
    refine congrArg (argX m c) (funext fun a => Fin.ext ?_)
    have h0 : (((cfg0.win 0).blk t).view.emb (ix2 u d) 0).val = win0_0.index t (0 : Fin 2) * 512 + 1 * u.val := rfl
    have h1 : (((cfg0.win 0).blk t).view.emb (ix2 u d) 1).val = win0_0.index t (1 : Fin 2) * 512 + 1 * d.val := rfl
    rw [e0] at h0 h1
    match a with
    | ⟨0, _⟩ => exact h0.trans h30.symm
    | ⟨1, _⟩ => exact h1.trans h31.symm
  · show V1 m ρ c main_arg1 (((cfg0.win 1).blk t).view.emb (ix2 u k)) = _
    rw [entry_arg1]
    have h0 : (((cfg0.win 1).blk t).view.emb (ix2 u k) 0).val = win0_1.index t (0 : Fin 2) * 512 + 1 * u.val := rfl
    have h1 : (((cfg0.win 1).blk t).view.emb (ix2 u k) 1).val = win0_1.index t (1 : Fin 2) * 11008 + 1 * k.val := rfl
    rw [e1] at h0 h1
    exact congrArg (argA m c) (idx2 _ _ _ (h0.trans h30.symm) (h1.trans (show 0 * 11008 + 1 * k.val = k.val by omega)))
  · show V1 m ρ c main_v0 (((cfg0.win 2).blk t).view.emb (ix2 k d)) = _
    rw [entry_v0]
    have h0 : (((cfg0.win 2).blk t).view.emb (ix2 k d) 0).val = win0_2.index t (0 : Fin 2) * 11008 + 1 * k.val := rfl
    have h1 : (((cfg0.win 2).blk t).view.emb (ix2 k d) 1).val = win0_2.index t (1 : Fin 2) * 512 + 1 * d.val := rfl
    rw [e2] at h0 h1
    exact congrArg (argW m c) (idx2 _ _ _ (h0.trans (show 0 * 11008 + 1 * k.val = k.val by omega)) (h1.trans h31.symm))

/-- What a point writes back is its block of the result. -/
theorem flushed_eq (t : Fin cfg0.N) : (dat0 (V1 m ρ) c).flushed 3 t = ((cfg0.win 3).blk t).view.read (Elt Ideal) (down (argX m c) (argA m c) (argW m c)) := by
  show (cfg0.win 3).cut (grid0.coords t) ((dat0 (V1 m ρ) c).after 3 t) = _
  rw [after0_3, out_eq]
  funext y
  obtain ⟨u, d, rfl⟩ : ∃ (u d : Fin 512), y = ix2 u d := ⟨y 0, y 1, idx2 y _ _ rfl rfl⟩
  exact block m ρ c t u d

theorem mem_blk (t : Fin cfg0.N) (i : S16384x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

theorem covered (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  let t : Fin cfg0.N := ⟨8 * ((i 0).val / 512) + (i 1).val / 512, lt_of_lt_of_eq (by omega) N_0.symm⟩
  have ht : t.val = 8 * ((i 0).val / 512) + (i 1).val / 512 := rfl
  obtain ⟨-, -, -, e3, hf⟩ := index_facts t
  refine ⟨t, hf, ?_⟩
  rw [mem_blk, e3]
  intro a
  match a with
  | ⟨0, _⟩ => show t.val / 8 * 512 ≤ (i 0).val ∧ (i 0).val < t.val / 8 * 512 + 512; omega
  | ⟨1, _⟩ => show t.val % 8 * 512 ≤ (i 1).val ∧ (i 1).val < t.val % 8 * 512 + 512; omega

/-- The array after the first call. -/
theorem final : (dat0 (V1 m ρ) c).arrAt 3 cfg0.N = down (argX m c) (argA m c) (argW m c) :=
  (dat0 (V1 m ρ) c).arrAt_eq_of_cover 3 _ (fun t _ => flushed_eq m ρ c t) covered

end Cert.Kernel7Ideal.First

end
-- ==== Proof.Second.lean ====
/- The down product and the norm after it, in one program: the array the second call leaves. -/
module

public import proofs.«01_k».proof.Proof.First
public import proofs.«01_k».proof.Proof.Final
public import Idealize.ShloMosaic.Lib.Pipeline.ValueKit.Acc

@[expose] public section

set_option maxRecDepth 16384

noncomputable section

namespace Cert.Kernel7Ideal.Second

open Cert.Kernel7Ideal Cert.Kernel7Ideal.Gen Cert.Dense Idealize.ShloMosaic Idealize.ShloMosaic.TcCoe Idealize.SL.Sem

open Cert.Kernel3Ideal.Down (down)
open Cert.Kernel6Ideal.Final (normed)

variable (m : (ℓ : Loc nD τ sig) → Buf (Elt Ideal) ℓ) (ρ : Dev nD → PrngReg) (c : Dev nD)

/-- What the second call norms: the array that the first leaves. -/
abbrev argX : Vec Ideal S16384x4096 .f32 := down (First.argX m c) (First.argA m c) (First.argW m c)

def argG : Vec Ideal S4096 .f32 := m ((c : Thread nD τ).loc main_arg3)

/-- The norm's weights, as one row. -/
theorem entry_v2 : (V3 m ρ c main_v2 : S1x4096.Idx → EReal) = shapeCast S1x4096 (argG m c) shapeCasts_S4096_S1x4096 := by
  have h : W2 m ρ c (Proc.devRef .tc main_arg3) = m ((c : Thread nD τ).loc main_arg3) := W2_args m ρ c main_arg3 (by decide)
  show StableHlo.after hostOps1 (W2 m ρ c) (Proc.devRef .tc main_v2) = _
  after_results
  rw [h]
  rfl

/-- The residual stream that the first call leaves, at the second call's entry. -/
theorem entry_v1 : V3 m ρ c main_v1 = argX m c :=
  (W3_of m ρ c main_v1 (by decide)).trans ((W2_arr m ρ c 3).trans (First.final m ρ c))

theorem row_apply (g : S4096.Idx → EReal) (k : Fin 4096) : shapeCast S1x4096 g shapeCasts_S4096_S1x4096 (ix2 (0 : Fin 1) k) = g (ix1 k) := by
  pointwise

theorem index_facts : ∀ t : Fin cfg1.N,
    win1_0.index t = ![t.val, 0] ∧ win1_1.index t = ![0, 0] ∧ win1_2.index t = ![t.val, 0] ∧ win1_2.flush t = true := by
  decide +kernel

/-- What a point leaves in the output's block. -/
theorem out_eq (x0 : Vec Ideal S512x4096 .f32) (x1 : Vec Ideal S1x4096 .f32) : out1_2 x0 x1 = k1_pay1 x0 x1 := by
  unfold out1_2
  frame_out

/-- The payload at an entry. -/
theorem pay_apply (v : Vec Ideal S512x4096 .f32) (w : Vec Ideal S1x4096 .f32) (r : Fin 512) (k : Fin 4096) :
    k1_pay1 v w (ix2 r k) = rms (fun j => v (ix2 r j)) (fun j => w (ix2 (0 : Fin 1) j)) k := by
  unfold rms
  pointwise [k1_pay1]

theorem block (t : Fin cfg1.N) (u : Fin 512) (d : Fin 4096) :
    k1_pay1 (iblk1 (V3 m ρ) c 0 t) (iblk1 (V3 m ρ) c 1 t) (ix2 u d) = normed (argX m c) (argG m c) (((cfg1.win 2).blk t).view.emb (ix2 u d)) := by
  obtain ⟨e0, e1, e2, -⟩ := index_facts t
  have h20 : (((cfg1.win 2).blk t).view.emb (ix2 u d) 0).val = win1_2.index t (0 : Fin 2) * 512 + 1 * u.val := rfl
  have h21 : (((cfg1.win 2).blk t).view.emb (ix2 u d) 1).val = win1_2.index t (1 : Fin 2) * 4096 + 1 * d.val := rfl
  rw [e2] at h20 h21
  have hd : (((cfg1.win 2).blk t).view.emb (ix2 u d) 1 : Fin 4096) = d := Fin.ext (h21.trans (show 0 * 4096 + 1 * d.val = d.val by omega))
  refine (pay_apply _ _ u d).trans ?_
  unfold normed
  rw [hd]
  refine congrArg₂ (fun a b => rms a b d) (funext fun j => ?_) (funext fun j => ?_)
  · show V3 m ρ c main_v1 (((cfg1.win 0).blk t).view.emb (ix2 u j)) = _
    rw [entry_v1]
    have h0 : (((cfg1.win 0).blk t).view.emb (ix2 u j) 0).val = win1_0.index t (0 : Fin 2) * 512 + 1 * u.val := rfl
    have h1 : (((cfg1.win 0).blk t).view.emb (ix2 u j) 1).val = win1_0.index t (1 : Fin 2) * 4096 + 1 * j.val := rfl
    rw [e0] at h0 h1
    exact congrArg (argX m c) (idx2 _ _ _ (h0.trans h20.symm) (h1.trans (show 0 * 4096 + 1 * j.val = j.val by omega)))
  · show V3 m ρ c main_v2 (((cfg1.win 1).blk t).view.emb (ix2 (0 : Fin 1) j)) = _
    rw [entry_v2]
    have h0 : (((cfg1.win 1).blk t).view.emb (ix2 (0 : Fin 1) j) 0).val = win1_1.index t (0 : Fin 2) * 1 + 1 * 0 := rfl
    have h1 : (((cfg1.win 1).blk t).view.emb (ix2 (0 : Fin 1) j) 1).val = win1_1.index t (1 : Fin 2) * 4096 + 1 * j.val := rfl
    rw [e1] at h0 h1
    exact (congrArg (shapeCast S1x4096 (argG m c) shapeCasts_S4096_S1x4096) (idx2 _ (0 : Fin 1) j (h0.trans rfl) (h1.trans (show 0 * 4096 + 1 * j.val = j.val by omega)))).trans (row_apply _ j)

/-- What a point writes back is its block of the result. -/
theorem flushed_eq (t : Fin cfg1.N) : (dat1 (V3 m ρ) c).flushed 2 t = ((cfg1.win 2).blk t).view.read (Elt Ideal) (normed (argX m c) (argG m c)) := by
  show (cfg1.win 2).cut (grid1.coords t) ((dat1 (V3 m ρ) c).after 2 t) = _
  rw [after1_2, out_eq]
  funext y
  obtain ⟨u, d, rfl⟩ : ∃ (u : Fin 512) (d : Fin 4096), y = ix2 u d := ⟨y 0, y 1, idx2 y _ _ rfl rfl⟩
  exact block m ρ c t u d

theorem mem_blk (t : Fin cfg1.N) (i : S16384x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v3).slice (win1_2.rect t)).set ↔ _
  rw [View.set_slice_whole, Rect.mem_set_unit]
  exact Iff.rfl

theorem covered (i : S16384x4096.Idx) : ∃ t : Fin cfg1.N, (cfg1.win 2).flush t = true ∧ i ∈ ((cfg1.win 2).blk t).view.set := by
  have hi0 : (i 0).val < 16384 := (i 0).isLt
  have hi1 : (i 1).val < 4096 := (i 1).isLt
  let t : Fin cfg1.N := ⟨(i 0).val / 512, lt_of_lt_of_eq (by omega) N_1.symm⟩
  have ht : t.val = (i 0).val / 512 := rfl
  obtain ⟨-, -, e2, hf⟩ := index_facts t
  refine ⟨t, hf, ?_⟩
  rw [mem_blk, e2]
  intro a
  match a with
  | ⟨0, _⟩ => show t.val * 512 ≤ (i 0).val ∧ (i 0).val < t.val * 512 + 512; omega
  | ⟨1, _⟩ => show 0 * 4096 ≤ (i 1).val ∧ (i 1).val < 0 * 4096 + 4096; omega

/-- The result after the run. -/
theorem final : (dat1 (V3 m ρ) c).arrAt 2 cfg1.N = normed (argX m c) (argG m c) :=
  (dat1 (V3 m ρ) c).arrAt_eq_of_cover 2 _ (fun t _ => flushed_eq m ρ c t) covered

end Cert.Kernel7Ideal.Second

end
-- ==== Proof.RefJoined.lean ====
/- The reference of the down product and the norm after it, entry by entry. -/
module

public import proofs.«01_k».proof.Proof.Second
public import proofs.«01_k».proof.Proof.Gen.Reference7Ideal.Read

@[expose] public section

set_option maxRecDepth 16384

noncomputable section

namespace Cert.Reference7Ideal.Joined

open Cert.Reference7Ideal Cert.Reference7Ideal.Gen Cert.Reference7Ideal.Read Cert.Dense Idealize.ShloMosaic
open Cert.Kernel3Ideal.Down (down)
open Cert.Kernel6Ideal.Final (normed)

/-- The residual plus the product. -/
theorem sum_eq (x : FVec Ideal S16384x4096 .f32) (a : FVec Ideal S16384x11008 .bf16) (w : FVec Ideal S11008x4096 .f32) :
    val_main_v2 (F := Ideal) x a w = down x a w := by
  funext i
  rw [val_main_v2_apply, val_main_v1_apply]
  refine congrArg (fun s => x i + s) (Finset.sum_congr rfl fun k _ => congrArg₂ (· * ·) ?_ ?_)
  · exact congrArg a (idx_ext _ _ rfl rfl)
  · exact congrArg w (idx_ext _ _ rfl rfl)

/-- The normalised rows of that sum. -/
theorem norm_eq (x : FVec Ideal S16384x4096 .f32) (a : FVec Ideal S16384x11008 .bf16) (w : FVec Ideal S11008x4096 .f32) (g : FVec Ideal S4096 .f32)
    (r : Fin 16384) (k : Fin 4096) :
    val_main_v15 (F := Ideal) x a w g (ix2 r k) = rms (fun j => val_main_v2 (F := Ideal) x a w (ix2 r j)) (fun j => g (ix1 j)) k := by
  rw [val_main_v15_apply, val_main_v12_apply, val_main_v11_apply, val_main_v10_apply, val_main_v9_apply, val_main_v7_apply, val_main_v5_apply, val_main_v4_apply,
    val_main_v6_apply, val_main_v8_apply, val_main_v14_apply, val_main_v13_apply]
  unfold rms
  refine congrArg₂ (· * ·) (congrArg (fun s => val_main_v2 (F := Ideal) x a w (ix2 r k) * Ideal.rsqrt (Ideal.div s (Ideal.ofBits .f32 0x45800000#32) + Ideal.ofBits .f32 0x358637BD#32)) ?_)
    (congrArg g (funext fun a => Fin.ext (by match a with | ⟨0, _⟩ => rfl)))
  refine Eq.trans (congrArg₂ (· + ·) (show val_main_cst (F := Ideal) (Shape.Idx.first h_S_) = 0 from by unfold val_main_cst; exact Ideal.ofBits_zero_f32) (Finset.sum_congr rfl fun j _ => ?_)) (zero_add _)
  rw [val_main_v3_apply]
  exact congrArg (fun q => val_main_v2 (F := Ideal) x a w q * val_main_v2 (F := Ideal) x a w q) (idx_ext _ _ rfl rfl)

/-- The reference is the array that the two calls leave. -/
theorem result_eq (x : FVec Ideal S16384x4096 .f32) (a : FVec Ideal S16384x11008 .bf16) (w : FVec Ideal S11008x4096 .f32) (g : FVec Ideal S4096 .f32) :
    val_main_v15 (F := Ideal) x a w g = normed (down x a w) g := by
  funext i
  obtain ⟨r, k, rfl⟩ : ∃ (r : Fin 16384) (k : Fin 4096), i = ix2 r k := ⟨i 0, i 1, idx2 i _ _ rfl rfl⟩
  rw [norm_eq, sum_eq]
  rfl

end Cert.Reference7Ideal.Joined

end
-- ==== Proof.lean ====
/- The claims of the attention, of the input and output projections, of the feed-forward part's two calls and of the last norm. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Out
public import proofs.«01_k».proof.Proof.RefOut
public import Idealize.ShloMosaic.Adequacy
public import Idealize.ShloMosaic.Init
public import proofs.«01_k».proof.Proof.Up
public import proofs.«01_k».proof.Proof.RefUp
public import proofs.«01_k».proof.Proof.RefDown
public import proofs.«01_k».proof.Proof.RefInProj
public import proofs.«01_k».proof.Proof.RefOutProj
public import proofs.«01_k».proof.Proof.RefFinal
public import proofs.«01_k».proof.Proof.Joined
public import proofs.«01_k».proof.Proof.RefJoined
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read

@[expose] public section

noncomputable section

namespace Cert.Proof

open Idealize.ShloMosaic Idealize.SL.Sem Cert.Kernel

/-- The kernel and the reference, both over the extended reals, have the same result: the attention of each row, head and column. -/
theorem same_result : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G7 m c, Cert.KernelIdeal.Value.run m g,
    (θ_run Cert.ReferenceIdeal.defs _ _).mono (fun _ h c => ⟨(h c).1.trans ?_, (h c).2⟩) (Cert.ReferenceIdeal.Value.run (F := Ideal) m' g')⟩
  refine (Cert.ReferenceIdeal.Read.val_main_v340_eq _).trans (funext fun y => ?_)
  refine (Cert.ReferenceIdeal.Attn.val_apply _ _ y).trans ?_
  refine Eq.trans ?_ (Cert.KernelIdeal.Attn.G7_apply m c y).symm
  exact congrArg₂ (fun P B => Cert.KernelIdeal.Attn.attn P B (y 0).val ((y 1).val / 128) ((y 1).val % 128)) (hargs c).1 (hargs c).2

/-- The feed-forward network's up and gate projections: the kernel and the reference have the same result. -/
theorem same_up : algebraic_Kernel2Ideal_Reference2Ideal (hKernel2Ideal := Cert.Kernel2Ideal.Gen.facts) (hReference2Ideal := Cert.Reference2Ideal.Gen.facts) := by
  intro m g m' g' _ hargs
  refine ⟨fun c => (Cert.Kernel2Ideal.Gen.dats m 0 c).arrAt 7 Cert.Kernel2Ideal.cfg0.N, Cert.Kernel2Ideal.Value.run_blocks m g,
    (θ_run Cert.Reference2Ideal.defs _ _).mono (fun _ h c => ⟨(h c).1.trans ?_, (h c).2⟩) (Cert.Reference2Ideal.Value.run (F := Ideal) m' g')⟩
  refine (Cert.Reference2Ideal.Read.val_main_v41_eq _ _).trans ?_
  refine (Cert.Reference2Ideal.Up.result_eq _ _ _ _ _ _ ).trans (Eq.trans ?_ (Cert.Kernel2Ideal.Up.final m c).symm)
  rw [(hargs c).1, (hargs c).2.1, (hargs c).2.2.1, (hargs c).2.2.2.1, (hargs c).2.2.2.2.1, (hargs c).2.2.2.2.2]
  rfl

/-- The down projection: the kernel and the reference have the same result. -/
theorem same_down : algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 3 Cert.Kernel3Ideal.cfg0.N, Cert.Kernel3Ideal.Value.run_blocks m g,
    (θ_run Cert.Reference3Ideal.defs _ _).mono (fun _ h c => ⟨(h c).1.trans ?_, (h c).2⟩) (Cert.Reference3Ideal.Value.run (F := Ideal) m' g')⟩
  refine (Cert.Reference3Ideal.Read.val_main_v2_eq _ _ _ ).trans ?_
  refine (Cert.Reference3Ideal.Down.result_eq _ _ _ ).trans (Eq.trans ?_ (Cert.Kernel3Ideal.Down.final m c).symm)
  rw [(hargs c).1, (hargs c).2.1, (hargs c).2.2]
  rfl

/-- The input projection: the kernel and the reference have the same result. -/
theorem same_inProj : algebraic_Kernel4Ideal_Reference4Ideal (hKernel4Ideal := Cert.Kernel4Ideal.Gen.facts) (hReference4Ideal := Cert.Reference4Ideal.Gen.facts) := by
  intro m g m' g' _ hargs
  refine ⟨fun c => (Cert.Kernel4Ideal.Gen.dats m 0 c).arrAt 3 Cert.Kernel4Ideal.cfg0.N, Cert.Kernel4Ideal.Value.run_blocks m g,
    (θ_run Cert.Reference4Ideal.defs _ _).mono (fun _ h c => ⟨(h c).1.trans ?_, (h c).2⟩) (Cert.Reference4Ideal.Value.run (F := Ideal) m' g')⟩
  refine (Cert.Reference4Ideal.Read.val_main_v14_eq _ _ _ ).trans ?_
  refine (Cert.Reference4Ideal.InProj.result_eq _ _ _ ).trans (Eq.trans ?_ (Cert.Kernel4Ideal.InProj.final m c).symm)
  rw [(hargs c).1, (hargs c).2.1, (hargs c).2.2]
  rfl

/-- The output projection: the kernel and the reference have the same result. -/
theorem same_outProj : algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 7 Cert.Kernel5Ideal.cfg0.N, Cert.Kernel5Ideal.Value.run_blocks m g,
    (θ_run Cert.Reference5Ideal.defs _ _).mono (fun _ h c => ⟨(h c).1.trans ?_, (h c).2⟩) (Cert.Reference5Ideal.Value.run (F := Ideal) m' g')⟩
  refine (Cert.Reference5Ideal.Read.val_main_v3_eq _ _ _ _ _ ).trans ?_
  refine (Cert.Reference5Ideal.OutProj.result_eq _ _ _ _ _ ).trans (Eq.trans ?_ (Cert.Kernel5Ideal.OutProj.final m c).symm)
  rw [(hargs c).1, (hargs c).2.1, (hargs c).2.2.1, (hargs c).2.2.2.1, (hargs c).2.2.2.2]
  rfl

/-- The norm after the last layer: the kernel and the reference have the same result. -/
theorem same_final : algebraic_Kernel6Ideal_Reference6Ideal (hKernel6Ideal := Cert.Kernel6Ideal.Gen.facts) (hReference6Ideal := Cert.Reference6Ideal.Gen.facts) := by
  intro m g m' g' _ hargs
  refine ⟨fun c => (Cert.Kernel6Ideal.Gen.dats m 0 c).arrAt 2 Cert.Kernel6Ideal.cfg0.N, Cert.Kernel6Ideal.Value.run_blocks m g,
    (θ_run Cert.Reference6Ideal.defs _ _).mono (fun _ h c => ⟨(h c).1.trans ?_, (h c).2⟩) (Cert.Reference6Ideal.Value.run (F := Ideal) m' g')⟩
  refine (Cert.Reference6Ideal.Read.val_main_v12_eq _ _).trans ?_
  refine (Cert.Reference6Ideal.Final.result_eq _ _).trans (Eq.trans ?_ (Cert.Kernel6Ideal.Final.final m c).symm)
  rw [(hargs c).1, (hargs c).2]
  rfl

/-- The down product and the norm after it, in one program: the kernel and the reference have the same result. -/
theorem same_joined : algebraic_Kernel7Ideal_Reference7Ideal (hKernel7Ideal := Cert.Kernel7Ideal.Gen.facts) (hReference7Ideal := Cert.Reference7Ideal.Gen.facts) := by
  intro m g m' g' _ hargs
  refine ⟨fun c => (Cert.Kernel7Ideal.Gen.dat1 (Cert.Kernel7Ideal.Gen.V3 m g) c).arrAt 2 Cert.Kernel7Ideal.cfg1.N, Cert.Kernel7Ideal.Joined.run m g,
    (θ_run Cert.Reference7Ideal.defs _ _).mono (fun _ h c => ⟨(h c).1.trans ?_, (h c).2⟩) (Cert.Reference7Ideal.Value.run (F := Ideal) m' g')⟩
  refine (Cert.Reference7Ideal.Read.val_main_v15_eq _ _ _ _).trans ?_
  refine (Cert.Reference7Ideal.Joined.result_eq _ _ _ _).trans (Eq.trans ?_ (Cert.Kernel7Ideal.Second.final m g c).symm)
  rw [(hargs c).1, (hargs c).2.1, (hargs c).2.2.1, (hargs c).2.2.2]
  rfl

/-- The reference runs to the end from any memory, keeps its arguments, and leaves every counter at zero: it declares none. -/
theorem frame_reference : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference2 : quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem frame_reference3 : quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_reference4 : quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_reference5 : quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_reference6 : quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem frame_reference7 : quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    IdealRules.named_const.statement Cert.KernelIdeal.κ "mask" .f32 0xF149F2CA#32 ⊥ rfl, same_result,
    trivial, same_up,
    trivial, same_down,
    trivial, same_inProj,
    trivial, same_outProj,
    trivial, same_final,
    trivial, same_joined⟩

end Cert.Proof

end
